-- ==== Defs.lean ====
def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecRefIdeal (m : (ℓ : Loc Cert.DecRefIdeal.nD Cert.DecRefIdeal.τ Cert.DecRefIdeal.sig) → Buf (Elt Ideal) ℓ) : Prop :=
  True

def Pre_Enc2 (m : (ℓ : Loc Cert.Enc2.nD Cert.Enc2.τ Cert.Enc2.sig) → Buf (Elt Bits) ℓ) : Prop :=
  True

def Pre_Enc2Ideal (m : (ℓ : Loc Cert.Enc2Ideal.nD Cert.Enc2Ideal.τ Cert.Enc2Ideal.sig) → Buf (Elt Ideal) ℓ) : Prop :=
  True

def Pre_Enc2RefIdeal (m : (ℓ : Loc Cert.Enc2RefIdeal.nD Cert.Enc2RefIdeal.τ Cert.Enc2RefIdeal.sig) → Buf (Elt Ideal) ℓ) : Prop :=
  True

def Pre_Tr1 (m : (ℓ : Loc Cert.Tr1.nD Cert.Tr1.τ Cert.Tr1.sig) → Buf (Elt Bits) ℓ) : Prop :=
  True

def Pre_Tr1Ideal (m : (ℓ : Loc Cert.Tr1Ideal.nD Cert.Tr1Ideal.τ Cert.Tr1Ideal.sig) → Buf (Elt Ideal) ℓ) : Prop :=
  True

def Pre_Tr1RefIdeal (m : (ℓ : Loc Cert.Tr1RefIdeal.nD Cert.Tr1RefIdeal.τ Cert.Tr1RefIdeal.sig) → Buf (Elt Ideal) ℓ) : Prop :=
  True

def Pre_Tr0 (m : (ℓ : Loc Cert.Tr0.nD Cert.Tr0.τ Cert.Tr0.sig) → Buf (Elt Bits) ℓ) : Prop :=
  True

def Pre_Tr0Ideal (m : (ℓ : Loc Cert.Tr0Ideal.nD Cert.Tr0Ideal.τ Cert.Tr0Ideal.sig) → Buf (Elt Ideal) ℓ) : Prop :=
  True

def Pre_Tr0RefIdeal (m : (ℓ : Loc Cert.Tr0RefIdeal.nD Cert.Tr0RefIdeal.τ Cert.Tr0RefIdeal.sig) → Buf (Elt Ideal) ℓ) : Prop :=
  True

def Pre_Enc1 (m : (ℓ : Loc Cert.Enc1.nD Cert.Enc1.τ Cert.Enc1.sig) → Buf (Elt Bits) ℓ) : Prop :=
  True

def Pre_Enc1Ideal (m : (ℓ : Loc Cert.Enc1Ideal.nD Cert.Enc1Ideal.τ Cert.Enc1Ideal.sig) → Buf (Elt Ideal) ℓ) : Prop :=
  True

def Pre_Enc1RefIdeal (m : (ℓ : Loc Cert.Enc1RefIdeal.nD Cert.Enc1RefIdeal.τ Cert.Enc1RefIdeal.sig) → Buf (Elt Ideal) ℓ) : Prop :=
  True

def Pre_Enc0 (m : (ℓ : Loc Cert.Enc0.nD Cert.Enc0.τ Cert.Enc0.sig) → Buf (Elt Bits) ℓ) : Prop :=
  True

def Pre_Enc0Ideal (m : (ℓ : Loc Cert.Enc0Ideal.nD Cert.Enc0Ideal.τ Cert.Enc0Ideal.sig) → Buf (Elt Ideal) ℓ) : Prop :=
  True

def Pre_Enc0RefIdeal (m : (ℓ : Loc Cert.Enc0RefIdeal.nD Cert.Enc0RefIdeal.τ Cert.Enc0RefIdeal.sig) → Buf (Elt Ideal) ℓ) : Prop :=
  True

def Pre_Vq (m : (ℓ : Loc Cert.Vq.nD Cert.Vq.τ Cert.Vq.sig) → Buf (Elt Bits) ℓ) : Prop :=
  True

def Pre_VqIdeal (m : (ℓ : Loc Cert.VqIdeal.nD Cert.VqIdeal.τ Cert.VqIdeal.sig) → Buf (Elt Ideal) ℓ) : Prop :=
  True

def Pre_VqIdeal_finite [hPre_finite : Cert.Pre_finite.Facts] (m : (ℓ : Loc Cert.VqIdeal.nD Cert.VqIdeal.τ Cert.VqIdeal.sig) → Buf (Elt Ideal) ℓ) : Prop :=
  ∀ c : Dev Cert.VqIdeal.nD,
    (Cert.Pre_finite.fn (F := Ideal) (m ((c.tc : Thread Cert.VqIdeal.nD Cert.VqIdeal.τ).loc Cert.VqIdeal.main_arg0)) (m ((c.tc : Thread Cert.VqIdeal.nD Cert.VqIdeal.τ).loc Cert.VqIdeal.main_arg1))) = (fun _ => 1#1)

def Pre_VqRefIdeal (m : (ℓ : Loc Cert.VqRefIdeal.nD Cert.VqRefIdeal.τ Cert.VqRefIdeal.sig) → Buf (Elt Ideal) ℓ) : Prop :=
  True

def Pre_VqRefIdeal_finite [hPre_finite : Cert.Pre_finite.Facts] (m : (ℓ : Loc Cert.VqRefIdeal.nD Cert.VqRefIdeal.τ Cert.VqRefIdeal.sig) → Buf (Elt Ideal) ℓ) : Prop :=
  ∀ c : Dev Cert.VqRefIdeal.nD,
    (Cert.Pre_finite.fn (F := Ideal) (m ((c.tc : Thread Cert.VqRefIdeal.nD Cert.VqRefIdeal.τ).loc Cert.VqRefIdeal.main_arg0)) (m ((c.tc : Thread Cert.VqRefIdeal.nD Cert.VqRefIdeal.τ).loc Cert.VqRefIdeal.main_arg1))) = (fun _ => 1#1)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2))
      ∧ r.2.sem = fun _ => 0)

def quiescent_Enc2 [hEnc2 : Cert.Enc2.Facts] : Prop :=
  ∀ (m : (ℓ : Loc Cert.Enc2.nD Cert.Enc2.τ Cert.Enc2.sig) → Buf (Elt Bits) ℓ) (g : Dev Cert.Enc2.nD → PrngReg), Pre_Enc2 m →
    θ_run (Cert.Enc2.defs (F := Bits)) (onTc (τ := Cert.Enc2.τ) (Cert.Enc2.main (F := Bits))) ⟨m, fun _ => 0, g⟩ (fun r => (∀ c : Dev Cert.Enc2.nD,
      r.2.mem ((c.tc : Thread Cert.Enc2.nD Cert.Enc2.τ).loc Cert.Enc2.main_arg0) = m ((c.tc : Thread Cert.Enc2.nD Cert.Enc2.τ).loc Cert.Enc2.main_arg0)
      ∧ r.2.mem ((c.tc : Thread Cert.Enc2.nD Cert.Enc2.τ).loc Cert.Enc2.main_arg1) = m ((c.tc : Thread Cert.Enc2.nD Cert.Enc2.τ).loc Cert.Enc2.main_arg1)
      ∧ r.2.mem ((c.tc : Thread Cert.Enc2.nD Cert.Enc2.τ).loc Cert.Enc2.main_arg2) = m ((c.tc : Thread Cert.Enc2.nD Cert.Enc2.τ).loc Cert.Enc2.main_arg2))
      ∧ r.2.sem = fun _ => 0)

def quiescent_Enc2Ideal [hEnc2Ideal : Cert.Enc2Ideal.Facts] : Prop :=
  ∀ (m : (ℓ : Loc Cert.Enc2Ideal.nD Cert.Enc2Ideal.τ Cert.Enc2Ideal.sig) → Buf (Elt Ideal) ℓ) (g : Dev Cert.Enc2Ideal.nD → PrngReg), Pre_Enc2Ideal m →
    θ_run (Cert.Enc2Ideal.defs (F := Ideal)) (onTc (τ := Cert.Enc2Ideal.τ) (Cert.Enc2Ideal.main (F := Ideal))) ⟨m, fun _ => 0, g⟩ (fun r => (∀ c : Dev Cert.Enc2Ideal.nD,
      r.2.mem ((c.tc : Thread Cert.Enc2Ideal.nD Cert.Enc2Ideal.τ).loc Cert.Enc2Ideal.main_arg0) = m ((c.tc : Thread Cert.Enc2Ideal.nD Cert.Enc2Ideal.τ).loc Cert.Enc2Ideal.main_arg0)
      ∧ r.2.mem ((c.tc : Thread Cert.Enc2Ideal.nD Cert.Enc2Ideal.τ).loc Cert.Enc2Ideal.main_arg1) = m ((c.tc : Thread Cert.Enc2Ideal.nD Cert.Enc2Ideal.τ).loc Cert.Enc2Ideal.main_arg1)
      ∧ r.2.mem ((c.tc : Thread Cert.Enc2Ideal.nD Cert.Enc2Ideal.τ).loc Cert.Enc2Ideal.main_arg2) = m ((c.tc : Thread Cert.Enc2Ideal.nD Cert.Enc2Ideal.τ).loc Cert.Enc2Ideal.main_arg2))
      ∧ r.2.sem = fun _ => 0)

def quiescent_Enc2RefIdeal [hEnc2RefIdeal : Cert.Enc2RefIdeal.Facts] : Prop :=
  ∀ (m : (ℓ : Loc Cert.Enc2RefIdeal.nD Cert.Enc2RefIdeal.τ Cert.Enc2RefIdeal.sig) → Buf (Elt Ideal) ℓ) (g : Dev Cert.Enc2RefIdeal.nD → PrngReg), Pre_Enc2RefIdeal m →
    θ_run (Cert.Enc2RefIdeal.defs (F := Ideal)) (onTc (τ := Cert.Enc2RefIdeal.τ) (Cert.Enc2RefIdeal.main (F := Ideal))) ⟨m, fun _ => 0, g⟩ (fun r => (∀ c : Dev Cert.Enc2RefIdeal.nD,
      r.2.mem ((c.tc : Thread Cert.Enc2RefIdeal.nD Cert.Enc2RefIdeal.τ).loc Cert.Enc2RefIdeal.main_arg0) = m ((c.tc : Thread Cert.Enc2RefIdeal.nD Cert.Enc2RefIdeal.τ).loc Cert.Enc2RefIdeal.main_arg0)
      ∧ r.2.mem ((c.tc : Thread Cert.Enc2RefIdeal.nD Cert.Enc2RefIdeal.τ).loc Cert.Enc2RefIdeal.main_arg1) = m ((c.tc : Thread Cert.Enc2RefIdeal.nD Cert.Enc2RefIdeal.τ).loc Cert.Enc2RefIdeal.main_arg1)
      ∧ r.2.mem ((c.tc : Thread Cert.Enc2RefIdeal.nD Cert.Enc2RefIdeal.τ).loc Cert.Enc2RefIdeal.main_arg2) = m ((c.tc : Thread Cert.Enc2RefIdeal.nD Cert.Enc2RefIdeal.τ).loc Cert.Enc2RefIdeal.main_arg2))
      ∧ r.2.sem = fun _ => 0)

def quiescent_Tr1 [hTr1 : Cert.Tr1.Facts] : Prop :=
  ∀ (m : (ℓ : Loc Cert.Tr1.nD Cert.Tr1.τ Cert.Tr1.sig) → Buf (Elt Bits) ℓ) (g : Dev Cert.Tr1.nD → PrngReg), Pre_Tr1 m →
    θ_run (Cert.Tr1.defs (F := Bits)) (onTc (τ := Cert.Tr1.τ) (Cert.Tr1.main (F := Bits))) ⟨m, fun _ => 0, g⟩ (fun r => (∀ c : Dev Cert.Tr1.nD,
      r.2.mem ((c.tc : Thread Cert.Tr1.nD Cert.Tr1.τ).loc Cert.Tr1.main_arg0) = m ((c.tc : Thread Cert.Tr1.nD Cert.Tr1.τ).loc Cert.Tr1.main_arg0)
      ∧ r.2.mem ((c.tc : Thread Cert.Tr1.nD Cert.Tr1.τ).loc Cert.Tr1.main_arg1) = m ((c.tc : Thread Cert.Tr1.nD Cert.Tr1.τ).loc Cert.Tr1.main_arg1)
      ∧ r.2.mem ((c.tc : Thread Cert.Tr1.nD Cert.Tr1.τ).loc Cert.Tr1.main_arg2) = m ((c.tc : Thread Cert.Tr1.nD Cert.Tr1.τ).loc Cert.Tr1.main_arg2))
      ∧ r.2.sem = fun _ => 0)

def quiescent_Tr1Ideal [hTr1Ideal : Cert.Tr1Ideal.Facts] : Prop :=
  ∀ (m : (ℓ : Loc Cert.Tr1Ideal.nD Cert.Tr1Ideal.τ Cert.Tr1Ideal.sig) → Buf (Elt Ideal) ℓ) (g : Dev Cert.Tr1Ideal.nD → PrngReg), Pre_Tr1Ideal m →
    θ_run (Cert.Tr1Ideal.defs (F := Ideal)) (onTc (τ := Cert.Tr1Ideal.τ) (Cert.Tr1Ideal.main (F := Ideal))) ⟨m, fun _ => 0, g⟩ (fun r => (∀ c : Dev Cert.Tr1Ideal.nD,
      r.2.mem ((c.tc : Thread Cert.Tr1Ideal.nD Cert.Tr1Ideal.τ).loc Cert.Tr1Ideal.main_arg0) = m ((c.tc : Thread Cert.Tr1Ideal.nD Cert.Tr1Ideal.τ).loc Cert.Tr1Ideal.main_arg0)
      ∧ r.2.mem ((c.tc : Thread Cert.Tr1Ideal.nD Cert.Tr1Ideal.τ).loc Cert.Tr1Ideal.main_arg1) = m ((c.tc : Thread Cert.Tr1Ideal.nD Cert.Tr1Ideal.τ).loc Cert.Tr1Ideal.main_arg1)
      ∧ r.2.mem ((c.tc : Thread Cert.Tr1Ideal.nD Cert.Tr1Ideal.τ).loc Cert.Tr1Ideal.main_arg2) = m ((c.tc : Thread Cert.Tr1Ideal.nD Cert.Tr1Ideal.τ).loc Cert.Tr1Ideal.main_arg2))
      ∧ r.2.sem = fun _ => 0)

def quiescent_Tr1RefIdeal [hTr1RefIdeal : Cert.Tr1RefIdeal.Facts] : Prop :=
  ∀ (m : (ℓ : Loc Cert.Tr1RefIdeal.nD Cert.Tr1RefIdeal.τ Cert.Tr1RefIdeal.sig) → Buf (Elt Ideal) ℓ) (g : Dev Cert.Tr1RefIdeal.nD → PrngReg), Pre_Tr1RefIdeal m →
    θ_run (Cert.Tr1RefIdeal.defs (F := Ideal)) (onTc (τ := Cert.Tr1RefIdeal.τ) (Cert.Tr1RefIdeal.main (F := Ideal))) ⟨m, fun _ => 0, g⟩ (fun r => (∀ c : Dev Cert.Tr1RefIdeal.nD,
      r.2.mem ((c.tc : Thread Cert.Tr1RefIdeal.nD Cert.Tr1RefIdeal.τ).loc Cert.Tr1RefIdeal.main_arg0) = m ((c.tc : Thread Cert.Tr1RefIdeal.nD Cert.Tr1RefIdeal.τ).loc Cert.Tr1RefIdeal.main_arg0)
      ∧ r.2.mem ((c.tc : Thread Cert.Tr1RefIdeal.nD Cert.Tr1RefIdeal.τ).loc Cert.Tr1RefIdeal.main_arg1) = m ((c.tc : Thread Cert.Tr1RefIdeal.nD Cert.Tr1RefIdeal.τ).loc Cert.Tr1RefIdeal.main_arg1)
      ∧ r.2.mem ((c.tc : Thread Cert.Tr1RefIdeal.nD Cert.Tr1RefIdeal.τ).loc Cert.Tr1RefIdeal.main_arg2) = m ((c.tc : Thread Cert.Tr1RefIdeal.nD Cert.Tr1RefIdeal.τ).loc Cert.Tr1RefIdeal.main_arg2))
      ∧ r.2.sem = fun _ => 0)

def quiescent_Tr0 [hTr0 : Cert.Tr0.Facts] : Prop :=
  ∀ (m : (ℓ : Loc Cert.Tr0.nD Cert.Tr0.τ Cert.Tr0.sig) → Buf (Elt Bits) ℓ) (g : Dev Cert.Tr0.nD → PrngReg), Pre_Tr0 m →
    θ_run (Cert.Tr0.defs (F := Bits)) (onTc (τ := Cert.Tr0.τ) (Cert.Tr0.main (F := Bits))) ⟨m, fun _ => 0, g⟩ (fun r => (∀ c : Dev Cert.Tr0.nD,
      r.2.mem ((c.tc : Thread Cert.Tr0.nD Cert.Tr0.τ).loc Cert.Tr0.main_arg0) = m ((c.tc : Thread Cert.Tr0.nD Cert.Tr0.τ).loc Cert.Tr0.main_arg0)
      ∧ r.2.mem ((c.tc : Thread Cert.Tr0.nD Cert.Tr0.τ).loc Cert.Tr0.main_arg1) = m ((c.tc : Thread Cert.Tr0.nD Cert.Tr0.τ).loc Cert.Tr0.main_arg1)
      ∧ r.2.mem ((c.tc : Thread Cert.Tr0.nD Cert.Tr0.τ).loc Cert.Tr0.main_arg2) = m ((c.tc : Thread Cert.Tr0.nD Cert.Tr0.τ).loc Cert.Tr0.main_arg2))
      ∧ r.2.sem = fun _ => 0)

def quiescent_Tr0Ideal [hTr0Ideal : Cert.Tr0Ideal.Facts] : Prop :=
  ∀ (m : (ℓ : Loc Cert.Tr0Ideal.nD Cert.Tr0Ideal.τ Cert.Tr0Ideal.sig) → Buf (Elt Ideal) ℓ) (g : Dev Cert.Tr0Ideal.nD → PrngReg), Pre_Tr0Ideal m →
    θ_run (Cert.Tr0Ideal.defs (F := Ideal)) (onTc (τ := Cert.Tr0Ideal.τ) (Cert.Tr0Ideal.main (F := Ideal))) ⟨m, fun _ => 0, g⟩ (fun r => (∀ c : Dev Cert.Tr0Ideal.nD,
      r.2.mem ((c.tc : Thread Cert.Tr0Ideal.nD Cert.Tr0Ideal.τ).loc Cert.Tr0Ideal.main_arg0) = m ((c.tc : Thread Cert.Tr0Ideal.nD Cert.Tr0Ideal.τ).loc Cert.Tr0Ideal.main_arg0)
      ∧ r.2.mem ((c.tc : Thread Cert.Tr0Ideal.nD Cert.Tr0Ideal.τ).loc Cert.Tr0Ideal.main_arg1) = m ((c.tc : Thread Cert.Tr0Ideal.nD Cert.Tr0Ideal.τ).loc Cert.Tr0Ideal.main_arg1)
      ∧ r.2.mem ((c.tc : Thread Cert.Tr0Ideal.nD Cert.Tr0Ideal.τ).loc Cert.Tr0Ideal.main_arg2) = m ((c.tc : Thread Cert.Tr0Ideal.nD Cert.Tr0Ideal.τ).loc Cert.Tr0Ideal.main_arg2))
      ∧ r.2.sem = fun _ => 0)

def quiescent_Tr0RefIdeal [hTr0RefIdeal : Cert.Tr0RefIdeal.Facts] : Prop :=
  ∀ (m : (ℓ : Loc Cert.Tr0RefIdeal.nD Cert.Tr0RefIdeal.τ Cert.Tr0RefIdeal.sig) → Buf (Elt Ideal) ℓ) (g : Dev Cert.Tr0RefIdeal.nD → PrngReg), Pre_Tr0RefIdeal m →
    θ_run (Cert.Tr0RefIdeal.defs (F := Ideal)) (onTc (τ := Cert.Tr0RefIdeal.τ) (Cert.Tr0RefIdeal.main (F := Ideal))) ⟨m, fun _ => 0, g⟩ (fun r => (∀ c : Dev Cert.Tr0RefIdeal.nD,
      r.2.mem ((c.tc : Thread Cert.Tr0RefIdeal.nD Cert.Tr0RefIdeal.τ).loc Cert.Tr0RefIdeal.main_arg0) = m ((c.tc : Thread Cert.Tr0RefIdeal.nD Cert.Tr0RefIdeal.τ).loc Cert.Tr0RefIdeal.main_arg0)
      ∧ r.2.mem ((c.tc : Thread Cert.Tr0RefIdeal.nD Cert.Tr0RefIdeal.τ).loc Cert.Tr0RefIdeal.main_arg1) = m ((c.tc : Thread Cert.Tr0RefIdeal.nD Cert.Tr0RefIdeal.τ).loc Cert.Tr0RefIdeal.main_arg1)
      ∧ r.2.mem ((c.tc : Thread Cert.Tr0RefIdeal.nD Cert.Tr0RefIdeal.τ).loc Cert.Tr0RefIdeal.main_arg2) = m ((c.tc : Thread Cert.Tr0RefIdeal.nD Cert.Tr0RefIdeal.τ).loc Cert.Tr0RefIdeal.main_arg2))
      ∧ r.2.sem = fun _ => 0)

def quiescent_Enc1 [hEnc1 : Cert.Enc1.Facts] : Prop :=
  ∀ (m : (ℓ : Loc Cert.Enc1.nD Cert.Enc1.τ Cert.Enc1.sig) → Buf (Elt Bits) ℓ) (g : Dev Cert.Enc1.nD → PrngReg), Pre_Enc1 m →
    θ_run (Cert.Enc1.defs (F := Bits)) (onTc (τ := Cert.Enc1.τ) (Cert.Enc1.main (F := Bits))) ⟨m, fun _ => 0, g⟩ (fun r => (∀ c : Dev Cert.Enc1.nD,
      r.2.mem ((c.tc : Thread Cert.Enc1.nD Cert.Enc1.τ).loc Cert.Enc1.main_arg0) = m ((c.tc : Thread Cert.Enc1.nD Cert.Enc1.τ).loc Cert.Enc1.main_arg0)
      ∧ r.2.mem ((c.tc : Thread Cert.Enc1.nD Cert.Enc1.τ).loc Cert.Enc1.main_arg1) = m ((c.tc : Thread Cert.Enc1.nD Cert.Enc1.τ).loc Cert.Enc1.main_arg1)
      ∧ r.2.mem ((c.tc : Thread Cert.Enc1.nD Cert.Enc1.τ).loc Cert.Enc1.main_arg2) = m ((c.tc : Thread Cert.Enc1.nD Cert.Enc1.τ).loc Cert.Enc1.main_arg2))
      ∧ r.2.sem = fun _ => 0)

def quiescent_Enc1Ideal [hEnc1Ideal : Cert.Enc1Ideal.Facts] : Prop :=
  ∀ (m : (ℓ : Loc Cert.Enc1Ideal.nD Cert.Enc1Ideal.τ Cert.Enc1Ideal.sig) → Buf (Elt Ideal) ℓ) (g : Dev Cert.Enc1Ideal.nD → PrngReg), Pre_Enc1Ideal m →
    θ_run (Cert.Enc1Ideal.defs (F := Ideal)) (onTc (τ := Cert.Enc1Ideal.τ) (Cert.Enc1Ideal.main (F := Ideal))) ⟨m, fun _ => 0, g⟩ (fun r => (∀ c : Dev Cert.Enc1Ideal.nD,
      r.2.mem ((c.tc : Thread Cert.Enc1Ideal.nD Cert.Enc1Ideal.τ).loc Cert.Enc1Ideal.main_arg0) = m ((c.tc : Thread Cert.Enc1Ideal.nD Cert.Enc1Ideal.τ).loc Cert.Enc1Ideal.main_arg0)
      ∧ r.2.mem ((c.tc : Thread Cert.Enc1Ideal.nD Cert.Enc1Ideal.τ).loc Cert.Enc1Ideal.main_arg1) = m ((c.tc : Thread Cert.Enc1Ideal.nD Cert.Enc1Ideal.τ).loc Cert.Enc1Ideal.main_arg1)
      ∧ r.2.mem ((c.tc : Thread Cert.Enc1Ideal.nD Cert.Enc1Ideal.τ).loc Cert.Enc1Ideal.main_arg2) = m ((c.tc : Thread Cert.Enc1Ideal.nD Cert.Enc1Ideal.τ).loc Cert.Enc1Ideal.main_arg2))
      ∧ r.2.sem = fun _ => 0)

def quiescent_Enc1RefIdeal [hEnc1RefIdeal : Cert.Enc1RefIdeal.Facts] : Prop :=
  ∀ (m : (ℓ : Loc Cert.Enc1RefIdeal.nD Cert.Enc1RefIdeal.τ Cert.Enc1RefIdeal.sig) → Buf (Elt Ideal) ℓ) (g : Dev Cert.Enc1RefIdeal.nD → PrngReg), Pre_Enc1RefIdeal m →
    θ_run (Cert.Enc1RefIdeal.defs (F := Ideal)) (onTc (τ := Cert.Enc1RefIdeal.τ) (Cert.Enc1RefIdeal.main (F := Ideal))) ⟨m, fun _ => 0, g⟩ (fun r => (∀ c : Dev Cert.Enc1RefIdeal.nD,
      r.2.mem ((c.tc : Thread Cert.Enc1RefIdeal.nD Cert.Enc1RefIdeal.τ).loc Cert.Enc1RefIdeal.main_arg0) = m ((c.tc : Thread Cert.Enc1RefIdeal.nD Cert.Enc1RefIdeal.τ).loc Cert.Enc1RefIdeal.main_arg0)
      ∧ r.2.mem ((c.tc : Thread Cert.Enc1RefIdeal.nD Cert.Enc1RefIdeal.τ).loc Cert.Enc1RefIdeal.main_arg1) = m ((c.tc : Thread Cert.Enc1RefIdeal.nD Cert.Enc1RefIdeal.τ).loc Cert.Enc1RefIdeal.main_arg1)
      ∧ r.2.mem ((c.tc : Thread Cert.Enc1RefIdeal.nD Cert.Enc1RefIdeal.τ).loc Cert.Enc1RefIdeal.main_arg2) = m ((c.tc : Thread Cert.Enc1RefIdeal.nD Cert.Enc1RefIdeal.τ).loc Cert.Enc1RefIdeal.main_arg2))
      ∧ r.2.sem = fun _ => 0)

def quiescent_Enc0 [hEnc0 : Cert.Enc0.Facts] : Prop :=
  ∀ (m : (ℓ : Loc Cert.Enc0.nD Cert.Enc0.τ Cert.Enc0.sig) → Buf (Elt Bits) ℓ) (g : Dev Cert.Enc0.nD → PrngReg), Pre_Enc0 m →
    θ_run (Cert.Enc0.defs (F := Bits)) (onTc (τ := Cert.Enc0.τ) (Cert.Enc0.main (F := Bits))) ⟨m, fun _ => 0, g⟩ (fun r => (∀ c : Dev Cert.Enc0.nD,
      r.2.mem ((c.tc : Thread Cert.Enc0.nD Cert.Enc0.τ).loc Cert.Enc0.main_arg0) = m ((c.tc : Thread Cert.Enc0.nD Cert.Enc0.τ).loc Cert.Enc0.main_arg0)
      ∧ r.2.mem ((c.tc : Thread Cert.Enc0.nD Cert.Enc0.τ).loc Cert.Enc0.main_arg1) = m ((c.tc : Thread Cert.Enc0.nD Cert.Enc0.τ).loc Cert.Enc0.main_arg1)
      ∧ r.2.mem ((c.tc : Thread Cert.Enc0.nD Cert.Enc0.τ).loc Cert.Enc0.main_arg2) = m ((c.tc : Thread Cert.Enc0.nD Cert.Enc0.τ).loc Cert.Enc0.main_arg2))
      ∧ r.2.sem = fun _ => 0)

def quiescent_Enc0Ideal [hEnc0Ideal : Cert.Enc0Ideal.Facts] : Prop :=
  ∀ (m : (ℓ : Loc Cert.Enc0Ideal.nD Cert.Enc0Ideal.τ Cert.Enc0Ideal.sig) → Buf (Elt Ideal) ℓ) (g : Dev Cert.Enc0Ideal.nD → PrngReg), Pre_Enc0Ideal m →
    θ_run (Cert.Enc0Ideal.defs (F := Ideal)) (onTc (τ := Cert.Enc0Ideal.τ) (Cert.Enc0Ideal.main (F := Ideal))) ⟨m, fun _ => 0, g⟩ (fun r => (∀ c : Dev Cert.Enc0Ideal.nD,
      r.2.mem ((c.tc : Thread Cert.Enc0Ideal.nD Cert.Enc0Ideal.τ).loc Cert.Enc0Ideal.main_arg0) = m ((c.tc : Thread Cert.Enc0Ideal.nD Cert.Enc0Ideal.τ).loc Cert.Enc0Ideal.main_arg0)
      ∧ r.2.mem ((c.tc : Thread Cert.Enc0Ideal.nD Cert.Enc0Ideal.τ).loc Cert.Enc0Ideal.main_arg1) = m ((c.tc : Thread Cert.Enc0Ideal.nD Cert.Enc0Ideal.τ).loc Cert.Enc0Ideal.main_arg1)
      ∧ r.2.mem ((c.tc : Thread Cert.Enc0Ideal.nD Cert.Enc0Ideal.τ).loc Cert.Enc0Ideal.main_arg2) = m ((c.tc : Thread Cert.Enc0Ideal.nD Cert.Enc0Ideal.τ).loc Cert.Enc0Ideal.main_arg2))
      ∧ r.2.sem = fun _ => 0)

def quiescent_Enc0RefIdeal [hEnc0RefIdeal : Cert.Enc0RefIdeal.Facts] : Prop :=
  ∀ (m : (ℓ : Loc Cert.Enc0RefIdeal.nD Cert.Enc0RefIdeal.τ Cert.Enc0RefIdeal.sig) → Buf (Elt Ideal) ℓ) (g : Dev Cert.Enc0RefIdeal.nD → PrngReg), Pre_Enc0RefIdeal m →
    θ_run (Cert.Enc0RefIdeal.defs (F := Ideal)) (onTc (τ := Cert.Enc0RefIdeal.τ) (Cert.Enc0RefIdeal.main (F := Ideal))) ⟨m, fun _ => 0, g⟩ (fun r => (∀ c : Dev Cert.Enc0RefIdeal.nD,
      r.2.mem ((c.tc : Thread Cert.Enc0RefIdeal.nD Cert.Enc0RefIdeal.τ).loc Cert.Enc0RefIdeal.main_arg0) = m ((c.tc : Thread Cert.Enc0RefIdeal.nD Cert.Enc0RefIdeal.τ).loc Cert.Enc0RefIdeal.main_arg0)
      ∧ r.2.mem ((c.tc : Thread Cert.Enc0RefIdeal.nD Cert.Enc0RefIdeal.τ).loc Cert.Enc0RefIdeal.main_arg1) = m ((c.tc : Thread Cert.Enc0RefIdeal.nD Cert.Enc0RefIdeal.τ).loc Cert.Enc0RefIdeal.main_arg1)
      ∧ r.2.mem ((c.tc : Thread Cert.Enc0RefIdeal.nD Cert.Enc0RefIdeal.τ).loc Cert.Enc0RefIdeal.main_arg2) = m ((c.tc : Thread Cert.Enc0RefIdeal.nD Cert.Enc0RefIdeal.τ).loc Cert.Enc0RefIdeal.main_arg2))
      ∧ r.2.sem = fun _ => 0)

def quiescent_Vq [hVq : Cert.Vq.Facts] : Prop :=
  ∀ (m : (ℓ : Loc Cert.Vq.nD Cert.Vq.τ Cert.Vq.sig) → Buf (Elt Bits) ℓ) (g : Dev Cert.Vq.nD → PrngReg), Pre_Vq m →
    θ_run (Cert.Vq.defs (F := Bits)) (onTc (τ := Cert.Vq.τ) (Cert.Vq.main (F := Bits))) ⟨m, fun _ => 0, g⟩ (fun r => (∀ c : Dev Cert.Vq.nD,
      r.2.mem ((c.tc : Thread Cert.Vq.nD Cert.Vq.τ).loc Cert.Vq.main_arg0) = m ((c.tc : Thread Cert.Vq.nD Cert.Vq.τ).loc Cert.Vq.main_arg0)
      ∧ r.2.mem ((c.tc : Thread Cert.Vq.nD Cert.Vq.τ).loc Cert.Vq.main_arg1) = m ((c.tc : Thread Cert.Vq.nD Cert.Vq.τ).loc Cert.Vq.main_arg1))
      ∧ r.2.sem = fun _ => 0)

def quiescent_VqIdeal [hVqIdeal : Cert.VqIdeal.Facts] : Prop :=
  ∀ (m : (ℓ : Loc Cert.VqIdeal.nD Cert.VqIdeal.τ Cert.VqIdeal.sig) → Buf (Elt Ideal) ℓ) (g : Dev Cert.VqIdeal.nD → PrngReg), Pre_VqIdeal m →
    θ_run (Cert.VqIdeal.defs (F := Ideal)) (onTc (τ := Cert.VqIdeal.τ) (Cert.VqIdeal.main (F := Ideal))) ⟨m, fun _ => 0, g⟩ (fun r => (∀ c : Dev Cert.VqIdeal.nD,
      r.2.mem ((c.tc : Thread Cert.VqIdeal.nD Cert.VqIdeal.τ).loc Cert.VqIdeal.main_arg0) = m ((c.tc : Thread Cert.VqIdeal.nD Cert.VqIdeal.τ).loc Cert.VqIdeal.main_arg0)
      ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ r.2.sem = fun _ => 0)

def quiescent_VqIdeal_pre_finite [hVqIdeal : Cert.VqIdeal.Facts] [hPre_finite : Cert.Pre_finite.Facts] : Prop :=
  ∀ (m : (ℓ : Loc Cert.VqIdeal.nD Cert.VqIdeal.τ Cert.VqIdeal.sig) → Buf (Elt Ideal) ℓ) (g : Dev Cert.VqIdeal.nD → PrngReg), Pre_VqIdeal_finite m →
    θ_run (Cert.VqIdeal.defs (F := Ideal)) (onTc (τ := Cert.VqIdeal.τ) (Cert.VqIdeal.main (F := Ideal))) ⟨m, fun _ => 0, g⟩ (fun r => (∀ c : Dev Cert.VqIdeal.nD,
      r.2.mem ((c.tc : Thread Cert.VqIdeal.nD Cert.VqIdeal.τ).loc Cert.VqIdeal.main_arg0) = m ((c.tc : Thread Cert.VqIdeal.nD Cert.VqIdeal.τ).loc Cert.VqIdeal.main_arg0)
      ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ r.2.sem = fun _ => 0)

def quiescent_VqRefIdeal [hVqRefIdeal : Cert.VqRefIdeal.Facts] : Prop :=
  ∀ (m : (ℓ : Loc Cert.VqRefIdeal.nD Cert.VqRefIdeal.τ Cert.VqRefIdeal.sig) → Buf (Elt Ideal) ℓ) (g : Dev Cert.VqRefIdeal.nD → PrngReg), Pre_VqRefIdeal m →
    θ_run (Cert.VqRefIdeal.defs (F := Ideal)) (onTc (τ := Cert.VqRefIdeal.τ) (Cert.VqRefIdeal.main (F := Ideal))) ⟨m, fun _ => 0, g⟩ (fun r => (∀ c : Dev Cert.VqRefIdeal.nD,
      r.2.mem ((c.tc : Thread Cert.VqRefIdeal.nD Cert.VqRefIdeal.τ).loc Cert.VqRefIdeal.main_arg0) = m ((c.tc : Thread Cert.VqRefIdeal.nD Cert.VqRefIdeal.τ).loc Cert.VqRefIdeal.main_arg0)
      ∧ r.2.mem ((c.tc : Thread Cert.VqRefIdeal.nD Cert.VqRefIdeal.τ).loc Cert.VqRefIdeal.main_arg1) = m ((c.tc : Thread Cert.VqRefIdeal.nD Cert.VqRefIdeal.τ).loc Cert.VqRefIdeal.main_arg1))
      ∧ r.2.sem = fun _ => 0)

def quiescent_VqRefIdeal_pre_finite [hVqRefIdeal : Cert.VqRefIdeal.Facts] [hPre_finite : Cert.Pre_finite.Facts] : Prop :=
  ∀ (m : (ℓ : Loc Cert.VqRefIdeal.nD Cert.VqRefIdeal.τ Cert.VqRefIdeal.sig) → Buf (Elt Ideal) ℓ) (g : Dev Cert.VqRefIdeal.nD → PrngReg), Pre_VqRefIdeal_finite m →
    θ_run (Cert.VqRefIdeal.defs (F := Ideal)) (onTc (τ := Cert.VqRefIdeal.τ) (Cert.VqRefIdeal.main (F := Ideal))) ⟨m, fun _ => 0, g⟩ (fun r => (∀ c : Dev Cert.VqRefIdeal.nD,
      r.2.mem ((c.tc : Thread Cert.VqRefIdeal.nD Cert.VqRefIdeal.τ).loc Cert.VqRefIdeal.main_arg0) = m ((c.tc : Thread Cert.VqRefIdeal.nD Cert.VqRefIdeal.τ).loc Cert.VqRefIdeal.main_arg0)
      ∧ r.2.mem ((c.tc : Thread Cert.VqRefIdeal.nD Cert.VqRefIdeal.τ).loc Cert.VqRefIdeal.main_arg1) = m ((c.tc : Thread Cert.VqRefIdeal.nD Cert.VqRefIdeal.τ).loc Cert.VqRefIdeal.main_arg1))
      ∧ r.2.sem = fun _ => 0)

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v6)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v6) = v0 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v29) = v0 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_Dec_DecIdeal : Prop :=
  True

def algebraic_DecIdeal_DecRefIdeal [hDecIdeal : Cert.DecIdeal.Facts] [hDecRefIdeal : Cert.DecRefIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)) →
    ∃ (v0 : (c : Dev Cert.DecIdeal.nD) → Buf (Elt Ideal) ((c.tc : Thread Cert.DecIdeal.nD Cert.DecIdeal.τ).loc Cert.DecIdeal.main_v4)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v4) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v24) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2))

def preserves_Enc2_Enc2Ideal : Prop :=
  True

def algebraic_Enc2Ideal_Enc2RefIdeal [hEnc2Ideal : Cert.Enc2Ideal.Facts] [hEnc2RefIdeal : Cert.Enc2RefIdeal.Facts] : Prop :=
  ∀ (m : (ℓ : Loc Cert.Enc2Ideal.nD Cert.Enc2Ideal.τ Cert.Enc2Ideal.sig) → Buf (Elt Ideal) ℓ) (g : Dev Cert.Enc2Ideal.nD → PrngReg)
    (m' : (ℓ : Loc Cert.Enc2RefIdeal.nD Cert.Enc2RefIdeal.τ Cert.Enc2RefIdeal.sig) → Buf (Elt Ideal) ℓ) (g' : Dev Cert.Enc2RefIdeal.nD → PrngReg), Pre_Enc2Ideal m →
    (∀ c : Dev Cert.Enc2Ideal.nD,
      m' ((c.tc : Thread Cert.Enc2RefIdeal.nD Cert.Enc2RefIdeal.τ).loc Cert.Enc2RefIdeal.main_arg0) = m ((c.tc : Thread Cert.Enc2Ideal.nD Cert.Enc2Ideal.τ).loc Cert.Enc2Ideal.main_arg0)
      ∧ m' ((c.tc : Thread Cert.Enc2RefIdeal.nD Cert.Enc2RefIdeal.τ).loc Cert.Enc2RefIdeal.main_arg1) = m ((c.tc : Thread Cert.Enc2Ideal.nD Cert.Enc2Ideal.τ).loc Cert.Enc2Ideal.main_arg1)
      ∧ m' ((c.tc : Thread Cert.Enc2RefIdeal.nD Cert.Enc2RefIdeal.τ).loc Cert.Enc2RefIdeal.main_arg2) = m ((c.tc : Thread Cert.Enc2Ideal.nD Cert.Enc2Ideal.τ).loc Cert.Enc2Ideal.main_arg2)) →
    ∃ (v0 : (c : Dev Cert.Enc2Ideal.nD) → Buf (Elt Ideal) ((c.tc : Thread Cert.Enc2Ideal.nD Cert.Enc2Ideal.τ).loc Cert.Enc2Ideal.main_v4)),
      θ_run (Cert.Enc2Ideal.defs (F := Ideal)) (onTc (τ := Cert.Enc2Ideal.τ) (Cert.Enc2Ideal.main (F := Ideal))) ⟨m, fun _ => 0, g⟩ (fun r => ∀ c : Dev Cert.Enc2Ideal.nD,
          r.2.mem ((c.tc : Thread Cert.Enc2Ideal.nD Cert.Enc2Ideal.τ).loc Cert.Enc2Ideal.main_v4) = v0 c
          ∧ r.2.mem ((c.tc : Thread Cert.Enc2Ideal.nD Cert.Enc2Ideal.τ).loc Cert.Enc2Ideal.main_arg0) = m ((c.tc : Thread Cert.Enc2Ideal.nD Cert.Enc2Ideal.τ).loc Cert.Enc2Ideal.main_arg0)
          ∧ r.2.mem ((c.tc : Thread Cert.Enc2Ideal.nD Cert.Enc2Ideal.τ).loc Cert.Enc2Ideal.main_arg1) = m ((c.tc : Thread Cert.Enc2Ideal.nD Cert.Enc2Ideal.τ).loc Cert.Enc2Ideal.main_arg1)
          ∧ r.2.mem ((c.tc : Thread Cert.Enc2Ideal.nD Cert.Enc2Ideal.τ).loc Cert.Enc2Ideal.main_arg2) = m ((c.tc : Thread Cert.Enc2Ideal.nD Cert.Enc2Ideal.τ).loc Cert.Enc2Ideal.main_arg2))
      ∧ θ_run (Cert.Enc2RefIdeal.defs (F := Ideal)) (onTc (τ := Cert.Enc2RefIdeal.τ) (Cert.Enc2RefIdeal.main (F := Ideal))) ⟨m', fun _ => 0, g'⟩ (fun r => ∀ c : Dev Cert.Enc2RefIdeal.nD,
          r.2.mem ((c.tc : Thread Cert.Enc2RefIdeal.nD Cert.Enc2RefIdeal.τ).loc Cert.Enc2RefIdeal.main_v26) = v0 c
          ∧ r.2.mem ((c.tc : Thread Cert.Enc2RefIdeal.nD Cert.Enc2RefIdeal.τ).loc Cert.Enc2RefIdeal.main_arg0) = m' ((c.tc : Thread Cert.Enc2RefIdeal.nD Cert.Enc2RefIdeal.τ).loc Cert.Enc2RefIdeal.main_arg0)
          ∧ r.2.mem ((c.tc : Thread Cert.Enc2RefIdeal.nD Cert.Enc2RefIdeal.τ).loc Cert.Enc2RefIdeal.main_arg1) = m' ((c.tc : Thread Cert.Enc2RefIdeal.nD Cert.Enc2RefIdeal.τ).loc Cert.Enc2RefIdeal.main_arg1)
          ∧ r.2.mem ((c.tc : Thread Cert.Enc2RefIdeal.nD Cert.Enc2RefIdeal.τ).loc Cert.Enc2RefIdeal.main_arg2) = m' ((c.tc : Thread Cert.Enc2RefIdeal.nD Cert.Enc2RefIdeal.τ).loc Cert.Enc2RefIdeal.main_arg2))

def preserves_Tr1_Tr1Ideal : Prop :=
  True

def algebraic_Tr1Ideal_Tr1RefIdeal [hTr1Ideal : Cert.Tr1Ideal.Facts] [hTr1RefIdeal : Cert.Tr1RefIdeal.Facts] : Prop :=
  ∀ (m : (ℓ : Loc Cert.Tr1Ideal.nD Cert.Tr1Ideal.τ Cert.Tr1Ideal.sig) → Buf (Elt Ideal) ℓ) (g : Dev Cert.Tr1Ideal.nD → PrngReg)
    (m' : (ℓ : Loc Cert.Tr1RefIdeal.nD Cert.Tr1RefIdeal.τ Cert.Tr1RefIdeal.sig) → Buf (Elt Ideal) ℓ) (g' : Dev Cert.Tr1RefIdeal.nD → PrngReg), Pre_Tr1Ideal m →
    (∀ c : Dev Cert.Tr1Ideal.nD,
      m' ((c.tc : Thread Cert.Tr1RefIdeal.nD Cert.Tr1RefIdeal.τ).loc Cert.Tr1RefIdeal.main_arg0) = m ((c.tc : Thread Cert.Tr1Ideal.nD Cert.Tr1Ideal.τ).loc Cert.Tr1Ideal.main_arg0)
      ∧ m' ((c.tc : Thread Cert.Tr1RefIdeal.nD Cert.Tr1RefIdeal.τ).loc Cert.Tr1RefIdeal.main_arg1) = m ((c.tc : Thread Cert.Tr1Ideal.nD Cert.Tr1Ideal.τ).loc Cert.Tr1Ideal.main_arg1)
      ∧ m' ((c.tc : Thread Cert.Tr1RefIdeal.nD Cert.Tr1RefIdeal.τ).loc Cert.Tr1RefIdeal.main_arg2) = m ((c.tc : Thread Cert.Tr1Ideal.nD Cert.Tr1Ideal.τ).loc Cert.Tr1Ideal.main_arg2)) →
    ∃ (v0 : (c : Dev Cert.Tr1Ideal.nD) → Buf (Elt Ideal) ((c.tc : Thread Cert.Tr1Ideal.nD Cert.Tr1Ideal.τ).loc Cert.Tr1Ideal.main_v123)),
      θ_run (Cert.Tr1Ideal.defs (F := Ideal)) (onTc (τ := Cert.Tr1Ideal.τ) (Cert.Tr1Ideal.main (F := Ideal))) ⟨m, fun _ => 0, g⟩ (fun r => ∀ c : Dev Cert.Tr1Ideal.nD,
          r.2.mem ((c.tc : Thread Cert.Tr1Ideal.nD Cert.Tr1Ideal.τ).loc Cert.Tr1Ideal.main_v123) = v0 c
          ∧ r.2.mem ((c.tc : Thread Cert.Tr1Ideal.nD Cert.Tr1Ideal.τ).loc Cert.Tr1Ideal.main_arg0) = m ((c.tc : Thread Cert.Tr1Ideal.nD Cert.Tr1Ideal.τ).loc Cert.Tr1Ideal.main_arg0)
          ∧ r.2.mem ((c.tc : Thread Cert.Tr1Ideal.nD Cert.Tr1Ideal.τ).loc Cert.Tr1Ideal.main_arg1) = m ((c.tc : Thread Cert.Tr1Ideal.nD Cert.Tr1Ideal.τ).loc Cert.Tr1Ideal.main_arg1)
          ∧ r.2.mem ((c.tc : Thread Cert.Tr1Ideal.nD Cert.Tr1Ideal.τ).loc Cert.Tr1Ideal.main_arg2) = m ((c.tc : Thread Cert.Tr1Ideal.nD Cert.Tr1Ideal.τ).loc Cert.Tr1Ideal.main_arg2))
      ∧ θ_run (Cert.Tr1RefIdeal.defs (F := Ideal)) (onTc (τ := Cert.Tr1RefIdeal.τ) (Cert.Tr1RefIdeal.main (F := Ideal))) ⟨m', fun _ => 0, g'⟩ (fun r => ∀ c : Dev Cert.Tr1RefIdeal.nD,
          r.2.mem ((c.tc : Thread Cert.Tr1RefIdeal.nD Cert.Tr1RefIdeal.τ).loc Cert.Tr1RefIdeal.main_v28) = v0 c
          ∧ r.2.mem ((c.tc : Thread Cert.Tr1RefIdeal.nD Cert.Tr1RefIdeal.τ).loc Cert.Tr1RefIdeal.main_arg0) = m' ((c.tc : Thread Cert.Tr1RefIdeal.nD Cert.Tr1RefIdeal.τ).loc Cert.Tr1RefIdeal.main_arg0)
          ∧ r.2.mem ((c.tc : Thread Cert.Tr1RefIdeal.nD Cert.Tr1RefIdeal.τ).loc Cert.Tr1RefIdeal.main_arg1) = m' ((c.tc : Thread Cert.Tr1RefIdeal.nD Cert.Tr1RefIdeal.τ).loc Cert.Tr1RefIdeal.main_arg1)
          ∧ r.2.mem ((c.tc : Thread Cert.Tr1RefIdeal.nD Cert.Tr1RefIdeal.τ).loc Cert.Tr1RefIdeal.main_arg2) = m' ((c.tc : Thread Cert.Tr1RefIdeal.nD Cert.Tr1RefIdeal.τ).loc Cert.Tr1RefIdeal.main_arg2))

def preserves_Tr0_Tr0Ideal : Prop :=
  True

def algebraic_Tr0Ideal_Tr0RefIdeal [hTr0Ideal : Cert.Tr0Ideal.Facts] [hTr0RefIdeal : Cert.Tr0RefIdeal.Facts] : Prop :=
  ∀ (m : (ℓ : Loc Cert.Tr0Ideal.nD Cert.Tr0Ideal.τ Cert.Tr0Ideal.sig) → Buf (Elt Ideal) ℓ) (g : Dev Cert.Tr0Ideal.nD → PrngReg)
    (m' : (ℓ : Loc Cert.Tr0RefIdeal.nD Cert.Tr0RefIdeal.τ Cert.Tr0RefIdeal.sig) → Buf (Elt Ideal) ℓ) (g' : Dev Cert.Tr0RefIdeal.nD → PrngReg), Pre_Tr0Ideal m →
    (∀ c : Dev Cert.Tr0Ideal.nD,
      m' ((c.tc : Thread Cert.Tr0RefIdeal.nD Cert.Tr0RefIdeal.τ).loc Cert.Tr0RefIdeal.main_arg0) = m ((c.tc : Thread Cert.Tr0Ideal.nD Cert.Tr0Ideal.τ).loc Cert.Tr0Ideal.main_arg0)
      ∧ m' ((c.tc : Thread Cert.Tr0RefIdeal.nD Cert.Tr0RefIdeal.τ).loc Cert.Tr0RefIdeal.main_arg1) = m ((c.tc : Thread Cert.Tr0Ideal.nD Cert.Tr0Ideal.τ).loc Cert.Tr0Ideal.main_arg1)
      ∧ m' ((c.tc : Thread Cert.Tr0RefIdeal.nD Cert.Tr0RefIdeal.τ).loc Cert.Tr0RefIdeal.main_arg2) = m ((c.tc : Thread Cert.Tr0Ideal.nD Cert.Tr0Ideal.τ).loc Cert.Tr0Ideal.main_arg2)) →
    ∃ (v0 : (c : Dev Cert.Tr0Ideal.nD) → Buf (Elt Ideal) ((c.tc : Thread Cert.Tr0Ideal.nD Cert.Tr0Ideal.τ).loc Cert.Tr0Ideal.main_v70)),
      θ_run (Cert.Tr0Ideal.defs (F := Ideal)) (onTc (τ := Cert.Tr0Ideal.τ) (Cert.Tr0Ideal.main (F := Ideal))) ⟨m, fun _ => 0, g⟩ (fun r => ∀ c : Dev Cert.Tr0Ideal.nD,
          r.2.mem ((c.tc : Thread Cert.Tr0Ideal.nD Cert.Tr0Ideal.τ).loc Cert.Tr0Ideal.main_v70) = v0 c
          ∧ r.2.mem ((c.tc : Thread Cert.Tr0Ideal.nD Cert.Tr0Ideal.τ).loc Cert.Tr0Ideal.main_arg0) = m ((c.tc : Thread Cert.Tr0Ideal.nD Cert.Tr0Ideal.τ).loc Cert.Tr0Ideal.main_arg0)
          ∧ r.2.mem ((c.tc : Thread Cert.Tr0Ideal.nD Cert.Tr0Ideal.τ).loc Cert.Tr0Ideal.main_arg1) = m ((c.tc : Thread Cert.Tr0Ideal.nD Cert.Tr0Ideal.τ).loc Cert.Tr0Ideal.main_arg1)
          ∧ r.2.mem ((c.tc : Thread Cert.Tr0Ideal.nD Cert.Tr0Ideal.τ).loc Cert.Tr0Ideal.main_arg2) = m ((c.tc : Thread Cert.Tr0Ideal.nD Cert.Tr0Ideal.τ).loc Cert.Tr0Ideal.main_arg2))
      ∧ θ_run (Cert.Tr0RefIdeal.defs (F := Ideal)) (onTc (τ := Cert.Tr0RefIdeal.τ) (Cert.Tr0RefIdeal.main (F := Ideal))) ⟨m', fun _ => 0, g'⟩ (fun r => ∀ c : Dev Cert.Tr0RefIdeal.nD,
          r.2.mem ((c.tc : Thread Cert.Tr0RefIdeal.nD Cert.Tr0RefIdeal.τ).loc Cert.Tr0RefIdeal.main_v29) = v0 c
          ∧ r.2.mem ((c.tc : Thread Cert.Tr0RefIdeal.nD Cert.Tr0RefIdeal.τ).loc Cert.Tr0RefIdeal.main_arg0) = m' ((c.tc : Thread Cert.Tr0RefIdeal.nD Cert.Tr0RefIdeal.τ).loc Cert.Tr0RefIdeal.main_arg0)
          ∧ r.2.mem ((c.tc : Thread Cert.Tr0RefIdeal.nD Cert.Tr0RefIdeal.τ).loc Cert.Tr0RefIdeal.main_arg1) = m' ((c.tc : Thread Cert.Tr0RefIdeal.nD Cert.Tr0RefIdeal.τ).loc Cert.Tr0RefIdeal.main_arg1)
          ∧ r.2.mem ((c.tc : Thread Cert.Tr0RefIdeal.nD Cert.Tr0RefIdeal.τ).loc Cert.Tr0RefIdeal.main_arg2) = m' ((c.tc : Thread Cert.Tr0RefIdeal.nD Cert.Tr0RefIdeal.τ).loc Cert.Tr0RefIdeal.main_arg2))

def preserves_Enc1_Enc1Ideal : Prop :=
  True

def algebraic_Enc1Ideal_Enc1RefIdeal [hEnc1Ideal : Cert.Enc1Ideal.Facts] [hEnc1RefIdeal : Cert.Enc1RefIdeal.Facts] : Prop :=
  ∀ (m : (ℓ : Loc Cert.Enc1Ideal.nD Cert.Enc1Ideal.τ Cert.Enc1Ideal.sig) → Buf (Elt Ideal) ℓ) (g : Dev Cert.Enc1Ideal.nD → PrngReg)
    (m' : (ℓ : Loc Cert.Enc1RefIdeal.nD Cert.Enc1RefIdeal.τ Cert.Enc1RefIdeal.sig) → Buf (Elt Ideal) ℓ) (g' : Dev Cert.Enc1RefIdeal.nD → PrngReg), Pre_Enc1Ideal m →
    (∀ c : Dev Cert.Enc1Ideal.nD,
      m' ((c.tc : Thread Cert.Enc1RefIdeal.nD Cert.Enc1RefIdeal.τ).loc Cert.Enc1RefIdeal.main_arg0) = m ((c.tc : Thread Cert.Enc1Ideal.nD Cert.Enc1Ideal.τ).loc Cert.Enc1Ideal.main_arg0)
      ∧ m' ((c.tc : Thread Cert.Enc1RefIdeal.nD Cert.Enc1RefIdeal.τ).loc Cert.Enc1RefIdeal.main_arg1) = m ((c.tc : Thread Cert.Enc1Ideal.nD Cert.Enc1Ideal.τ).loc Cert.Enc1Ideal.main_arg1)
      ∧ m' ((c.tc : Thread Cert.Enc1RefIdeal.nD Cert.Enc1RefIdeal.τ).loc Cert.Enc1RefIdeal.main_arg2) = m ((c.tc : Thread Cert.Enc1Ideal.nD Cert.Enc1Ideal.τ).loc Cert.Enc1Ideal.main_arg2)) →
    ∃ (v0 : (c : Dev Cert.Enc1Ideal.nD) → Buf (Elt Ideal) ((c.tc : Thread Cert.Enc1Ideal.nD Cert.Enc1Ideal.τ).loc Cert.Enc1Ideal.main_v8)),
      θ_run (Cert.Enc1Ideal.defs (F := Ideal)) (onTc (τ := Cert.Enc1Ideal.τ) (Cert.Enc1Ideal.main (F := Ideal))) ⟨m, fun _ => 0, g⟩ (fun r => ∀ c : Dev Cert.Enc1Ideal.nD,
          r.2.mem ((c.tc : Thread Cert.Enc1Ideal.nD Cert.Enc1Ideal.τ).loc Cert.Enc1Ideal.main_v8) = v0 c
          ∧ r.2.mem ((c.tc : Thread Cert.Enc1Ideal.nD Cert.Enc1Ideal.τ).loc Cert.Enc1Ideal.main_arg0) = m ((c.tc : Thread Cert.Enc1Ideal.nD Cert.Enc1Ideal.τ).loc Cert.Enc1Ideal.main_arg0)
          ∧ r.2.mem ((c.tc : Thread Cert.Enc1Ideal.nD Cert.Enc1Ideal.τ).loc Cert.Enc1Ideal.main_arg1) = m ((c.tc : Thread Cert.Enc1Ideal.nD Cert.Enc1Ideal.τ).loc Cert.Enc1Ideal.main_arg1)
          ∧ r.2.mem ((c.tc : Thread Cert.Enc1Ideal.nD Cert.Enc1Ideal.τ).loc Cert.Enc1Ideal.main_arg2) = m ((c.tc : Thread Cert.Enc1Ideal.nD Cert.Enc1Ideal.τ).loc Cert.Enc1Ideal.main_arg2))
      ∧ θ_run (Cert.Enc1RefIdeal.defs (F := Ideal)) (onTc (τ := Cert.Enc1RefIdeal.τ) (Cert.Enc1RefIdeal.main (F := Ideal))) ⟨m', fun _ => 0, g'⟩ (fun r => ∀ c : Dev Cert.Enc1RefIdeal.nD,
          r.2.mem ((c.tc : Thread Cert.Enc1RefIdeal.nD Cert.Enc1RefIdeal.τ).loc Cert.Enc1RefIdeal.main_v26) = v0 c
          ∧ r.2.mem ((c.tc : Thread Cert.Enc1RefIdeal.nD Cert.Enc1RefIdeal.τ).loc Cert.Enc1RefIdeal.main_arg0) = m' ((c.tc : Thread Cert.Enc1RefIdeal.nD Cert.Enc1RefIdeal.τ).loc Cert.Enc1RefIdeal.main_arg0)
          ∧ r.2.mem ((c.tc : Thread Cert.Enc1RefIdeal.nD Cert.Enc1RefIdeal.τ).loc Cert.Enc1RefIdeal.main_arg1) = m' ((c.tc : Thread Cert.Enc1RefIdeal.nD Cert.Enc1RefIdeal.τ).loc Cert.Enc1RefIdeal.main_arg1)
          ∧ r.2.mem ((c.tc : Thread Cert.Enc1RefIdeal.nD Cert.Enc1RefIdeal.τ).loc Cert.Enc1RefIdeal.main_arg2) = m' ((c.tc : Thread Cert.Enc1RefIdeal.nD Cert.Enc1RefIdeal.τ).loc Cert.Enc1RefIdeal.main_arg2))

def preserves_Enc0_Enc0Ideal : Prop :=
  True

def algebraic_Enc0Ideal_Enc0RefIdeal [hEnc0Ideal : Cert.Enc0Ideal.Facts] [hEnc0RefIdeal : Cert.Enc0RefIdeal.Facts] : Prop :=
  ∀ (m : (ℓ : Loc Cert.Enc0Ideal.nD Cert.Enc0Ideal.τ Cert.Enc0Ideal.sig) → Buf (Elt Ideal) ℓ) (g : Dev Cert.Enc0Ideal.nD → PrngReg)
    (m' : (ℓ : Loc Cert.Enc0RefIdeal.nD Cert.Enc0RefIdeal.τ Cert.Enc0RefIdeal.sig) → Buf (Elt Ideal) ℓ) (g' : Dev Cert.Enc0RefIdeal.nD → PrngReg), Pre_Enc0Ideal m →
    (∀ c : Dev Cert.Enc0Ideal.nD,
      m' ((c.tc : Thread Cert.Enc0RefIdeal.nD Cert.Enc0RefIdeal.τ).loc Cert.Enc0RefIdeal.main_arg0) = m ((c.tc : Thread Cert.Enc0Ideal.nD Cert.Enc0Ideal.τ).loc Cert.Enc0Ideal.main_arg0)
      ∧ m' ((c.tc : Thread Cert.Enc0RefIdeal.nD Cert.Enc0RefIdeal.τ).loc Cert.Enc0RefIdeal.main_arg1) = m ((c.tc : Thread Cert.Enc0Ideal.nD Cert.Enc0Ideal.τ).loc Cert.Enc0Ideal.main_arg1)
      ∧ m' ((c.tc : Thread Cert.Enc0RefIdeal.nD Cert.Enc0RefIdeal.τ).loc Cert.Enc0RefIdeal.main_arg2) = m ((c.tc : Thread Cert.Enc0Ideal.nD Cert.Enc0Ideal.τ).loc Cert.Enc0Ideal.main_arg2)) →
    ∃ (v0 : (c : Dev Cert.Enc0Ideal.nD) → Buf (Elt Ideal) ((c.tc : Thread Cert.Enc0Ideal.nD Cert.Enc0Ideal.τ).loc Cert.Enc0Ideal.main_v9)),
      θ_run (Cert.Enc0Ideal.defs (F := Ideal)) (onTc (τ := Cert.Enc0Ideal.τ) (Cert.Enc0Ideal.main (F := Ideal))) ⟨m, fun _ => 0, g⟩ (fun r => ∀ c : Dev Cert.Enc0Ideal.nD,
          r.2.mem ((c.tc : Thread Cert.Enc0Ideal.nD Cert.Enc0Ideal.τ).loc Cert.Enc0Ideal.main_v9) = v0 c
          ∧ r.2.mem ((c.tc : Thread Cert.Enc0Ideal.nD Cert.Enc0Ideal.τ).loc Cert.Enc0Ideal.main_arg0) = m ((c.tc : Thread Cert.Enc0Ideal.nD Cert.Enc0Ideal.τ).loc Cert.Enc0Ideal.main_arg0)
          ∧ r.2.mem ((c.tc : Thread Cert.Enc0Ideal.nD Cert.Enc0Ideal.τ).loc Cert.Enc0Ideal.main_arg1) = m ((c.tc : Thread Cert.Enc0Ideal.nD Cert.Enc0Ideal.τ).loc Cert.Enc0Ideal.main_arg1)
          ∧ r.2.mem ((c.tc : Thread Cert.Enc0Ideal.nD Cert.Enc0Ideal.τ).loc Cert.Enc0Ideal.main_arg2) = m ((c.tc : Thread Cert.Enc0Ideal.nD Cert.Enc0Ideal.τ).loc Cert.Enc0Ideal.main_arg2))
      ∧ θ_run (Cert.Enc0RefIdeal.defs (F := Ideal)) (onTc (τ := Cert.Enc0RefIdeal.τ) (Cert.Enc0RefIdeal.main (F := Ideal))) ⟨m', fun _ => 0, g'⟩ (fun r => ∀ c : Dev Cert.Enc0RefIdeal.nD,
          r.2.mem ((c.tc : Thread Cert.Enc0RefIdeal.nD Cert.Enc0RefIdeal.τ).loc Cert.Enc0RefIdeal.main_v27) = v0 c
          ∧ r.2.mem ((c.tc : Thread Cert.Enc0RefIdeal.nD Cert.Enc0RefIdeal.τ).loc Cert.Enc0RefIdeal.main_arg0) = m' ((c.tc : Thread Cert.Enc0RefIdeal.nD Cert.Enc0RefIdeal.τ).loc Cert.Enc0RefIdeal.main_arg0)
          ∧ r.2.mem ((c.tc : Thread Cert.Enc0RefIdeal.nD Cert.Enc0RefIdeal.τ).loc Cert.Enc0RefIdeal.main_arg1) = m' ((c.tc : Thread Cert.Enc0RefIdeal.nD Cert.Enc0RefIdeal.τ).loc Cert.Enc0RefIdeal.main_arg1)
          ∧ r.2.mem ((c.tc : Thread Cert.Enc0RefIdeal.nD Cert.Enc0RefIdeal.τ).loc Cert.Enc0RefIdeal.main_arg2) = m' ((c.tc : Thread Cert.Enc0RefIdeal.nD Cert.Enc0RefIdeal.τ).loc Cert.Enc0RefIdeal.main_arg2))

def preserves_Vq_VqIdeal : Prop :=
  True

def algebraic_VqIdeal_VqRefIdeal_pre_finite [hVqIdeal : Cert.VqIdeal.Facts] [hVqRefIdeal : Cert.VqRefIdeal.Facts] [hPre_finite : Cert.Pre_finite.Facts] : Prop :=
  ∀ (m : (ℓ : Loc Cert.VqIdeal.nD Cert.VqIdeal.τ Cert.VqIdeal.sig) → Buf (Elt Ideal) ℓ) (g : Dev Cert.VqIdeal.nD → PrngReg)
    (m' : (ℓ : Loc Cert.VqRefIdeal.nD Cert.VqRefIdeal.τ Cert.VqRefIdeal.sig) → Buf (Elt Ideal) ℓ) (g' : Dev Cert.VqRefIdeal.nD → PrngReg), Pre_VqIdeal_finite m →
    (∀ c : Dev Cert.VqIdeal.nD,
      m' ((c.tc : Thread Cert.VqRefIdeal.nD Cert.VqRefIdeal.τ).loc Cert.VqRefIdeal.main_arg0) = m ((c.tc : Thread Cert.VqIdeal.nD Cert.VqIdeal.τ).loc Cert.VqIdeal.main_arg0)
      ∧ m' ((c.tc : Thread Cert.VqRefIdeal.nD Cert.VqRefIdeal.τ).loc Cert.VqRefIdeal.main_arg1) = m ((c.tc : Thread Cert.VqIdeal.nD Cert.VqIdeal.τ).loc Cert.VqIdeal.main_arg1)) →
    ∃ (v0 : (c : Dev Cert.VqIdeal.nD) → Buf (Elt Ideal) ((c.tc : Thread Cert.VqIdeal.nD Cert.VqIdeal.τ).loc Cert.VqIdeal.main_v1_0)) (v1 : (c : Dev Cert.VqIdeal.nD) → Buf (Elt Ideal) ((c.tc : Thread Cert.VqIdeal.nD Cert.VqIdeal.τ).loc Cert.VqIdeal.main_v1_1)),
      θ_run (Cert.VqIdeal.defs (F := Ideal)) (onTc (τ := Cert.VqIdeal.τ) (Cert.VqIdeal.main (F := Ideal))) ⟨m, fun _ => 0, g⟩ (fun r => ∀ c : Dev Cert.VqIdeal.nD,
          r.2.mem ((c.tc : Thread Cert.VqIdeal.nD Cert.VqIdeal.τ).loc Cert.VqIdeal.main_v1_0) = v0 c
          ∧ r.2.mem ((c.tc : Thread Cert.VqIdeal.nD Cert.VqIdeal.τ).loc Cert.VqIdeal.main_v1_1) = v1 c
          ∧ r.2.mem ((c.tc : Thread Cert.VqIdeal.nD Cert.VqIdeal.τ).loc Cert.VqIdeal.main_arg0) = m ((c.tc : Thread Cert.VqIdeal.nD Cert.VqIdeal.τ).loc Cert.VqIdeal.main_arg0)
          ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ θ_run (Cert.VqRefIdeal.defs (F := Ideal)) (onTc (τ := Cert.VqRefIdeal.τ) (Cert.VqRefIdeal.main (F := Ideal))) ⟨m', fun _ => 0, g'⟩ (fun r => ∀ c : Dev Cert.VqRefIdeal.nD,
          r.2.mem ((c.tc : Thread Cert.VqRefIdeal.nD Cert.VqRefIdeal.τ).loc Cert.VqRefIdeal.main_v35) = v0 c
          ∧ r.2.mem ((c.tc : Thread Cert.VqRefIdeal.nD Cert.VqRefIdeal.τ).loc Cert.VqRefIdeal.main_v53) = v1 c
          ∧ r.2.mem ((c.tc : Thread Cert.VqRefIdeal.nD Cert.VqRefIdeal.τ).loc Cert.VqRefIdeal.main_arg0) = m' ((c.tc : Thread Cert.VqRefIdeal.nD Cert.VqRefIdeal.τ).loc Cert.VqRefIdeal.main_arg0)
          ∧ r.2.mem ((c.tc : Thread Cert.VqRefIdeal.nD Cert.VqRefIdeal.τ).loc Cert.VqRefIdeal.main_arg1) = m' ((c.tc : Thread Cert.VqRefIdeal.nD Cert.VqRefIdeal.τ).loc Cert.VqRefIdeal.main_arg1))

def Claim : Prop :=
  ∃ (hRes : Cert.Res.Facts) (hResIdeal : Cert.ResIdeal.Facts) (hResRefIdeal : Cert.ResRefIdeal.Facts) (hDec : Cert.Dec.Facts) (hDecIdeal : Cert.DecIdeal.Facts) (hDecRefIdeal : Cert.DecRefIdeal.Facts) (hEnc2 : Cert.Enc2.Facts) (hEnc2Ideal : Cert.Enc2Ideal.Facts) (hEnc2RefIdeal : Cert.Enc2RefIdeal.Facts) (hTr1 : Cert.Tr1.Facts) (hTr1Ideal : Cert.Tr1Ideal.Facts) (hTr1RefIdeal : Cert.Tr1RefIdeal.Facts) (hTr0 : Cert.Tr0.Facts) (hTr0Ideal : Cert.Tr0Ideal.Facts) (hTr0RefIdeal : Cert.Tr0RefIdeal.Facts) (hEnc1 : Cert.Enc1.Facts) (hEnc1Ideal : Cert.Enc1Ideal.Facts) (hEnc1RefIdeal : Cert.Enc1RefIdeal.Facts) (hEnc0 : Cert.Enc0.Facts) (hEnc0Ideal : Cert.Enc0Ideal.Facts) (hEnc0RefIdeal : Cert.Enc0RefIdeal.Facts) (hVq : Cert.Vq.Facts) (hVqIdeal : Cert.VqIdeal.Facts) (hVqRefIdeal : Cert.VqRefIdeal.Facts) (hPre_finite : Cert.Pre_finite.Facts),
    quiescent_Res (hRes := hRes)
    ∧ quiescent_ResIdeal (hResIdeal := hResIdeal)
    ∧ quiescent_ResRefIdeal (hResRefIdeal := hResRefIdeal)
    ∧ quiescent_Dec (hDec := hDec)
    ∧ quiescent_DecIdeal (hDecIdeal := hDecIdeal)
    ∧ quiescent_DecRefIdeal (hDecRefIdeal := hDecRefIdeal)
    ∧ quiescent_Enc2 (hEnc2 := hEnc2)
    ∧ quiescent_Enc2Ideal (hEnc2Ideal := hEnc2Ideal)
    ∧ quiescent_Enc2RefIdeal (hEnc2RefIdeal := hEnc2RefIdeal)
    ∧ quiescent_Tr1 (hTr1 := hTr1)
    ∧ quiescent_Tr1Ideal (hTr1Ideal := hTr1Ideal)
    ∧ quiescent_Tr1RefIdeal (hTr1RefIdeal := hTr1RefIdeal)
    ∧ quiescent_Tr0 (hTr0 := hTr0)
    ∧ quiescent_Tr0Ideal (hTr0Ideal := hTr0Ideal)
    ∧ quiescent_Tr0RefIdeal (hTr0RefIdeal := hTr0RefIdeal)
    ∧ quiescent_Enc1 (hEnc1 := hEnc1)
    ∧ quiescent_Enc1Ideal (hEnc1Ideal := hEnc1Ideal)
    ∧ quiescent_Enc1RefIdeal (hEnc1RefIdeal := hEnc1RefIdeal)
    ∧ quiescent_Enc0 (hEnc0 := hEnc0)
    ∧ quiescent_Enc0Ideal (hEnc0Ideal := hEnc0Ideal)
    ∧ quiescent_Enc0RefIdeal (hEnc0RefIdeal := hEnc0RefIdeal)
    ∧ quiescent_Vq (hVq := hVq)
    ∧ quiescent_VqIdeal (hVqIdeal := hVqIdeal)
    ∧ quiescent_VqIdeal_pre_finite (hVqIdeal := hVqIdeal) (hPre_finite := hPre_finite)
    ∧ quiescent_VqRefIdeal (hVqRefIdeal := hVqRefIdeal)
    ∧ quiescent_VqRefIdeal_pre_finite (hVqRefIdeal := hVqRefIdeal) (hPre_finite := hPre_finite)
    ∧ preserves_Res_ResIdeal
    ∧ algebraic_ResIdeal_ResRefIdeal (hResIdeal := hResIdeal) (hResRefIdeal := hResRefIdeal)
    ∧ preserves_Dec_DecIdeal
    ∧ algebraic_DecIdeal_DecRefIdeal (hDecIdeal := hDecIdeal) (hDecRefIdeal := hDecRefIdeal)
    ∧ preserves_Enc2_Enc2Ideal
    ∧ algebraic_Enc2Ideal_Enc2RefIdeal (hEnc2Ideal := hEnc2Ideal) (hEnc2RefIdeal := hEnc2RefIdeal)
    ∧ preserves_Tr1_Tr1Ideal
    ∧ algebraic_Tr1Ideal_Tr1RefIdeal (hTr1Ideal := hTr1Ideal) (hTr1RefIdeal := hTr1RefIdeal)
    ∧ preserves_Tr0_Tr0Ideal
    ∧ algebraic_Tr0Ideal_Tr0RefIdeal (hTr0Ideal := hTr0Ideal) (hTr0RefIdeal := hTr0RefIdeal)
    ∧ preserves_Enc1_Enc1Ideal
    ∧ algebraic_Enc1Ideal_Enc1RefIdeal (hEnc1Ideal := hEnc1Ideal) (hEnc1RefIdeal := hEnc1RefIdeal)
    ∧ preserves_Enc0_Enc0Ideal
    ∧ algebraic_Enc0Ideal_Enc0RefIdeal (hEnc0Ideal := hEnc0Ideal) (hEnc0RefIdeal := hEnc0RefIdeal)
    ∧ preserves_Vq_VqIdeal
    ∧ algebraic_VqIdeal_VqRefIdeal_pre_finite (hVqIdeal := hVqIdeal) (hVqRefIdeal := hVqRefIdeal) (hPre_finite := hPre_finite)
-- ==== Pre_finite.lean ====
abbrev S6272x256 : Shape := ⟨2, ![6272, 256]⟩
abbrev S1024x256 : Shape := ⟨2, ![1024, 256]⟩
abbrev S_ : Shape := ⟨0, ![]⟩

class Facts : Prop where
  bcast_S_S6272x256 : S_.BroadcastsInDim S6272x256 (![] : Fin 0 → Fin S6272x256.rank)

variable [Facts]

def fn {F : FTy → Type} [FloatOps F] (main_arg0 : FVec F S6272x256 .f32) (main_arg1 : FVec F S1024x256 .f32) : IVec S6272x256 1 :=
  let main_cst : FVec F S_ .f32 := constant S_ .f32 0xFF800000#32
  let main_v0 : FVec F S6272x256 .f32 := broadcastInDim S6272x256 ![] bcast_S_S6272x256 main_cst
  let main_v1 : IVec S6272x256 1 := cmpf .ogt main_arg0 main_v0
  let main_cst_0 : FVec F S_ .f32 := constant S_ .f32 0x7F800000#32
  let main_v2 : FVec F S6272x256 .f32 := broadcastInDim S6272x256 ![] bcast_S_S6272x256 main_cst_0
  let main_v3 : IVec S6272x256 1 := cmpf .olt main_arg0 main_v2
  let main_v4 : IVec S6272x256 1 := andi main_v1 main_v3
  main_v4
-- ==== Res.lean ====
abbrev S2x56x56x256 : Shape := ⟨4, ![2, 56, 56, 256]⟩
abbrev S256x256x3x3 : Shape := ⟨4, ![256, 256, 3, 3]⟩
abbrev S256x256x1x1 : Shape := ⟨4, ![256, 256, 1, 1]⟩
abbrev S256 : Shape := ⟨1, ![256]⟩
abbrev S3x3x256x256 : Shape := ⟨4, ![3, 3, 256, 256]⟩
abbrev S9x256x256 : Shape := ⟨3, ![9, 256, 256]⟩
abbrev S256x256 : Shape := ⟨2, ![256, 256]⟩
abbrev S_ : Shape := ⟨0, ![]⟩
abbrev S2x58x58x256 : Shape := ⟨4, ![2, 58, 58, 256]⟩
abbrev S1x256 : Shape := ⟨2, ![1, 256]⟩
abbrev S1x58x58x256 : Shape := ⟨4, ![1, 58, 58, 256]⟩
abbrev S1x56x56x256 : Shape := ⟨4, ![1, 56, 56, 256]⟩
abbrev S3136x256 : Shape := ⟨2, ![3136, 256]⟩
abbrev S56x56x256 : Shape := ⟨3, ![56, 56, 256]⟩
abbrev S1x256x256 : Shape := ⟨3, ![1, 256, 256]⟩

abbrev nBuf : Space → Nat
  | .hbm => 13
  | .vmem => 9
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256x256x1x1, .f32⟩
  | .hbm, ⟨3, _⟩ => ⟨S256, .f32⟩
  | .hbm, ⟨4, _⟩ => ⟨S3x3x256x256, .f32⟩
  | .hbm, ⟨5, _⟩ => ⟨S9x256x256, .f32⟩
  | .hbm, ⟨6, _⟩ => ⟨S256x256, .f32⟩
  | .hbm, ⟨7, _⟩ => ⟨S256x256, .f32⟩
  | .hbm, ⟨8, _⟩ => ⟨S_, .i32⟩
  | .hbm, ⟨9, _⟩ => ⟨S_, .f32⟩
  | .hbm, ⟨10, _⟩ => ⟨S2x58x58x256, .f32⟩
  | .hbm, ⟨11, _⟩ => ⟨S1x256, .f32⟩
  | .hbm, ⟨12, _⟩ => ⟨S2x56x56x256, .f32⟩
  | .local _ .vmem, ⟨0, _⟩ => ⟨S1x58x58x256, .f32⟩
  | .local _ .vmem, ⟨1, _⟩ => ⟨S1x58x58x256, .f32⟩
  | .local _ .vmem, ⟨2, _⟩ => ⟨S9x256x256, .f32⟩
  | .local _ .vmem, ⟨3, _⟩ => ⟨S256x256, .f32⟩
  | .local _ .vmem, ⟨4, _⟩ => ⟨S1x256, .f32⟩
  | .local _ .vmem, ⟨5, _⟩ => ⟨S1x56x56x256, .f32⟩
  | .local _ .vmem, ⟨6, _⟩ => ⟨S1x56x56x256, .f32⟩
  | .local _ .vmem, ⟨7, _⟩ => ⟨S1x56x56x256, .f32⟩
  | .local _ .vmem, ⟨8, _⟩ => ⟨S1x56x56x256, .f32⟩
  | _, _ => ⟨S2x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 1], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32_7 : BitVec 32) : Fin 4 → Nat :=
  let c0_8 : Index := 0#32
  let arg1 : BitVec 32 := BitVec.ofNat 32 (i 1).val
  let c56_i32_6 : BitVec 32 := 56#32
  let v13 : BitVec 32 := Scalar.muli arg1 c56_i32_6
  let v14 : BitVec 32 := Scalar.addi v13 c0_i32_7
  let v15 : Index := Scalar.indexCast v14
  let c1 : Index := 1#32
  let c0_9 : Index := 0#32
  ![0, v15.toNat, 1, 0]
def k0_off3 (i : grid0.Coords) (c0_i32_15 : BitVec 32) : Fin 4 → Nat :=
  let c0_16 : Index := 0#32
  let arg1 : BitVec 32 := BitVec.ofNat 32 (i 1).val
  let c56_i32_14 : BitVec 32 := 56#32
  let v25 : BitVec 32 := Scalar.muli arg1 c56_i32_14
  let v26 : BitVec 32 := Scalar.addi v25 c0_i32_15
  let v27 : Index := Scalar.indexCast v26
  let c2 : Index := 2#32
  let c0_17 : Index := 0#32
  ![0, v27.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x58x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x56x56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x56x56x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ResRefIdeal.lean ====
abbrev S2x56x56x256 : Shape := ⟨4, ![2, 56, 56, 256]⟩
abbrev S256x256x3x3 : Shape := ⟨4, ![256, 256, 3, 3]⟩
abbrev S256x256x1x1 : Shape := ⟨4, ![256, 256, 1, 1]⟩
abbrev S256 : Shape := ⟨1, ![256]⟩
abbrev S_ : Shape := ⟨0, ![]⟩
abbrev S2x58x58x256 : Shape := ⟨4, ![2, 58, 58, 256]⟩
abbrev S56 : Shape := ⟨1, ![56]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x3x1 : Shape := ⟨3, ![56, 3, 1]⟩
abbrev S2x58x56x3x256 : Shape := ⟨5, ![2, 58, 56, 3, 256]⟩
abbrev S2x56x3x56x3x256 : Shape := ⟨6, ![2, 56, 3, 56, 3, 256]⟩
abbrev S256x256 : Shape := ⟨2, ![256, 256]⟩
abbrev S1x1x1x256 : Shape := ⟨4, ![1, 1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256x256x1x1, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S2x58x58x256, .f32⟩
  | .hbm, ⟨7, _⟩ => ⟨S56, .i32⟩
  | .hbm, ⟨8, _⟩ => ⟨S56x1, .i32⟩
  | .hbm, ⟨9, _⟩ => ⟨S_, .i32⟩
  | .hbm, ⟨10, _⟩ => ⟨S56x1, .i32⟩
  | .hbm, ⟨11, _⟩ => ⟨S56x1, .i32⟩
  | .hbm, ⟨12, _⟩ => ⟨S3, .i32⟩
  | .hbm, ⟨13, _⟩ => ⟨S1x3, .i32⟩
  | .hbm, ⟨14, _⟩ => ⟨S56x3, .i32⟩
  | .hbm, ⟨15, _⟩ => ⟨S56x3, .i32⟩
  | .hbm, ⟨16, _⟩ => ⟨S56x3, .i32⟩
  | .hbm, ⟨17, _⟩ => ⟨S56x3x1, .i32⟩
  | .hbm, ⟨18, _⟩ => ⟨S2x58x56x3x256, .f32⟩
  | .hbm, ⟨19, _⟩ => ⟨S56, .i32⟩
  | .hbm, ⟨20, _⟩ => ⟨S56x1, .i32⟩
  | .hbm, ⟨21, _⟩ => ⟨S_, .i32⟩
  | .hbm, ⟨22, _⟩ => ⟨S56x1, .i32⟩
  | .hbm, ⟨23, _⟩ => ⟨S56x1, .i32⟩
  | .hbm, ⟨24, _⟩ => ⟨S3, .i32⟩
  | .hbm, ⟨25, _⟩ => ⟨S1x3, .i32⟩
  | .hbm, ⟨26, _⟩ => ⟨S56x3, .i32⟩
  | .hbm, ⟨27, _⟩ => ⟨S56x3, .i32⟩
  | .hbm, ⟨28, _⟩ => ⟨S56x3, .i32⟩
  | .hbm, ⟨29, _⟩ => ⟨S56x3x1, .i32⟩
  | .hbm, ⟨30, _⟩ => ⟨S2x56x3x56x3x256, .f32⟩
  | .hbm, ⟨31, _⟩ => ⟨S2x56x56x256, .f32⟩
  | .hbm, ⟨32, _⟩ => ⟨S_, .f32⟩
  | .hbm, ⟨33, _⟩ => ⟨S2x56x56x256, .f32⟩
  | .hbm, ⟨34, _⟩ => ⟨S2x56x56x256, .f32⟩
  | .hbm, ⟨35, _⟩ => ⟨S256x256, .f32⟩
  | .hbm, ⟨36, _⟩ => ⟨S2x56x56x256, .f32⟩
  | .hbm, ⟨37, _⟩ => ⟨S1x1x1x256, .f32⟩
  | .hbm, ⟨38, _⟩ => ⟨S2x56x56x256, .f32⟩
  | .hbm, ⟨39, _⟩ => ⟨S2x56x56x256, .f32⟩
  | .hbm, ⟨40, _⟩ => ⟨S2x56x56x256, .f32⟩
  | _, _ => ⟨S2x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Dec.lean ====
abbrev S2x56x56x256 : Shape := ⟨4, ![2, 56, 56, 256]⟩
abbrev S256x256x3x3 : Shape := ⟨4, ![256, 256, 3, 3]⟩
abbrev S256 : Shape := ⟨1, ![256]⟩
abbrev S_ : Shape := ⟨0, ![]⟩
abbrev S2x58x58x256 : Shape := ⟨4, ![2, 58, 58, 256]⟩
abbrev S3x3x256x256 : Shape := ⟨4, ![3, 3, 256, 256]⟩
abbrev S9x256x256 : Shape := ⟨3, ![9, 256, 256]⟩
abbrev S1x256 : Shape := ⟨2, ![1, 256]⟩
abbrev S1x58x58x256 : Shape := ⟨4, ![1, 58, 58, 256]⟩
abbrev S1x56x56x256 : Shape := ⟨4, ![1, 56, 56, 256]⟩
abbrev S3136x256 : Shape := ⟨2, ![3136, 256]⟩
abbrev S56x56x256 : Shape := ⟨3, ![56, 56, 256]⟩
abbrev S1x256x256 : Shape := ⟨3, ![1, 256, 256]⟩
abbrev S256x256 : Shape := ⟨2, ![256, 256]⟩

abbrev nBuf : Space → Nat
  | .hbm => 10
  | .vmem => 6
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x58x58x256, .f32⟩
  | .hbm, ⟨6, _⟩ => ⟨S3x3x256x256, .f32⟩
  | .hbm, ⟨7, _⟩ => ⟨S9x256x256, .f32⟩
  | .hbm, ⟨8, _⟩ => ⟨S1x256, .f32⟩
  | .hbm, ⟨9, _⟩ => ⟨S2x56x56x256, .f32⟩
  | .local _ .vmem, ⟨0, _⟩ => ⟨S1x58x58x256, .f32⟩
  | .local _ .vmem, ⟨1, _⟩ => ⟨S1x58x58x256, .f32⟩
  | .local _ .vmem, ⟨2, _⟩ => ⟨S9x256x256, .f32⟩
  | .local _ .vmem, ⟨3, _⟩ => ⟨S1x256, .f32⟩
  | .local _ .vmem, ⟨4, _⟩ => ⟨S1x56x56x256, .f32⟩
  | .local _ .vmem, ⟨5, _⟩ => ⟨S1x56x56x256, .f32⟩
  | _, _ => ⟨S2x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let c0_i32_0 : BitVec 32 := 0#32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let c0_i32_9 : BitVec 32 := 0#32
  let v16 : BitVec 32 := Scalar.addi v15 c0_i32_9
  let v17 : Index := Scalar.indexCast v16
  let c1 : Index := 1#32
  let c0_11 : Index := 0#32
  ![0, v17.toNat, 1, 0]
def k0_off3 (i : grid0.Coords) (c0_i32_17 : BitVec 32) : Fin 4 → Nat :=
  let c0_19 : Index := 0#32
  let arg1 : BitVec 32 := BitVec.ofNat 32 (i 1).val
  let c56_i32_16 : BitVec 32 := 56#32
  let v27 : BitVec 32 := Scalar.muli arg1 c56_i32_16
  let v28 : BitVec 32 := Scalar.addi v27 c0_i32_17
  let c0_i32_18 : BitVec 32 := 0#32
  let v29 : BitVec 32 := Scalar.addi v28 c0_i32_18
  let v30 : Index := Scalar.indexCast v29
  let c2 : Index := 2#32
  let c0_20 : Index := 0#32
  ![0, v30.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x58x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DecRefIdeal.lean ====
abbrev S2x56x56x256 : Shape := ⟨4, ![2, 56, 56, 256]⟩
abbrev S256x256x3x3 : Shape := ⟨4, ![256, 256, 3, 3]⟩
abbrev S256 : Shape := ⟨1, ![256]⟩
abbrev S_ : Shape := ⟨0, ![]⟩
abbrev S2x58x58x256 : Shape := ⟨4, ![2, 58, 58, 256]⟩
abbrev S56 : Shape := ⟨1, ![56]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x3x1 : Shape := ⟨3, ![56, 3, 1]⟩
abbrev S2x58x56x3x256 : Shape := ⟨5, ![2, 58, 56, 3, 256]⟩
abbrev S2x56x3x56x3x256 : Shape := ⟨6, ![2, 56, 3, 56, 3, 256]⟩
abbrev S1x1x1x256 : Shape := ⟨4, ![1, 1, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x58x58x256, .f32⟩
  | .hbm, ⟨6, _⟩ => ⟨S56, .i32⟩
  | .hbm, ⟨7, _⟩ => ⟨S56x1, .i32⟩
  | .hbm, ⟨8, _⟩ => ⟨S_, .i32⟩
  | .hbm, ⟨9, _⟩ => ⟨S56x1, .i32⟩
  | .hbm, ⟨10, _⟩ => ⟨S56x1, .i32⟩
  | .hbm, ⟨11, _⟩ => ⟨S3, .i32⟩
  | .hbm, ⟨12, _⟩ => ⟨S1x3, .i32⟩
  | .hbm, ⟨13, _⟩ => ⟨S56x3, .i32⟩
  | .hbm, ⟨14, _⟩ => ⟨S56x3, .i32⟩
  | .hbm, ⟨15, _⟩ => ⟨S56x3, .i32⟩
  | .hbm, ⟨16, _⟩ => ⟨S56x3x1, .i32⟩
  | .hbm, ⟨17, _⟩ => ⟨S2x58x56x3x256, .f32⟩
  | .hbm, ⟨18, _⟩ => ⟨S56, .i32⟩
  | .hbm, ⟨19, _⟩ => ⟨S56x1, .i32⟩
  | .hbm, ⟨20, _⟩ => ⟨S_, .i32⟩
  | .hbm, ⟨21, _⟩ => ⟨S56x1, .i32⟩
  | .hbm, ⟨22, _⟩ => ⟨S56x1, .i32⟩
  | .hbm, ⟨23, _⟩ => ⟨S3, .i32⟩
  | .hbm, ⟨24, _⟩ => ⟨S1x3, .i32⟩
  | .hbm, ⟨25, _⟩ => ⟨S56x3, .i32⟩
  | .hbm, ⟨26, _⟩ => ⟨S56x3, .i32⟩
  | .hbm, ⟨27, _⟩ => ⟨S56x3, .i32⟩
  | .hbm, ⟨28, _⟩ => ⟨S56x3x1, .i32⟩
  | .hbm, ⟨29, _⟩ => ⟨S2x56x3x56x3x256, .f32⟩
  | .hbm, ⟨30, _⟩ => ⟨S2x56x56x256, .f32⟩
  | .hbm, ⟨31, _⟩ => ⟨S1x1x1x256, .f32⟩
  | .hbm, ⟨32, _⟩ => ⟨S2x56x56x256, .f32⟩
  | .hbm, ⟨33, _⟩ => ⟨S2x56x56x256, .f32⟩
  | _, _ => ⟨S2x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Enc2.lean ====
abbrev S2x56x56x256 : Shape := ⟨4, ![2, 56, 56, 256]⟩
abbrev S256x256x3x3 : Shape := ⟨4, ![256, 256, 3, 3]⟩
abbrev S256 : Shape := ⟨1, ![256]⟩
abbrev S_ : Shape := ⟨0, ![]⟩
abbrev S2x58x58x256 : Shape := ⟨4, ![2, 58, 58, 256]⟩
abbrev S3x3x256x256 : Shape := ⟨4, ![3, 3, 256, 256]⟩
abbrev S9x256x256 : Shape := ⟨3, ![9, 256, 256]⟩
abbrev S1x256 : Shape := ⟨2, ![1, 256]⟩
abbrev S1x58x58x256 : Shape := ⟨4, ![1, 58, 58, 256]⟩
abbrev S1x56x56x256 : Shape := ⟨4, ![1, 56, 56, 256]⟩
abbrev S3136x256 : Shape := ⟨2, ![3136, 256]⟩
abbrev S56x56x256 : Shape := ⟨3, ![56, 56, 256]⟩
abbrev S1x256x256 : Shape := ⟨3, ![1, 256, 256]⟩
abbrev S256x256 : Shape := ⟨2, ![256, 256]⟩

abbrev nBuf : Space → Nat
  | .hbm => 10
  | .vmem => 6
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x58x58x256, .f32⟩
  | .hbm, ⟨6, _⟩ => ⟨S3x3x256x256, .f32⟩
  | .hbm, ⟨7, _⟩ => ⟨S9x256x256, .f32⟩
  | .hbm, ⟨8, _⟩ => ⟨S1x256, .f32⟩
  | .hbm, ⟨9, _⟩ => ⟨S2x56x56x256, .f32⟩
  | .local _ .vmem, ⟨0, _⟩ => ⟨S1x58x58x256, .f32⟩
  | .local _ .vmem, ⟨1, _⟩ => ⟨S1x58x58x256, .f32⟩
  | .local _ .vmem, ⟨2, _⟩ => ⟨S9x256x256, .f32⟩
  | .local _ .vmem, ⟨3, _⟩ => ⟨S1x256, .f32⟩
  | .local _ .vmem, ⟨4, _⟩ => ⟨S1x56x56x256, .f32⟩
  | .local _ .vmem, ⟨5, _⟩ => ⟨S1x56x56x256, .f32⟩
  | _, _ => ⟨S2x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let c0_i32_0 : BitVec 32 := 0#32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let c0_i32_9 : BitVec 32 := 0#32
  let v16 : BitVec 32 := Scalar.addi v15 c0_i32_9
  let v17 : Index := Scalar.indexCast v16
  let c1 : Index := 1#32
  let c0_11 : Index := 0#32
  ![0, v17.toNat, 1, 0]
def k0_off3 (i : grid0.Coords) (c0_i32_17 : BitVec 32) : Fin 4 → Nat :=
  let c0_19 : Index := 0#32
  let arg1 : BitVec 32 := BitVec.ofNat 32 (i 1).val
  let c56_i32_16 : BitVec 32 := 56#32
  let v27 : BitVec 32 := Scalar.muli arg1 c56_i32_16
  let v28 : BitVec 32 := Scalar.addi v27 c0_i32_17
  let c0_i32_18 : BitVec 32 := 0#32
  let v29 : BitVec 32 := Scalar.addi v28 c0_i32_18
  let v30 : Index := Scalar.indexCast v29
  let c2 : Index := 2#32
  let c0_20 : Index := 0#32
  ![0, v30.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x58x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Enc2RefIdeal.lean ====
abbrev S2x56x56x256 : Shape := ⟨4, ![2, 56, 56, 256]⟩
abbrev S256x256x3x3 : Shape := ⟨4, ![256, 256, 3, 3]⟩
abbrev S256 : Shape := ⟨1, ![256]⟩
abbrev S_ : Shape := ⟨0, ![]⟩
abbrev S2x58x58x256 : Shape := ⟨4, ![2, 58, 58, 256]⟩
abbrev S56 : Shape := ⟨1, ![56]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x3x1 : Shape := ⟨3, ![56, 3, 1]⟩
abbrev S2x58x56x3x256 : Shape := ⟨5, ![2, 58, 56, 3, 256]⟩
abbrev S2x56x3x56x3x256 : Shape := ⟨6, ![2, 56, 3, 56, 3, 256]⟩
abbrev S1x1x1x256 : Shape := ⟨4, ![1, 1, 1, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x56x56x256, .f32⟩
  | .hbm, ⟨1, _⟩ => ⟨S256x256x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x58x58x256, .f32⟩
  | .hbm, ⟨6, _⟩ => ⟨S56, .i32⟩
  | .hbm, ⟨7, _⟩ => ⟨S56x1, .i32⟩
  | .hbm, ⟨8, _⟩ => ⟨S_, .i32⟩
  | .hbm, ⟨9, _⟩ => ⟨S56x1, .i32⟩
  | .hbm, ⟨10, _⟩ => ⟨S56x1, .i32⟩
  | .hbm, ⟨11, _⟩ => ⟨S3, .i32⟩
  | .hbm, ⟨12, _⟩ => ⟨S1x3, .i32⟩
  | .hbm, ⟨13, _⟩ => ⟨S56x3, .i32⟩
  | .hbm, ⟨14, _⟩ => ⟨S56x3, .i32⟩
  | .hbm, ⟨15, _⟩ => ⟨S56x3, .i32⟩
  | .hbm, ⟨16, _⟩ => ⟨S56x3x1, .i32⟩
  | .hbm, ⟨17, _⟩ => ⟨S2x58x56x3x256, .f32⟩
  | .hbm, ⟨18, _⟩ => ⟨S56, .i32⟩
  | .hbm, ⟨19, _⟩ => ⟨S56x1, .i32⟩
  | .hbm, ⟨20, _⟩ => ⟨S_, .i32⟩
  | .hbm, ⟨21, _⟩ => ⟨S56x1, .i32⟩
  | .hbm, ⟨22, _⟩ => ⟨S56x1, .i32⟩
  | .hbm, ⟨23, _⟩ => ⟨S3, .i32⟩
  | .hbm, ⟨24, _⟩ => ⟨S1x3, .i32⟩
  | .hbm, ⟨25, _⟩ => ⟨S56x3, .i32⟩
  | .hbm, ⟨26, _⟩ => ⟨S56x3, .i32⟩
  | .hbm, ⟨27, _⟩ => ⟨S56x3, .i32⟩
  | .hbm, ⟨28, _⟩ => ⟨S56x3x1, .i32⟩
  | .hbm, ⟨29, _⟩ => ⟨S2x56x3x56x3x256, .f32⟩
  | .hbm, ⟨30, _⟩ => ⟨S2x56x56x256, .f32⟩
  | .hbm, ⟨31, _⟩ => ⟨S1x1x1x256, .f32⟩
  | .hbm, ⟨32, _⟩ => ⟨S2x56x56x256, .f32⟩
  | .hbm, ⟨33, _⟩ => ⟨S2x56x56x256, .f32⟩
  | .hbm, ⟨34, _⟩ => ⟨S_, .f32⟩
  | .hbm, ⟨35, _⟩ => ⟨S2x56x56x256, .f32⟩
  | .hbm, ⟨36, _⟩ => ⟨S2x56x56x256, .f32⟩
  | _, _ => ⟨S2x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Tr1.lean ====
abbrev S2x112x112x128 : Shape := ⟨4, ![2, 112, 112, 128]⟩
abbrev S128x3x4x4 : Shape := ⟨4, ![128, 3, 4, 4]⟩
abbrev S3 : Shape := ⟨1, ![3]⟩
abbrev S_ : Shape := ⟨0, ![]⟩
abbrev S2x114x114x128 : Shape := ⟨4, ![2, 114, 114, 128]⟩
abbrev S1x3 : Shape := ⟨2, ![1, 3]⟩
abbrev S4x3 : Shape := ⟨2, ![4, 3]⟩
abbrev S12 : Shape := ⟨1, ![12]⟩
abbrev S3x3x128x12 : Shape := ⟨4, ![3, 3, 128, 12]⟩
abbrev S128x3x1x1 : Shape := ⟨4, ![128, 3, 1, 1]⟩
abbrev S128x3 : Shape := ⟨2, ![128, 3]⟩
abbrev S1 : Shape := ⟨1, ![1]⟩
abbrev S9x128x12 : Shape := ⟨3, ![9, 128, 12]⟩
abbrev S1x12 : Shape := ⟨2, ![1, 12]⟩
abbrev S2x112x112x12 : Shape := ⟨4, ![2, 112, 112, 12]⟩
abbrev S1x114x114x128 : Shape := ⟨4, ![1, 114, 114, 128]⟩
abbrev S1x56x112x12 : Shape := ⟨4, ![1, 56, 112, 12]⟩
abbrev S6272x12 : Shape := ⟨2, ![6272, 12]⟩
abbrev S1x56x112x128 : Shape := ⟨4, ![1, 56, 112, 128]⟩
abbrev S56x112x128 : Shape := ⟨3, ![56, 112, 128]⟩
abbrev S6272x128 : Shape := ⟨2, ![6272, 128]⟩
abbrev S1x128x12 : Shape := ⟨3, ![1, 128, 12]⟩
abbrev S128x12 : Shape := ⟨2, ![128, 12]⟩
abbrev S56x112x12 : Shape := ⟨3, ![56, 112, 12]⟩
abbrev S2x112x112x2x2x3 : Shape := ⟨6, ![2, 112, 112, 2, 2, 3]⟩
abbrev S2x112x2x112x2x3 : Shape := ⟨6, ![2, 112, 2, 112, 2, 3]⟩
abbrev S2x224x224x3 : Shape := ⟨4, ![2, 224, 224, 3]⟩
abbrev S2x3x224x224 : Shape := ⟨4, ![2, 3, 224, 224]⟩

abbrev nBuf : Space → Nat
  | .hbm => 178
  | .vmem => 6
  | .smem => 0
  | _ => 0

abbrev hbmTy0_0 (i : Nat) : BufTy := match i % 128 with
  | 0 => ⟨S2x112x112x128, .f32⟩
  | 1 => ⟨S128x3x4x4, .f32⟩
  | 2 => ⟨S3, .f32⟩
  | 3 => ⟨S_, .i32⟩
  | 4 => ⟨S_, .f32⟩
  | 5 => ⟨S2x114x114x128, .f32⟩
  | 6 => ⟨S1x3, .f32⟩
  | 7 => ⟨S4x3, .f32⟩
  | 8 => ⟨S12, .f32⟩
  | 9 => ⟨S_, .f32⟩
  | 10 => ⟨S3x3x128x12, .f32⟩
  | 11 => ⟨S128x3x1x1, .f32⟩
  | 12 => ⟨S128x3, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S3, .i32⟩
  | 20 => ⟨S3x3x128x12, .f32⟩
  | 21 => ⟨S128x3x1x1, .f32⟩
  | 22 => ⟨S128x3, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S3, .i32⟩
  | 30 => ⟨S3x3x128x12, .f32⟩
  | 31 => ⟨S128x3x1x1, .f32⟩
  | 32 => ⟨S128x3, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S3, .i32⟩
  | 40 => ⟨S3x3x128x12, .f32⟩
  | 41 => ⟨S128x3x1x1, .f32⟩
  | 42 => ⟨S128x3, .f32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S3, .i32⟩
  | 50 => ⟨S3x3x128x12, .f32⟩
  | 51 => ⟨S128x3x1x1, .f32⟩
  | 52 => ⟨S128x3, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S3, .i32⟩
  | 60 => ⟨S3x3x128x12, .f32⟩
  | 61 => ⟨S128x3x1x1, .f32⟩
  | 62 => ⟨S128x3, .f32⟩
  | 63 => ⟨S_, .i32⟩
  | 64 => ⟨S1, .i32⟩
  | 65 => ⟨S_, .i32⟩
  | 66 => ⟨S1, .i32⟩
  | 67 => ⟨S_, .i32⟩
  | 68 => ⟨S1, .i32⟩
  | 69 => ⟨S3, .i32⟩
  | 70 => ⟨S3x3x128x12, .f32⟩
  | 71 => ⟨S128x3x1x1, .f32⟩
  | 72 => ⟨S128x3, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S3, .i32⟩
  | 80 => ⟨S3x3x128x12, .f32⟩
  | 81 => ⟨S128x3x1x1, .f32⟩
  | 82 => ⟨S128x3, .f32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S3, .i32⟩
  | 90 => ⟨S3x3x128x12, .f32⟩
  | 91 => ⟨S128x3x1x1, .f32⟩
  | 92 => ⟨S128x3, .f32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S3, .i32⟩
  | 100 => ⟨S3x3x128x12, .f32⟩
  | 101 => ⟨S128x3x1x1, .f32⟩
  | 102 => ⟨S128x3, .f32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S3, .i32⟩
  | 110 => ⟨S3x3x128x12, .f32⟩
  | 111 => ⟨S128x3x1x1, .f32⟩
  | 112 => ⟨S128x3, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S3, .i32⟩
  | 120 => ⟨S3x3x128x12, .f32⟩
  | 121 => ⟨S128x3x1x1, .f32⟩
  | 122 => ⟨S128x3, .f32⟩
  | 123 => ⟨S_, .i32⟩
  | 124 => ⟨S1, .i32⟩
  | 125 => ⟨S_, .i32⟩
  | 126 => ⟨S1, .i32⟩
  | 127 => ⟨S_, .i32⟩
  | _ => ⟨S2x112x112x128, .f32⟩

abbrev hbmTy0_1 (i : Nat) : BufTy := match i % 128 with
  | 0 => ⟨S1, .i32⟩
  | 1 => ⟨S3, .i32⟩
  | 2 => ⟨S3x3x128x12, .f32⟩
  | 3 => ⟨S128x3x1x1, .f32⟩
  | 4 => ⟨S128x3, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S3, .i32⟩
  | 12 => ⟨S3x3x128x12, .f32⟩
  | 13 => ⟨S128x3x1x1, .f32⟩
  | 14 => ⟨S128x3, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S3, .i32⟩
  | 22 => ⟨S3x3x128x12, .f32⟩
  | 23 => ⟨S128x3x1x1, .f32⟩
  | 24 => ⟨S128x3, .f32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S3, .i32⟩
  | 32 => ⟨S3x3x128x12, .f32⟩
  | 33 => ⟨S128x3x1x1, .f32⟩
  | 34 => ⟨S128x3, .f32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S3, .i32⟩
  | 42 => ⟨S3x3x128x12, .f32⟩
  | 43 => ⟨S9x128x12, .f32⟩
  | 44 => ⟨S1x12, .f32⟩
  | 45 => ⟨S2x112x112x12, .f32⟩
  | 46 => ⟨S2x112x112x2x2x3, .f32⟩
  | 47 => ⟨S2x112x2x112x2x3, .f32⟩
  | 48 => ⟨S2x224x224x3, .f32⟩
  | 49 => ⟨S2x3x224x224, .f32⟩
  | _ => ⟨S2x112x112x128, .f32⟩

abbrev hbmTy (i : Nat) : BufTy := match i / 128 with
  | 0 => hbmTy0_0 i
  | 1 => hbmTy0_1 i
  | _ => ⟨S2x112x112x128, .f32⟩

abbrev bufTy : (tb : Table) → Fin (tcTables nBuf tb) → BufTy
  | .hbm, ⟨i, _⟩ => hbmTy i
  | .local _ .vmem, ⟨0, _⟩ => ⟨S1x114x114x128, .f32⟩
  | .local _ .vmem, ⟨1, _⟩ => ⟨S1x114x114x128, .f32⟩
  | .local _ .vmem, ⟨2, _⟩ => ⟨S9x128x12, .f32⟩
  | .local _ .vmem, ⟨3, _⟩ => ⟨S1x12, .f32⟩
  | .local _ .vmem, ⟨4, _⟩ => ⟨S1x56x112x12, .f32⟩
  | .local _ .vmem, ⟨5, _⟩ => ⟨S1x56x112x12, .f32⟩
  | _, _ => ⟨S2x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_c_10 : Ref sig .tc := ⟨.hbm, 45, rfl⟩
abbrev main_v29 : Ref sig .tc := ⟨.hbm, 46, rfl⟩
abbrev main_c_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_12 : Ref sig .tc := ⟨.hbm, 53, rfl⟩
abbrev main_v35 : Ref sig .tc := ⟨.hbm, 54, rfl⟩
abbrev main_c_13 : Ref sig .tc := ⟨.hbm, 55, rfl⟩
abbrev main_v36 : Ref sig .tc := ⟨.hbm, 56, rfl⟩
abbrev main_c_14 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_15 : Ref sig .tc := ⟨.hbm, 63, rfl⟩
abbrev main_v42 : Ref sig .tc := ⟨.hbm, 64, rfl⟩
abbrev main_c_16 : Ref sig .tc := ⟨.hbm, 65, rfl⟩
abbrev main_v43 : Ref sig .tc := ⟨.hbm, 66, rfl⟩
abbrev main_c_17 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_18 : Ref sig .tc := ⟨.hbm, 73, rfl⟩
abbrev main_v49 : Ref sig .tc := ⟨.hbm, 74, rfl⟩
abbrev main_c_19 : Ref sig .tc := ⟨.hbm, 75, rfl⟩
abbrev main_v50 : Ref sig .tc := ⟨.hbm, 76, rfl⟩
abbrev main_c_20 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_21 : Ref sig .tc := ⟨.hbm, 83, rfl⟩
abbrev main_v56 : Ref sig .tc := ⟨.hbm, 84, rfl⟩
abbrev main_c_22 : Ref sig .tc := ⟨.hbm, 85, rfl⟩
abbrev main_v57 : Ref sig .tc := ⟨.hbm, 86, rfl⟩
abbrev main_c_23 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_24 : Ref sig .tc := ⟨.hbm, 93, rfl⟩
abbrev main_v63 : Ref sig .tc := ⟨.hbm, 94, rfl⟩
abbrev main_c_25 : Ref sig .tc := ⟨.hbm, 95, rfl⟩
abbrev main_v64 : Ref sig .tc := ⟨.hbm, 96, rfl⟩
abbrev main_c_26 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_27 : Ref sig .tc := ⟨.hbm, 103, rfl⟩
abbrev main_v70 : Ref sig .tc := ⟨.hbm, 104, rfl⟩
abbrev main_c_28 : Ref sig .tc := ⟨.hbm, 105, rfl⟩
abbrev main_v71 : Ref sig .tc := ⟨.hbm, 106, rfl⟩
abbrev main_c_29 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_30 : Ref sig .tc := ⟨.hbm, 113, rfl⟩
abbrev main_v77 : Ref sig .tc := ⟨.hbm, 114, rfl⟩
abbrev main_c_31 : Ref sig .tc := ⟨.hbm, 115, rfl⟩
abbrev main_v78 : Ref sig .tc := ⟨.hbm, 116, rfl⟩
abbrev main_c_32 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_33 : Ref sig .tc := ⟨.hbm, 123, rfl⟩
abbrev main_v84 : Ref sig .tc := ⟨.hbm, 124, rfl⟩
abbrev main_c_34 : Ref sig .tc := ⟨.hbm, 125, rfl⟩
abbrev main_v85 : Ref sig .tc := ⟨.hbm, 126, rfl⟩
abbrev main_c_35 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_36 : Ref sig .tc := ⟨.hbm, 133, rfl⟩
abbrev main_v91 : Ref sig .tc := ⟨.hbm, 134, rfl⟩
abbrev main_c_37 : Ref sig .tc := ⟨.hbm, 135, rfl⟩
abbrev main_v92 : Ref sig .tc := ⟨.hbm, 136, rfl⟩
abbrev main_c_38 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_39 : Ref sig .tc := ⟨.hbm, 143, rfl⟩
abbrev main_v98 : Ref sig .tc := ⟨.hbm, 144, rfl⟩
abbrev main_c_40 : Ref sig .tc := ⟨.hbm, 145, rfl⟩
abbrev main_v99 : Ref sig .tc := ⟨.hbm, 146, rfl⟩
abbrev main_c_41 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_42 : Ref sig .tc := ⟨.hbm, 153, rfl⟩
abbrev main_v105 : Ref sig .tc := ⟨.hbm, 154, rfl⟩
abbrev main_c_43 : Ref sig .tc := ⟨.hbm, 155, rfl⟩
abbrev main_v106 : Ref sig .tc := ⟨.hbm, 156, rfl⟩
abbrev main_c_44 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_45 : Ref sig .tc := ⟨.hbm, 163, rfl⟩
abbrev main_v112 : Ref sig .tc := ⟨.hbm, 164, rfl⟩
abbrev main_c_46 : Ref sig .tc := ⟨.hbm, 165, rfl⟩
abbrev main_v113 : Ref sig .tc := ⟨.hbm, 166, rfl⟩
abbrev main_c_47 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 2], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let c0_i32_0 : BitVec 32 := 0#32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let c0_i32_9 : BitVec 32 := 0#32
  let v16 : BitVec 32 := Scalar.addi v15 c0_i32_9
  let v17 : Index := Scalar.indexCast v16
  let c1 : Index := 1#32
  let c0_11 : Index := 0#32
  ![0, v17.toNat, 1, 0]
def k0_off3 (i : grid0.Coords) (c0_i32_17 : BitVec 32) : Fin 4 → Nat :=
  let c0_19 : Index := 0#32
  let arg1 : BitVec 32 := BitVec.ofNat 32 (i 1).val
  let c56_i32_16 : BitVec 32 := 56#32
  let v27 : BitVec 32 := Scalar.muli arg1 c56_i32_16
  let v28 : BitVec 32 := Scalar.addi v27 c0_i32_17
  let c0_i32_18 : BitVec 32 := 0#32
  let v29 : BitVec 32 := Scalar.addi v28 c0_i32_18
  let v30 : Index := Scalar.indexCast v29
  let c2 : Index := 2#32
  let c0_20 : Index := 0#32
  ![0, v30.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x114x114x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x128x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x112x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Tr1RefIdeal.lean ====
abbrev S2x112x112x128 : Shape := ⟨4, ![2, 112, 112, 128]⟩
abbrev S128x3x4x4 : Shape := ⟨4, ![128, 3, 4, 4]⟩
abbrev S3 : Shape := ⟨1, ![3]⟩
abbrev S3x128x4x4 : Shape := ⟨4, ![3, 128, 4, 4]⟩
abbrev S_ : Shape := ⟨0, ![]⟩
abbrev S2x223x223x128 : Shape := ⟨4, ![2, 223, 223, 128]⟩
abbrev S2x227x227x128 : Shape := ⟨4, ![2, 227, 227, 128]⟩
abbrev S224 : Shape := ⟨1, ![224]⟩
abbrev S224x1 : Shape := ⟨2, ![224, 1]⟩
abbrev S4 : Shape := ⟨1, ![4]⟩
abbrev S1x4 : Shape := ⟨2, ![1, 4]⟩
abbrev S224x4 : Shape := ⟨2, ![224, 4]⟩
abbrev S224x4x1 : Shape := ⟨3, ![224, 4, 1]⟩
abbrev S2x227x224x4x128 : Shape := ⟨5, ![2, 227, 224, 4, 128]⟩
abbrev S2x224x4x224x4x128 : Shape := ⟨6, ![2, 224, 4, 224, 4, 128]⟩
abbrev S2x224x224x3 : Shape := ⟨4, ![2, 224, 224, 3]⟩
abbrev S1x1x1x3 : Shape := ⟨4, ![1, 1, 1, 3]⟩
abbrev S2x3x224x224 : Shape := ⟨4, ![2, 3, 224, 224]⟩

abbrev nBuf : Space → Nat
  | .hbm => 39
  | .vmem => 0
  | .smem => 0
  | _ => 0

abbrev bufTy : (tb : Table) → Fin (tcTables nBuf tb) → BufTy
  | .hbm, ⟨0, _⟩ => ⟨S2x112x112x128, .f32⟩
  | .hbm, ⟨1, _⟩ => ⟨S128x3x4x4, .f32⟩
  | .hbm, ⟨2, _⟩ => ⟨S3, .f32⟩
  | .hbm, ⟨3, _⟩ => ⟨S3x128x4x4, .f32⟩
  | .hbm, ⟨4, _⟩ => ⟨S3x128x4x4, .f32⟩
  | .hbm, ⟨5, _⟩ => ⟨S_, .f32⟩
  | .hbm, ⟨6, _⟩ => ⟨S2x223x223x128, .f32⟩
  | .hbm, ⟨7, _⟩ => ⟨S_, .i32⟩
  | .hbm, ⟨8, _⟩ => ⟨S_, .f32⟩
  | .hbm, ⟨9, _⟩ => ⟨S2x227x227x128, .f32⟩
  | .hbm, ⟨10, _⟩ => ⟨S224, .i32⟩
  | .hbm, ⟨11, _⟩ => ⟨S224x1, .i32⟩
  | .hbm, ⟨12, _⟩ => ⟨S_, .i32⟩
  | .hbm, ⟨13, _⟩ => ⟨S224x1, .i32⟩
  | .hbm, ⟨14, _⟩ => ⟨S224x1, .i32⟩
  | .hbm, ⟨15, _⟩ => ⟨S4, .i32⟩
  | .hbm, ⟨16, _⟩ => ⟨S1x4, .i32⟩
  | .hbm, ⟨17, _⟩ => ⟨S224x4, .i32⟩
  | .hbm, ⟨18, _⟩ => ⟨S224x4, .i32⟩
  | .hbm, ⟨19, _⟩ => ⟨S224x4, .i32⟩
  | .hbm, ⟨20, _⟩ => ⟨S224x4x1, .i32⟩
  | .hbm, ⟨21, _⟩ => ⟨S2x227x224x4x128, .f32⟩
  | .hbm, ⟨22, _⟩ => ⟨S224, .i32⟩
  | .hbm, ⟨23, _⟩ => ⟨S224x1, .i32⟩
  | .hbm, ⟨24, _⟩ => ⟨S_, .i32⟩
  | .hbm, ⟨25, _⟩ => ⟨S224x1, .i32⟩
  | .hbm, ⟨26, _⟩ => ⟨S224x1, .i32⟩
  | .hbm, ⟨27, _⟩ => ⟨S4, .i32⟩
  | .hbm, ⟨28, _⟩ => ⟨S1x4, .i32⟩
  | .hbm, ⟨29, _⟩ => ⟨S224x4, .i32⟩
  | .hbm, ⟨30, _⟩ => ⟨S224x4, .i32⟩
  | .hbm, ⟨31, _⟩ => ⟨S224x4, .i32⟩
  | .hbm, ⟨32, _⟩ => ⟨S224x4x1, .i32⟩
  | .hbm, ⟨33, _⟩ => ⟨S2x224x4x224x4x128, .f32⟩
  | .hbm, ⟨34, _⟩ => ⟨S2x224x224x3, .f32⟩
  | .hbm, ⟨35, _⟩ => ⟨S1x1x1x3, .f32⟩
  | .hbm, ⟨36, _⟩ => ⟨S2x224x224x3, .f32⟩
  | .hbm, ⟨37, _⟩ => ⟨S2x224x224x3, .f32⟩
  | .hbm, ⟨38, _⟩ => ⟨S2x3x224x224, .f32⟩
  | _, _ => ⟨S2x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call3_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Tr0.lean ====
abbrev S2x56x56x256 : Shape := ⟨4, ![2, 56, 56, 256]⟩
abbrev S256x128x4x4 : Shape := ⟨4, ![256, 128, 4, 4]⟩
abbrev S128 : Shape := ⟨1, ![128]⟩
abbrev S2 : Shape := ⟨1, ![2]⟩
abbrev S_ : Shape := ⟨0, ![]⟩
abbrev S2x58x58x256 : Shape := ⟨4, ![2, 58, 58, 256]⟩
abbrev S2x1 : Shape := ⟨2, ![2, 1]⟩
abbrev S256x128x2x4 : Shape := ⟨4, ![256, 128, 2, 4]⟩
abbrev S256x128x2x2 : Shape := ⟨4, ![256, 128, 2, 2]⟩
abbrev S2x2x256x128 : Shape := ⟨4, ![2, 2, 256, 128]⟩
abbrev S4x256x128 : Shape := ⟨3, ![4, 256, 128]⟩
abbrev S16x256x128 : Shape := ⟨3, ![16, 256, 128]⟩
abbrev S1x128 : Shape := ⟨2, ![1, 128]⟩
abbrev S2x56x56x512 : Shape := ⟨4, ![2, 56, 56, 512]⟩
abbrev S1x58x58x256 : Shape := ⟨4, ![1, 58, 58, 256]⟩
abbrev S1x56x56x512 : Shape := ⟨4, ![1, 56, 56, 512]⟩
abbrev S3136x128 : Shape := ⟨2, ![3136, 128]⟩
abbrev S1x56x56x256 : Shape := ⟨4, ![1, 56, 56, 256]⟩
abbrev S56x56x256 : Shape := ⟨3, ![56, 56, 256]⟩
abbrev S3136x256 : Shape := ⟨2, ![3136, 256]⟩
abbrev S1x256x128 : Shape := ⟨3, ![1, 256, 128]⟩
abbrev S256x128 : Shape := ⟨2, ![256, 128]⟩
abbrev S3136x512 : Shape := ⟨2, ![3136, 512]⟩
abbrev S56x56x512 : Shape := ⟨3, ![56, 56, 512]⟩
abbrev S2x56x56x2x2x128 : Shape := ⟨6, ![2, 56, 56, 2, 2, 128]⟩
abbrev S2x56x2x56x2x128 : Shape := ⟨6, ![2, 56, 2, 56, 2, 128]⟩
abbrev S2x112x112x128 : Shape := ⟨4, ![2, 112, 112, 128]⟩

abbrev nBuf : Space → Nat
  | .hbm => 100
  | .vmem => 6
  | .smem => 0
  | _ => 0

abbrev bufTy : (tb : Table) → Fin (tcTables nBuf tb) → BufTy
  | .hbm, ⟨0, _⟩ => ⟨S2x56x56x256, .f32⟩
  | .hbm, ⟨1, _⟩ => ⟨S256x128x4x4, .f32⟩
  | .hbm, ⟨2, _⟩ => ⟨S128, .f32⟩
  | .hbm, ⟨3, _⟩ => ⟨S2, .i32⟩
  | .hbm, ⟨4, _⟩ => ⟨S2, .i32⟩
  | .hbm, ⟨5, _⟩ => ⟨S2, .i32⟩
  | .hbm, ⟨6, _⟩ => ⟨S2, .i32⟩
  | .hbm, ⟨7, _⟩ => ⟨S2, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S_, .i32⟩
  | .hbm, ⟨12, _⟩ => ⟨S_, .f32⟩
  | .hbm, ⟨13, _⟩ => ⟨S2x58x58x256, .f32⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S256x128x2x4, .f32⟩
  | .hbm, ⟨23, _⟩ => ⟨S_, .i32⟩
  | .hbm, ⟨24, _⟩ => ⟨S2, .i32⟩
  | .hbm, ⟨25, _⟩ => ⟨S2, .i1⟩
  | .hbm, ⟨26, _⟩ => ⟨S_, .i32⟩
  | .hbm, ⟨27, _⟩ => ⟨S2, .i32⟩
  | .hbm, ⟨28, _⟩ => ⟨S2, .i32⟩
  | .hbm, ⟨29, _⟩ => ⟨S2, .i32⟩
  | .hbm, ⟨30, _⟩ => ⟨S2x1, .i32⟩
  | .hbm, ⟨31, _⟩ => ⟨S256x128x2x2, .f32⟩
  | .hbm, ⟨32, _⟩ => ⟨S2x2x256x128, .f32⟩
  | .hbm, ⟨33, _⟩ => ⟨S4x256x128, .f32⟩
  | .hbm, ⟨34, _⟩ => ⟨S_, .i32⟩
  | .hbm, ⟨35, _⟩ => ⟨S2, .i32⟩
  | .hbm, ⟨36, _⟩ => ⟨S2, .i1⟩
  | .hbm, ⟨37, _⟩ => ⟨S_, .i32⟩
  | .hbm, ⟨38, _⟩ => ⟨S2, .i32⟩
  | .hbm, ⟨39, _⟩ => ⟨S2, .i32⟩
  | .hbm, ⟨40, _⟩ => ⟨S2, .i32⟩
  | .hbm, ⟨41, _⟩ => ⟨S2x1, .i32⟩
  | .hbm, ⟨42, _⟩ => ⟨S256x128x2x4, .f32⟩
  | .hbm, ⟨43, _⟩ => ⟨S_, .i32⟩
  | .hbm, ⟨44, _⟩ => ⟨S2, .i32⟩
  | .hbm, ⟨45, _⟩ => ⟨S2, .i1⟩
  | .hbm, ⟨46, _⟩ => ⟨S_, .i32⟩
  | .hbm, ⟨47, _⟩ => ⟨S2, .i32⟩
  | .hbm, ⟨48, _⟩ => ⟨S2, .i32⟩
  | .hbm, ⟨49, _⟩ => ⟨S2, .i32⟩
  | .hbm, ⟨50, _⟩ => ⟨S2x1, .i32⟩
  | .hbm, ⟨51, _⟩ => ⟨S256x128x2x2, .f32⟩
  | .hbm, ⟨52, _⟩ => ⟨S2x2x256x128, .f32⟩
  | .hbm, ⟨53, _⟩ => ⟨S4x256x128, .f32⟩
  | .hbm, ⟨54, _⟩ => ⟨S_, .i32⟩
  | .hbm, ⟨55, _⟩ => ⟨S2, .i32⟩
  | .hbm, ⟨56, _⟩ => ⟨S2, .i1⟩
  | .hbm, ⟨57, _⟩ => ⟨S_, .i32⟩
  | .hbm, ⟨58, _⟩ => ⟨S2, .i32⟩
  | .hbm, ⟨59, _⟩ => ⟨S2, .i32⟩
  | .hbm, ⟨60, _⟩ => ⟨S2, .i32⟩
  | .hbm, ⟨61, _⟩ => ⟨S2x1, .i32⟩
  | .hbm, ⟨62, _⟩ => ⟨S256x128x2x4, .f32⟩
  | .hbm, ⟨63, _⟩ => ⟨S_, .i32⟩
  | .hbm, ⟨64, _⟩ => ⟨S2, .i32⟩
  | .hbm, ⟨65, _⟩ => ⟨S2, .i1⟩
  | .hbm, ⟨66, _⟩ => ⟨S_, .i32⟩
  | .hbm, ⟨67, _⟩ => ⟨S2, .i32⟩
  | .hbm, ⟨68, _⟩ => ⟨S2, .i32⟩
  | .hbm, ⟨69, _⟩ => ⟨S2, .i32⟩
  | .hbm, ⟨70, _⟩ => ⟨S2x1, .i32⟩
  | .hbm, ⟨71, _⟩ => ⟨S256x128x2x2, .f32⟩
  | .hbm, ⟨72, _⟩ => ⟨S2x2x256x128, .f32⟩
  | .hbm, ⟨73, _⟩ => ⟨S4x256x128, .f32⟩
  | .hbm, ⟨74, _⟩ => ⟨S_, .i32⟩
  | .hbm, ⟨75, _⟩ => ⟨S2, .i32⟩
  | .hbm, ⟨76, _⟩ => ⟨S2, .i1⟩
  | .hbm, ⟨77, _⟩ => ⟨S_, .i32⟩
  | .hbm, ⟨78, _⟩ => ⟨S2, .i32⟩
  | .hbm, ⟨79, _⟩ => ⟨S2, .i32⟩
  | .hbm, ⟨80, _⟩ => ⟨S2, .i32⟩
  | .hbm, ⟨81, _⟩ => ⟨S2x1, .i32⟩
  | .hbm, ⟨82, _⟩ => ⟨S256x128x2x4, .f32⟩
  | .hbm, ⟨83, _⟩ => ⟨S_, .i32⟩
  | .hbm, ⟨84, _⟩ => ⟨S2, .i32⟩
  | .hbm, ⟨85, _⟩ => ⟨S2, .i1⟩
  | .hbm, ⟨86, _⟩ => ⟨S_, .i32⟩
  | .hbm, ⟨87, _⟩ => ⟨S2, .i32⟩
  | .hbm, ⟨88, _⟩ => ⟨S2, .i32⟩
  | .hbm, ⟨89, _⟩ => ⟨S2, .i32⟩
  | .hbm, ⟨90, _⟩ => ⟨S2x1, .i32⟩
  | .hbm, ⟨91, _⟩ => ⟨S256x128x2x2, .f32⟩
  | .hbm, ⟨92, _⟩ => ⟨S2x2x256x128, .f32⟩
  | .hbm, ⟨93, _⟩ => ⟨S4x256x128, .f32⟩
  | .hbm, ⟨94, _⟩ => ⟨S16x256x128, .f32⟩
  | .hbm, ⟨95, _⟩ => ⟨S1x128, .f32⟩
  | .hbm, ⟨96, _⟩ => ⟨S2x56x56x512, .f32⟩
  | .hbm, ⟨97, _⟩ => ⟨S2x56x56x2x2x128, .f32⟩
  | .hbm, ⟨98, _⟩ => ⟨S2x56x2x56x2x128, .f32⟩
  | .hbm, ⟨99, _⟩ => ⟨S2x112x112x128, .f32⟩
  | .local _ .vmem, ⟨0, _⟩ => ⟨S1x58x58x256, .f32⟩
  | .local _ .vmem, ⟨1, _⟩ => ⟨S1x58x58x256, .f32⟩
  | .local _ .vmem, ⟨2, _⟩ => ⟨S16x256x128, .f32⟩
  | .local _ .vmem, ⟨3, _⟩ => ⟨S1x128, .f32⟩
  | .local _ .vmem, ⟨4, _⟩ => ⟨S1x56x56x512, .f32⟩
  | .local _ .vmem, ⟨5, _⟩ => ⟨S1x56x56x512, .f32⟩
  | _, _ => ⟨S2x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_call0_v0 : Ref sig .tc := ⟨.hbm, 12, rfl⟩
abbrev main_v0 : Ref sig .tc := ⟨.hbm, 13, rfl⟩
abbrev main_c_8 : Ref sig .tc := ⟨.hbm, 14, rfl⟩
abbrev main_v1 : Ref sig .tc := ⟨.hbm, 15, rfl⟩
abbrev main_v2 : Ref sig .tc := ⟨.hbm, 16, rfl⟩
abbrev main_c_9 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_10 : Ref sig .tc := ⟨.hbm, 23, rfl⟩
abbrev main_v8 : Ref sig .tc := ⟨.hbm, 24, rfl⟩
abbrev main_v9 : Ref sig .tc := ⟨.hbm, 25, rfl⟩
abbrev main_c_11 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_c_13 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_14 : Ref sig .tc := ⟨.hbm, 43, rfl⟩
abbrev main_v24 : Ref sig .tc := ⟨.hbm, 44, rfl⟩
abbrev main_v25 : Ref sig .tc := ⟨.hbm, 45, rfl⟩
abbrev main_c_15 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_16 : Ref sig .tc := ⟨.hbm, 54, rfl⟩
abbrev main_v33 : Ref sig .tc := ⟨.hbm, 55, rfl⟩
abbrev main_v34 : Ref sig .tc := ⟨.hbm, 56, rfl⟩
abbrev main_c_17 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_18 : Ref sig .tc := ⟨.hbm, 63, rfl⟩
abbrev main_v40 : Ref sig .tc := ⟨.hbm, 64, rfl⟩
abbrev main_v41 : Ref sig .tc := ⟨.hbm, 65, rfl⟩
abbrev main_c_19 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_20 : Ref sig .tc := ⟨.hbm, 74, rfl⟩
abbrev main_v49 : Ref sig .tc := ⟨.hbm, 75, rfl⟩
abbrev main_v50 : Ref sig .tc := ⟨.hbm, 76, rfl⟩
abbrev main_c_21 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_22 : Ref sig .tc := ⟨.hbm, 83, rfl⟩
abbrev main_v56 : Ref sig .tc := ⟨.hbm, 84, rfl⟩
abbrev main_v57 : Ref sig .tc := ⟨.hbm, 85, rfl⟩
abbrev main_c_23 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def k0_off1 (i : grid0.Coords) (c0_i32 : BitVec 32) (c0_i32_0 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) (c0_i32_9 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let v16 : BitVec 32 := Scalar.addi v15 c0_i32_9
  let v17 : Index := Scalar.indexCast v16
  let c1 : Index := 1#32
  let c0_11 : Index := 0#32
  ![0, v17.toNat, 1, 0]
def k0_off3 (i : grid0.Coords) (c0_i32_47 : BitVec 32) (c0_i32_48 : BitVec 32) : Fin 4 → Nat :=
  let c0_49 : Index := 0#32
  let arg1 : BitVec 32 := BitVec.ofNat 32 (i 1).val
  let c56_i32_46 : BitVec 32 := 56#32
  let v73 : BitVec 32 := Scalar.muli arg1 c56_i32_46
  let v74 : BitVec 32 := Scalar.addi v73 c0_i32_47
  let v75 : BitVec 32 := Scalar.addi v74 c0_i32_48
  let v76 : Index := Scalar.indexCast v75
  let c2_50 : Index := 2#32
  let c0_51 : Index := 0#32
  ![0, v76.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x58x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x56x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Tr0RefIdeal.lean ====
abbrev S2x56x56x256 : Shape := ⟨4, ![2, 56, 56, 256]⟩
abbrev S256x128x4x4 : Shape := ⟨4, ![256, 128, 4, 4]⟩
abbrev S128 : Shape := ⟨1, ![128]⟩
abbrev S128x256x4x4 : Shape := ⟨4, ![128, 256, 4, 4]⟩
abbrev S_ : Shape := ⟨0, ![]⟩
abbrev S2x111x111x256 : Shape := ⟨4, ![2, 111, 111, 256]⟩
abbrev S2x115x115x256 : Shape := ⟨4, ![2, 115, 115, 256]⟩
abbrev S112 : Shape := ⟨1, ![112]⟩
abbrev S112x1 : Shape := ⟨2, ![112, 1]⟩
abbrev S4 : Shape := ⟨1, ![4]⟩
abbrev S1x4 : Shape := ⟨2, ![1, 4]⟩
abbrev S112x4 : Shape := ⟨2, ![112, 4]⟩
abbrev S112x4x1 : Shape := ⟨3, ![112, 4, 1]⟩
abbrev S2x115x112x4x256 : Shape := ⟨5, ![2, 115, 112, 4, 256]⟩
abbrev S2x112x4x112x4x256 : Shape := ⟨6, ![2, 112, 4, 112, 4, 256]⟩
abbrev S2x112x112x128 : Shape := ⟨4, ![2, 112, 112, 128]⟩
abbrev S1x1x1x128 : Shape := ⟨4, ![1, 1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x56x56x256, .f32⟩
  | .hbm, ⟨1, _⟩ => ⟨S256x128x4x4, .f32⟩
  | .hbm, ⟨2, _⟩ => ⟨S128, .f32⟩
  | .hbm, ⟨3, _⟩ => ⟨S128x256x4x4, .f32⟩
  | .hbm, ⟨4, _⟩ => ⟨S128x256x4x4, .f32⟩
  | .hbm, ⟨5, _⟩ => ⟨S_, .f32⟩
  | .hbm, ⟨6, _⟩ => ⟨S2x111x111x256, .f32⟩
  | .hbm, ⟨7, _⟩ => ⟨S_, .i32⟩
  | .hbm, ⟨8, _⟩ => ⟨S_, .f32⟩
  | .hbm, ⟨9, _⟩ => ⟨S2x115x115x256, .f32⟩
  | .hbm, ⟨10, _⟩ => ⟨S112, .i32⟩
  | .hbm, ⟨11, _⟩ => ⟨S112x1, .i32⟩
  | .hbm, ⟨12, _⟩ => ⟨S_, .i32⟩
  | .hbm, ⟨13, _⟩ => ⟨S112x1, .i32⟩
  | .hbm, ⟨14, _⟩ => ⟨S112x1, .i32⟩
  | .hbm, ⟨15, _⟩ => ⟨S4, .i32⟩
  | .hbm, ⟨16, _⟩ => ⟨S1x4, .i32⟩
  | .hbm, ⟨17, _⟩ => ⟨S112x4, .i32⟩
  | .hbm, ⟨18, _⟩ => ⟨S112x4, .i32⟩
  | .hbm, ⟨19, _⟩ => ⟨S112x4, .i32⟩
  | .hbm, ⟨20, _⟩ => ⟨S112x4x1, .i32⟩
  | .hbm, ⟨21, _⟩ => ⟨S2x115x112x4x256, .f32⟩
  | .hbm, ⟨22, _⟩ => ⟨S112, .i32⟩
  | .hbm, ⟨23, _⟩ => ⟨S112x1, .i32⟩
  | .hbm, ⟨24, _⟩ => ⟨S_, .i32⟩
  | .hbm, ⟨25, _⟩ => ⟨S112x1, .i32⟩
  | .hbm, ⟨26, _⟩ => ⟨S112x1, .i32⟩
  | .hbm, ⟨27, _⟩ => ⟨S4, .i32⟩
  | .hbm, ⟨28, _⟩ => ⟨S1x4, .i32⟩
  | .hbm, ⟨29, _⟩ => ⟨S112x4, .i32⟩
  | .hbm, ⟨30, _⟩ => ⟨S112x4, .i32⟩
  | .hbm, ⟨31, _⟩ => ⟨S112x4, .i32⟩
  | .hbm, ⟨32, _⟩ => ⟨S112x4x1, .i32⟩
  | .hbm, ⟨33, _⟩ => ⟨S2x112x4x112x4x256, .f32⟩
  | .hbm, ⟨34, _⟩ => ⟨S2x112x112x128, .f32⟩
  | .hbm, ⟨35, _⟩ => ⟨S1x1x1x128, .f32⟩
  | .hbm, ⟨36, _⟩ => ⟨S2x112x112x128, .f32⟩
  | .hbm, ⟨37, _⟩ => ⟨S2x112x112x128, .f32⟩
  | .hbm, ⟨38, _⟩ => ⟨S_, .f32⟩
  | .hbm, ⟨39, _⟩ => ⟨S2x112x112x128, .f32⟩
  | .hbm, ⟨40, _⟩ => ⟨S2x112x112x128, .f32⟩
  | _, _ => ⟨S2x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call3_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Enc1.lean ====
abbrev S2x112x112x128 : Shape := ⟨4, ![2, 112, 112, 128]⟩
abbrev S256x128x4x4 : Shape := ⟨4, ![256, 128, 4, 4]⟩
abbrev S256 : Shape := ⟨1, ![256]⟩
abbrev S_ : Shape := ⟨0, ![]⟩
abbrev S2x114x114x128 : Shape := ⟨4, ![2, 114, 114, 128]⟩
abbrev S2x57x2x57x2x128 : Shape := ⟨6, ![2, 57, 2, 57, 2, 128]⟩
abbrev S2x57x57x2x2x128 : Shape := ⟨6, ![2, 57, 57, 2, 2, 128]⟩
abbrev S2x57x57x512 : Shape := ⟨4, ![2, 57, 57, 512]⟩
abbrev S256x128x2x2x2x2 : Shape := ⟨6, ![256, 128, 2, 2, 2, 2]⟩
abbrev S2x2x2x2x128x256 : Shape := ⟨6, ![2, 2, 2, 2, 128, 256]⟩
abbrev S4x512x256 : Shape := ⟨3, ![4, 512, 256]⟩
abbrev S1x256 : Shape := ⟨2, ![1, 256]⟩
abbrev S2x56x56x256 : Shape := ⟨4, ![2, 56, 56, 256]⟩
abbrev S1x57x57x512 : Shape := ⟨4, ![1, 57, 57, 512]⟩
abbrev S1x56x56x256 : Shape := ⟨4, ![1, 56, 56, 256]⟩
abbrev S3136x256 : Shape := ⟨2, ![3136, 256]⟩
abbrev S1x56x56x512 : Shape := ⟨4, ![1, 56, 56, 512]⟩
abbrev S56x56x512 : Shape := ⟨3, ![56, 56, 512]⟩
abbrev S3136x512 : Shape := ⟨2, ![3136, 512]⟩
abbrev S1x512x256 : Shape := ⟨3, ![1, 512, 256]⟩
abbrev S512x256 : Shape := ⟨2, ![512, 256]⟩
abbrev S56x56x256 : Shape := ⟨3, ![56, 56, 256]⟩

abbrev nBuf : Space → Nat
  | .hbm => 14
  | .vmem => 6
  | .smem => 0
  | _ => 0

abbrev bufTy : (tb : Table) → Fin (tcTables nBuf tb) → BufTy
  | .hbm, ⟨0, _⟩ => ⟨S2x112x112x128, .f32⟩
  | .hbm, ⟨1, _⟩ => ⟨S256x128x4x4, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x114x114x128, .f32⟩
  | .hbm, ⟨6, _⟩ => ⟨S2x57x2x57x2x128, .f32⟩
  | .hbm, ⟨7, _⟩ => ⟨S2x57x57x2x2x128, .f32⟩
  | .hbm, ⟨8, _⟩ => ⟨S2x57x57x512, .f32⟩
  | .hbm, ⟨9, _⟩ => ⟨S256x128x2x2x2x2, .f32⟩
  | .hbm, ⟨10, _⟩ => ⟨S2x2x2x2x128x256, .f32⟩
  | .hbm, ⟨11, _⟩ => ⟨S4x512x256, .f32⟩
  | .hbm, ⟨12, _⟩ => ⟨S1x256, .f32⟩
  | .hbm, ⟨13, _⟩ => ⟨S2x56x56x256, .f32⟩
  | .local _ .vmem, ⟨0, _⟩ => ⟨S1x57x57x512, .f32⟩
  | .local _ .vmem, ⟨1, _⟩ => ⟨S1x57x57x512, .f32⟩
  | .local _ .vmem, ⟨2, _⟩ => ⟨S4x512x256, .f32⟩
  | .local _ .vmem, ⟨3, _⟩ => ⟨S1x256, .f32⟩
  | .local _ .vmem, ⟨4, _⟩ => ⟨S1x56x56x256, .f32⟩
  | .local _ .vmem, ⟨5, _⟩ => ⟨S1x56x56x256, .f32⟩
  | _, _ => ⟨S2x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let c0_i32_0 : BitVec 32 := 0#32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let c0_i32_9 : BitVec 32 := 0#32
  let v16 : BitVec 32 := Scalar.addi v15 c0_i32_9
  let v17 : Index := Scalar.indexCast v16
  let c1 : Index := 1#32
  let c0_11 : Index := 0#32
  ![0, v17.toNat, 1, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x57x57x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Enc1RefIdeal.lean ====
abbrev S2x112x112x128 : Shape := ⟨4, ![2, 112, 112, 128]⟩
abbrev S256x128x4x4 : Shape := ⟨4, ![256, 128, 4, 4]⟩
abbrev S256 : Shape := ⟨1, ![256]⟩
abbrev S_ : Shape := ⟨0, ![]⟩
abbrev S2x114x114x128 : Shape := ⟨4, ![2, 114, 114, 128]⟩
abbrev S56 : Shape := ⟨1, ![56]⟩
abbrev S56x1 : Shape := ⟨2, ![56, 1]⟩
abbrev S4 : Shape := ⟨1, ![4]⟩
abbrev S1x4 : Shape := ⟨2, ![1, 4]⟩
abbrev S56x4 : Shape := ⟨2, ![56, 4]⟩
abbrev S56x4x1 : Shape := ⟨3, ![56, 4, 1]⟩
abbrev S2x114x56x4x128 : Shape := ⟨5, ![2, 114, 56, 4, 128]⟩
abbrev S2x56x4x56x4x128 : Shape := ⟨6, ![2, 56, 4, 56, 4, 128]⟩
abbrev S2x56x56x256 : Shape := ⟨4, ![2, 56, 56, 256]⟩
abbrev S1x1x1x256 : Shape := ⟨4, ![1, 1, 1, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x112x112x128, .f32⟩
  | .hbm, ⟨1, _⟩ => ⟨S256x128x4x4, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S2x114x114x128, .f32⟩
  | .hbm, ⟨6, _⟩ => ⟨S56, .i32⟩
  | .hbm, ⟨7, _⟩ => ⟨S56x1, .i32⟩
  | .hbm, ⟨8, _⟩ => ⟨S_, .i32⟩
  | .hbm, ⟨9, _⟩ => ⟨S56x1, .i32⟩
  | .hbm, ⟨10, _⟩ => ⟨S56x1, .i32⟩
  | .hbm, ⟨11, _⟩ => ⟨S4, .i32⟩
  | .hbm, ⟨12, _⟩ => ⟨S1x4, .i32⟩
  | .hbm, ⟨13, _⟩ => ⟨S56x4, .i32⟩
  | .hbm, ⟨14, _⟩ => ⟨S56x4, .i32⟩
  | .hbm, ⟨15, _⟩ => ⟨S56x4, .i32⟩
  | .hbm, ⟨16, _⟩ => ⟨S56x4x1, .i32⟩
  | .hbm, ⟨17, _⟩ => ⟨S2x114x56x4x128, .f32⟩
  | .hbm, ⟨18, _⟩ => ⟨S56, .i32⟩
  | .hbm, ⟨19, _⟩ => ⟨S56x1, .i32⟩
  | .hbm, ⟨20, _⟩ => ⟨S_, .i32⟩
  | .hbm, ⟨21, _⟩ => ⟨S56x1, .i32⟩
  | .hbm, ⟨22, _⟩ => ⟨S56x1, .i32⟩
  | .hbm, ⟨23, _⟩ => ⟨S4, .i32⟩
  | .hbm, ⟨24, _⟩ => ⟨S1x4, .i32⟩
  | .hbm, ⟨25, _⟩ => ⟨S56x4, .i32⟩
  | .hbm, ⟨26, _⟩ => ⟨S56x4, .i32⟩
  | .hbm, ⟨27, _⟩ => ⟨S56x4, .i32⟩
  | .hbm, ⟨28, _⟩ => ⟨S56x4x1, .i32⟩
  | .hbm, ⟨29, _⟩ => ⟨S2x56x4x56x4x128, .f32⟩
  | .hbm, ⟨30, _⟩ => ⟨S2x56x56x256, .f32⟩
  | .hbm, ⟨31, _⟩ => ⟨S1x1x1x256, .f32⟩
  | .hbm, ⟨32, _⟩ => ⟨S2x56x56x256, .f32⟩
  | .hbm, ⟨33, _⟩ => ⟨S2x56x56x256, .f32⟩
  | .hbm, ⟨34, _⟩ => ⟨S_, .f32⟩
  | .hbm, ⟨35, _⟩ => ⟨S2x56x56x256, .f32⟩
  | .hbm, ⟨36, _⟩ => ⟨S2x56x56x256, .f32⟩
  | _, _ => ⟨S2x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Enc0.lean ====
abbrev S2x3x224x224 : Shape := ⟨4, ![2, 3, 224, 224]⟩
abbrev S128x3x4x4 : Shape := ⟨4, ![128, 3, 4, 4]⟩
abbrev S128 : Shape := ⟨1, ![128]⟩
abbrev S2x224x224x3 : Shape := ⟨4, ![2, 224, 224, 3]⟩
abbrev S_ : Shape := ⟨0, ![]⟩
abbrev S2x226x226x3 : Shape := ⟨4, ![2, 226, 226, 3]⟩
abbrev S2x113x2x113x2x3 : Shape := ⟨6, ![2, 113, 2, 113, 2, 3]⟩
abbrev S2x113x113x2x2x3 : Shape := ⟨6, ![2, 113, 113, 2, 2, 3]⟩
abbrev S2x113x113x12 : Shape := ⟨4, ![2, 113, 113, 12]⟩
abbrev S128x3x2x2x2x2 : Shape := ⟨6, ![128, 3, 2, 2, 2, 2]⟩
abbrev S2x2x2x2x3x128 : Shape := ⟨6, ![2, 2, 2, 2, 3, 128]⟩
abbrev S4x12x128 : Shape := ⟨3, ![4, 12, 128]⟩
abbrev S1x128 : Shape := ⟨2, ![1, 128]⟩
abbrev S2x112x112x128 : Shape := ⟨4, ![2, 112, 112, 128]⟩
abbrev S1x113x113x12 : Shape := ⟨4, ![1, 113, 113, 12]⟩
abbrev S1x56x112x128 : Shape := ⟨4, ![1, 56, 112, 128]⟩
abbrev S6272x128 : Shape := ⟨2, ![6272, 128]⟩
abbrev S1x56x112x12 : Shape := ⟨4, ![1, 56, 112, 12]⟩
abbrev S56x112x12 : Shape := ⟨3, ![56, 112, 12]⟩
abbrev S6272x12 : Shape := ⟨2, ![6272, 12]⟩
abbrev S1x12x128 : Shape := ⟨3, ![1, 12, 128]⟩
abbrev S12x128 : Shape := ⟨2, ![12, 128]⟩
abbrev S56x112x128 : Shape := ⟨3, ![56, 112, 128]⟩

abbrev nBuf : Space → Nat
  | .hbm => 15
  | .vmem => 6
  | .smem => 0
  | _ => 0

abbrev bufTy : (tb : Table) → Fin (tcTables nBuf tb) → BufTy
  | .hbm, ⟨0, _⟩ => ⟨S2x3x224x224, .f32⟩
  | .hbm, ⟨1, _⟩ => ⟨S128x3x4x4, .f32⟩
  | .hbm, ⟨2, _⟩ => ⟨S128, .f32⟩
  | .hbm, ⟨3, _⟩ => ⟨S2x224x224x3, .f32⟩
  | .hbm, ⟨4, _⟩ => ⟨S_, .i32⟩
  | .hbm, ⟨5, _⟩ => ⟨S_, .f32⟩
  | .hbm, ⟨6, _⟩ => ⟨S2x226x226x3, .f32⟩
  | .hbm, ⟨7, _⟩ => ⟨S2x113x2x113x2x3, .f32⟩
  | .hbm, ⟨8, _⟩ => ⟨S2x113x113x2x2x3, .f32⟩
  | .hbm, ⟨9, _⟩ => ⟨S2x113x113x12, .f32⟩
  | .hbm, ⟨10, _⟩ => ⟨S128x3x2x2x2x2, .f32⟩
  | .hbm, ⟨11, _⟩ => ⟨S2x2x2x2x3x128, .f32⟩
  | .hbm, ⟨12, _⟩ => ⟨S4x12x128, .f32⟩
  | .hbm, ⟨13, _⟩ => ⟨S1x128, .f32⟩
  | .hbm, ⟨14, _⟩ => ⟨S2x112x112x128, .f32⟩
  | .local _ .vmem, ⟨0, _⟩ => ⟨S1x113x113x12, .f32⟩
  | .local _ .vmem, ⟨1, _⟩ => ⟨S1x113x113x12, .f32⟩
  | .local _ .vmem, ⟨2, _⟩ => ⟨S4x12x128, .f32⟩
  | .local _ .vmem, ⟨3, _⟩ => ⟨S1x128, .f32⟩
  | .local _ .vmem, ⟨4, _⟩ => ⟨S1x56x112x128, .f32⟩
  | .local _ .vmem, ⟨5, _⟩ => ⟨S1x56x112x128, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 2], ![false, false]⟩

def k0_off1 (i : grid0.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let c0_i32_0 : BitVec 32 := 0#32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_8 : BitVec 32) : Fin 4 → Nat :=
  let c0_10 : Index := 0#32
  let arg1 : BitVec 32 := BitVec.ofNat 32 (i 1).val
  let c56_i32_7 : BitVec 32 := 56#32
  let v14 : BitVec 32 := Scalar.muli arg1 c56_i32_7
  let v15 : BitVec 32 := Scalar.addi v14 c0_i32_8
  let c0_i32_9 : BitVec 32 := 0#32
  let v16 : BitVec 32 := Scalar.addi v15 c0_i32_9
  let v17 : Index := Scalar.indexCast v16
  let c1 : Index := 1#32
  let c0_11 : Index := 0#32
  ![0, v17.toNat, 1, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x113x113x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x56x112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Enc0RefIdeal.lean ====
abbrev S2x3x224x224 : Shape := ⟨4, ![2, 3, 224, 224]⟩
abbrev S128x3x4x4 : Shape := ⟨4, ![128, 3, 4, 4]⟩
abbrev S128 : Shape := ⟨1, ![128]⟩
abbrev S2x224x224x3 : Shape := ⟨4, ![2, 224, 224, 3]⟩
abbrev S_ : Shape := ⟨0, ![]⟩
abbrev S2x226x226x3 : Shape := ⟨4, ![2, 226, 226, 3]⟩
abbrev S112 : Shape := ⟨1, ![112]⟩
abbrev S112x1 : Shape := ⟨2, ![112, 1]⟩
abbrev S4 : Shape := ⟨1, ![4]⟩
abbrev S1x4 : Shape := ⟨2, ![1, 4]⟩
abbrev S112x4 : Shape := ⟨2, ![112, 4]⟩
abbrev S112x4x1 : Shape := ⟨3, ![112, 4, 1]⟩
abbrev S2x226x112x4x3 : Shape := ⟨5, ![2, 226, 112, 4, 3]⟩
abbrev S2x112x4x112x4x3 : Shape := ⟨6, ![2, 112, 4, 112, 4, 3]⟩
abbrev S2x112x112x128 : Shape := ⟨4, ![2, 112, 112, 128]⟩
abbrev S1x1x1x128 : Shape := ⟨4, ![1, 1, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S2x3x224x224, .f32⟩
  | .hbm, ⟨1, _⟩ => ⟨S128x3x4x4, .f32⟩
  | .hbm, ⟨2, _⟩ => ⟨S128, .f32⟩
  | .hbm, ⟨3, _⟩ => ⟨S2x224x224x3, .f32⟩
  | .hbm, ⟨4, _⟩ => ⟨S_, .i32⟩
  | .hbm, ⟨5, _⟩ => ⟨S_, .f32⟩
  | .hbm, ⟨6, _⟩ => ⟨S2x226x226x3, .f32⟩
  | .hbm, ⟨7, _⟩ => ⟨S112, .i32⟩
  | .hbm, ⟨8, _⟩ => ⟨S112x1, .i32⟩
  | .hbm, ⟨9, _⟩ => ⟨S_, .i32⟩
  | .hbm, ⟨10, _⟩ => ⟨S112x1, .i32⟩
  | .hbm, ⟨11, _⟩ => ⟨S112x1, .i32⟩
  | .hbm, ⟨12, _⟩ => ⟨S4, .i32⟩
  | .hbm, ⟨13, _⟩ => ⟨S1x4, .i32⟩
  | .hbm, ⟨14, _⟩ => ⟨S112x4, .i32⟩
  | .hbm, ⟨15, _⟩ => ⟨S112x4, .i32⟩
  | .hbm, ⟨16, _⟩ => ⟨S112x4, .i32⟩
  | .hbm, ⟨17, _⟩ => ⟨S112x4x1, .i32⟩
  | .hbm, ⟨18, _⟩ => ⟨S2x226x112x4x3, .f32⟩
  | .hbm, ⟨19, _⟩ => ⟨S112, .i32⟩
  | .hbm, ⟨20, _⟩ => ⟨S112x1, .i32⟩
  | .hbm, ⟨21, _⟩ => ⟨S_, .i32⟩
  | .hbm, ⟨22, _⟩ => ⟨S112x1, .i32⟩
  | .hbm, ⟨23, _⟩ => ⟨S112x1, .i32⟩
  | .hbm, ⟨24, _⟩ => ⟨S4, .i32⟩
  | .hbm, ⟨25, _⟩ => ⟨S1x4, .i32⟩
  | .hbm, ⟨26, _⟩ => ⟨S112x4, .i32⟩
  | .hbm, ⟨27, _⟩ => ⟨S112x4, .i32⟩
  | .hbm, ⟨28, _⟩ => ⟨S112x4, .i32⟩
  | .hbm, ⟨29, _⟩ => ⟨S112x4x1, .i32⟩
  | .hbm, ⟨30, _⟩ => ⟨S2x112x4x112x4x3, .f32⟩
  | .hbm, ⟨31, _⟩ => ⟨S2x112x112x128, .f32⟩
  | .hbm, ⟨32, _⟩ => ⟨S1x1x1x128, .f32⟩
  | .hbm, ⟨33, _⟩ => ⟨S2x112x112x128, .f32⟩
  | .hbm, ⟨34, _⟩ => ⟨S2x112x112x128, .f32⟩
  | .hbm, ⟨35, _⟩ => ⟨S_, .f32⟩
  | .hbm, ⟨36, _⟩ => ⟨S2x112x112x128, .f32⟩
  | .hbm, ⟨37, _⟩ => ⟨S2x112x112x128, .f32⟩
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call2_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Vq.lean ====
abbrev S6272x256 : Shape := ⟨2, ![6272, 256]⟩
abbrev S1024x256 : Shape := ⟨2, ![1024, 256]⟩
abbrev S256x1024 : Shape := ⟨2, ![256, 1024]⟩
abbrev S1x128 : Shape := ⟨2, ![1, 128]⟩
abbrev S448x256 : Shape := ⟨2, ![448, 256]⟩
abbrev S1x1024 : Shape := ⟨2, ![1, 1024]⟩
abbrev S1024 : Shape := ⟨1, ![1024]⟩
abbrev S448x1 : Shape := ⟨2, ![448, 1]⟩
abbrev S256x128 : Shape := ⟨2, ![256, 128]⟩
abbrev S448x128 : Shape := ⟨2, ![448, 128]⟩
abbrev S448 : Shape := ⟨1, ![448]⟩
abbrev S128x256 : Shape := ⟨2, ![128, 256]⟩
abbrev S128 : Shape := ⟨1, ![128]⟩
abbrev S1x448x256 : Shape := ⟨3, ![1, 448, 256]⟩
abbrev S1 : Shape := ⟨1, ![1]⟩
abbrev S1x1x1 : Shape := ⟨3, ![1, 1, 1]⟩
abbrev S1x1x1024 : Shape := ⟨3, ![1, 1, 1024]⟩
abbrev S1x1x128 : Shape := ⟨3, ![1, 1, 128]⟩

abbrev nBuf : Space → Nat
  | .hbm => 5
  | .vmem => 10
  | .smem => 0
  | _ => 0

abbrev bufTy : (tb : Table) → Fin (tcTables nBuf tb) → BufTy
  | .hbm, ⟨0, _⟩ => ⟨S6272x256, .f32⟩
  | .hbm, ⟨1, _⟩ => ⟨S1024x256, .f32⟩
  | .hbm, ⟨2, _⟩ => ⟨S256x1024, .f32⟩
  | .hbm, ⟨3, _⟩ => ⟨S6272x256, .f32⟩
  | .hbm, ⟨4, _⟩ => ⟨S1x128, .f32⟩
  | .local _ .vmem, ⟨0, _⟩ => ⟨S448x256, .f32⟩
  | .local _ .vmem, ⟨1, _⟩ => ⟨S448x256, .f32⟩
  | .local _ .vmem, ⟨2, _⟩ => ⟨S1024x256, .f32⟩
  | .local _ .vmem, ⟨3, _⟩ => ⟨S256x1024, .f32⟩
  | .local _ .vmem, ⟨4, _⟩ => ⟨S448x256, .f32⟩
  | .local _ .vmem, ⟨5, _⟩ => ⟨S448x256, .f32⟩
  | .local _ .vmem, ⟨6, _⟩ => ⟨S1x128, .f32⟩
  | .local _ .vmem, ⟨7, _⟩ => ⟨S1x1024, .f32⟩
  | .local _ .vmem, ⟨8, _⟩ => ⟨S1x1024, .f32⟩
  | .local _ .vmem, ⟨9, _⟩ => ⟨S1x128, .f32⟩
  | _, _ => ⟨S6272x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v369 : BitVec 1 := Scalar.cmpi .eq arg0 c13_i32
  let v370 : BitVec 32 := Scalar.extui v369
  let c0_i32_150 : BitVec 32 := 0#32
  let v371 : BitVec 1 := Scalar.cmpi .ne v370 c0_i32_150
  v371

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S448x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S448x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== VqRefIdeal.lean ====
abbrev S6272x256 : Shape := ⟨2, ![6272, 256]⟩
abbrev S1024x256 : Shape := ⟨2, ![1024, 256]⟩
abbrev S_ : Shape := ⟨0, ![]⟩
abbrev S6272 : Shape := ⟨1, ![6272]⟩
abbrev S6272x1 : Shape := ⟨2, ![6272, 1]⟩
abbrev S1024 : Shape := ⟨1, ![1024]⟩
abbrev S1x1024 : Shape := ⟨2, ![1, 1024]⟩
abbrev S6272x1024 : Shape := ⟨2, ![6272, 1024]⟩
abbrev S256x1024 : Shape := ⟨2, ![256, 1024]⟩
abbrev S128 : Shape := ⟨1, ![128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S6272x256, .f32⟩
  | .hbm, ⟨1, _⟩ => ⟨S1024x256, .f32⟩
  | .hbm, ⟨2, _⟩ => ⟨S6272x256, .f32⟩
  | .hbm, ⟨3, _⟩ => ⟨S_, .f32⟩
  | .hbm, ⟨4, _⟩ => ⟨S6272, .f32⟩
  | .hbm, ⟨5, _⟩ => ⟨S6272x1, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S6272x1024, .f32⟩
  | .hbm, ⟨11, _⟩ => ⟨S6272x1024, .f32⟩
  | .hbm, ⟨12, _⟩ => ⟨S6272x1024, .f32⟩
  | .hbm, ⟨13, _⟩ => ⟨S256x1024, .f32⟩
  | .hbm, ⟨14, _⟩ => ⟨S6272x1024, .f32⟩
  | .hbm, ⟨15, _⟩ => ⟨S_, .f32⟩
  | .hbm, ⟨16, _⟩ => ⟨S6272x1024, .f32⟩
  | .hbm, ⟨17, _⟩ => ⟨S6272x1024, .f32⟩
  | .hbm, ⟨18, _⟩ => ⟨S6272x1024, .f32⟩
  | .hbm, ⟨19, _⟩ => ⟨S_, .f32⟩
  | .hbm, ⟨20, _⟩ => ⟨S6272, .f32⟩
  | .hbm, ⟨21, _⟩ => ⟨S6272x1, .f32⟩
  | .hbm, ⟨22, _⟩ => ⟨S6272x1024, .f32⟩
  | .hbm, ⟨23, _⟩ => ⟨S6272x1024, .i1⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S6272x1024, .i32⟩
  | .hbm, ⟨28, _⟩ => ⟨S6272x1024, .i32⟩
  | .hbm, ⟨29, _⟩ => ⟨S6272x1024, .i32⟩
  | .hbm, ⟨30, _⟩ => ⟨S_, .i32⟩
  | .hbm, ⟨31, _⟩ => ⟨S6272, .i32⟩
  | .hbm, ⟨32, _⟩ => ⟨S6272x1, .i32⟩
  | .hbm, ⟨33, _⟩ => ⟨S1024, .i32⟩
  | .hbm, ⟨34, _⟩ => ⟨S1x1024, .i32⟩
  | .hbm, ⟨35, _⟩ => ⟨S6272x1024, .i32⟩
  | .hbm, ⟨36, _⟩ => ⟨S6272x1024, .i32⟩
  | .hbm, ⟨37, _⟩ => ⟨S6272x1024, .i1⟩
  | .hbm, ⟨38, _⟩ => ⟨S6272x1024, .f32⟩
  | .hbm, ⟨39, _⟩ => ⟨S6272x256, .f32⟩
  | .hbm, ⟨40, _⟩ => ⟨S6272x256, .f32⟩
  | .hbm, ⟨41, _⟩ => ⟨S6272x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S6272x256, .f32⟩
  | .hbm, ⟨49, _⟩ => ⟨S6272x256, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .i32⟩
  | .hbm, ⟨65, _⟩ => ⟨S1x128, .i32⟩
  | .hbm, ⟨66, _⟩ => ⟨S_, .i32⟩
  | .hbm, ⟨67, _⟩ => ⟨S1x128, .i32⟩
  | .hbm, ⟨68, _⟩ => ⟨S1x128, .i1⟩
  | .hbm, ⟨69, _⟩ => ⟨S_, .i32⟩
  | .hbm, ⟨70, _⟩ => ⟨S1x128, .i32⟩
  | .hbm, ⟨71, _⟩ => ⟨S1x128, .i1⟩
  | .hbm, ⟨72, _⟩ => ⟨S_, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | _, _ => ⟨S6272x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v52 : Ref sig .tc := ⟨.hbm, 76, rfl⟩
abbrev main_call2_v0 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Windows.lean ====
/- Reading the windows of an image. The references gather the k-wide windows of the columns, then of the rows, of a padded
   image and contract them with the weights once. Here each gather is read at an index and the contraction becomes the triple
   sum over the window's row, its column and the input channel, at any extents. -/
module

public import Idealize.ShloMosaic.PureOps.Ideal.Laws
public import Idealize.ShloMosaic.Lib.Pointwise

@[expose] public section

noncomputable section

namespace Cert.Proof.Windows

open Idealize.ShloMosaic
open scoped BigOperators

/-! ## The two gathers -/

section Gather
variable {α : Type}

/-- Windows of the columns: result (b, r, q, j, c) reads column `I[q, j]` of row `r`. -/
abbrev colDims (B R W q k C : ℕ)
    (wf : GatherDims.WF ⟨4, ![B, R, W, C]⟩ ⟨3, ![q, k, 1]⟩ ⟨5, ![B, R, q, k, C]⟩ [0, 1, 4] [2] [] [2] [] 2 ![B, R, 1, C]) :
    GatherDims ⟨4, ![B, R, W, C]⟩ ⟨3, ![q, k, 1]⟩ ⟨5, ![B, R, q, k, C]⟩ where
  offsetDims := [0, 1, 4]
  collapsedSliceDims := [2]
  operandBatchingDims := []
  startIndicesBatchingDims := []
  startIndexMap := [2]
  indexVectorDim := 2
  sliceSizes := ![B, R, 1, C]
  wf := wf

theorem gather_col {B R W q k C w : ℕ}
    (wf : GatherDims.WF ⟨4, ![B, R, W, C]⟩ ⟨3, ![q, k, 1]⟩ ⟨5, ![B, R, q, k, C]⟩ [0, 1, 4] [2] [] [2] [] 2 ![B, R, 1, C])
    (x : (⟨4, ![B, R, W, C]⟩ : Shape).Idx → α) (I : IVec ⟨3, ![q, k, 1]⟩ w)
    (b : Fin B) (r : Fin R) (u : Fin q) (j : Fin k) (c : Fin C) (v : Fin W)
    (hI : (I (ix3 u j 0)).toInt.toNat = v.val) :
    Host.gather (colDims B R W q k C wf) x I (ix5 b r u j c) = x (ix4 b r v c) := by
  unfold Host.gather
  congr 1
  funext a
  refine Fin.ext ?_
  show (colDims B R W q k C wf).start (ix5 b r u j c) I a + (colDims B R W q k C wf).batchCoord (ix5 b r u j c) a
    + (colDims B R W q k C wf).offCoord (ix5 b r u j c) a = _
  rw [GatherDims.batchCoord_eq_zero _ _ _ List.not_mem_nil, Nat.add_zero]
  match a with
  | ⟨0, _⟩ => exact Nat.zero_add _
  | ⟨1, _⟩ => exact Nat.zero_add _
  | ⟨2, h⟩ =>
    have hsi : (colDims B R W q k C wf).siIdx (ix5 b r u j c) ⟨0, Nat.one_pos⟩ = ix3 u j 0 := by
      funext e; refine Fin.ext ?_
      match e with
      | ⟨0, _⟩ => rfl
      | ⟨1, _⟩ => rfl
      | ⟨2, _⟩ => rfl
    have h1 : (colDims B R W q k C wf).offCoord (ix5 b r u j c) (2 : Fin 4) = 0 := rfl
    have h2 : (colDims B R W q k C wf).start (ix5 b r u j c) I (2 : Fin 4)
        = min (I ((colDims B R W q k C wf).siIdx (ix5 b r u j c) ⟨0, Nat.one_pos⟩)).toInt.toNat (W - 1) := rfl
    have hv := v.isLt
    show (colDims B R W q k C wf).start (ix5 b r u j c) I (2 : Fin 4)
      + (colDims B R W q k C wf).offCoord (ix5 b r u j c) (2 : Fin 4) = v.val
    rw [h1, h2, hsi, hI]; omega
  | ⟨3, _⟩ => exact Nat.zero_add _

/-- Windows of the rows: result (b, p, i, q, j, c) reads row `I[p, i]`. -/
abbrev rowDims (B R p l q k C : ℕ)
    (wf : GatherDims.WF ⟨5, ![B, R, q, k, C]⟩ ⟨3, ![p, l, 1]⟩ ⟨6, ![B, p, l, q, k, C]⟩ [0, 3, 4, 5] [1] [] [1] [] 2
      ![B, 1, q, k, C]) :
    GatherDims ⟨5, ![B, R, q, k, C]⟩ ⟨3, ![p, l, 1]⟩ ⟨6, ![B, p, l, q, k, C]⟩ where
  offsetDims := [0, 3, 4, 5]
  collapsedSliceDims := [1]
  operandBatchingDims := []
  startIndicesBatchingDims := []
  startIndexMap := [1]
  indexVectorDim := 2
  sliceSizes := ![B, 1, q, k, C]
  wf := wf

theorem gather_row {B R p l q k C w : ℕ}
    (wf : GatherDims.WF ⟨5, ![B, R, q, k, C]⟩ ⟨3, ![p, l, 1]⟩ ⟨6, ![B, p, l, q, k, C]⟩ [0, 3, 4, 5] [1] [] [1] [] 2
      ![B, 1, q, k, C])
    (x : (⟨5, ![B, R, q, k, C]⟩ : Shape).Idx → α) (I : IVec ⟨3, ![p, l, 1]⟩ w)
    (b : Fin B) (t : Fin p) (i : Fin l) (u : Fin q) (j : Fin k) (c : Fin C) (v : Fin R)
    (hI : (I (ix3 t i 0)).toInt.toNat = v.val) :
    Host.gather (rowDims B R p l q k C wf) x I (ix6 b t i u j c) = x (ix5 b v u j c) := by
  unfold Host.gather
  congr 1
  funext a
  refine Fin.ext ?_
  show (rowDims B R p l q k C wf).start (ix6 b t i u j c) I a + (rowDims B R p l q k C wf).batchCoord (ix6 b t i u j c) a
    + (rowDims B R p l q k C wf).offCoord (ix6 b t i u j c) a = _
  rw [GatherDims.batchCoord_eq_zero _ _ _ List.not_mem_nil, Nat.add_zero]
  match a with
  | ⟨0, _⟩ => exact Nat.zero_add _
  | ⟨1, h⟩ =>
    have hsi : (rowDims B R p l q k C wf).siIdx (ix6 b t i u j c) ⟨0, Nat.one_pos⟩ = ix3 t i 0 := by
      funext e; refine Fin.ext ?_
      match e with
      | ⟨0, _⟩ => rfl
      | ⟨1, _⟩ => rfl
      | ⟨2, _⟩ => rfl
    have h1 : (rowDims B R p l q k C wf).offCoord (ix6 b t i u j c) (1 : Fin 5) = 0 := rfl
    have h2 : (rowDims B R p l q k C wf).start (ix6 b t i u j c) I (1 : Fin 5)
        = min (I ((rowDims B R p l q k C wf).siIdx (ix6 b t i u j c) ⟨0, Nat.one_pos⟩)).toInt.toNat (R - 1) := rfl
    have hv := v.isLt
    show (rowDims B R p l q k C wf).start (ix6 b t i u j c) I (1 : Fin 5)
      + (rowDims B R p l q k C wf).offCoord (ix6 b t i u j c) (1 : Fin 5) = v.val
    rw [h1, h2, hsi, hI]; omega
  | ⟨2, _⟩ => exact Nat.zero_add _
  | ⟨3, _⟩ => exact Nat.zero_add _
  | ⟨4, _⟩ => exact Nat.zero_add _

end Gather

/-! ## The contraction -/

/-- Windows (b, h, i, w, j, c) by weights (o, c, i, j): the contraction runs over (c, i, j). -/
abbrev convDims (B p l q k C O : ℕ)
    (wf : DotDims.WF ⟨6, ![B, p, l, q, k, C]⟩ ⟨4, ![O, C, l, k]⟩ ⟨4, ![B, p, q, O]⟩ [5, 2, 4] [1, 2, 3] [0, 1, 3] [0] [] []) :
    DotDims ⟨6, ![B, p, l, q, k, C]⟩ ⟨4, ![O, C, l, k]⟩ ⟨4, ![B, p, q, O]⟩ where
  lhsContracting := [5, 2, 4]
  rhsContracting := [1, 2, 3]
  lhsNonContracting := [0, 1, 3]
  rhsNonContracting := [0]
  lhsBatch := []
  rhsBatch := []
  wf := wf

/-- The contraction's index is the triple of its coordinates. -/
def contrTriple {B p l q k C O : ℕ}
    (wf : DotDims.WF ⟨6, ![B, p, l, q, k, C]⟩ ⟨4, ![O, C, l, k]⟩ ⟨4, ![B, p, q, O]⟩ [5, 2, 4] [1, 2, 3] [0, 1, 3] [0] [] []) :
    Fin C × Fin l × Fin k ≃ (convDims B p l q k C O wf).contr.Idx where
  toFun t := fun a => match a with
    | ⟨0, _⟩ => (t.1 : Fin C)
    | ⟨1, _⟩ => (t.2.1 : Fin l)
    | ⟨2, _⟩ => (t.2.2 : Fin k)
    | ⟨_ + 3, h⟩ => absurd h (Nat.not_lt.2 (Nat.le_add_left 3 _))
  invFun x := ((x ⟨0, (by decide : 0 < 3)⟩ : Fin C), (x ⟨1, (by decide : 1 < 3)⟩ : Fin l), (x ⟨2, (by decide : 2 < 3)⟩ : Fin k))
  left_inv _ := rfl
  right_inv x := by
    funext a
    match a with
    | ⟨0, _⟩ => rfl
    | ⟨1, _⟩ => rfl
    | ⟨2, _⟩ => rfl
    | ⟨_ + 3, h⟩ => exact absurd h (Nat.not_lt.2 (Nat.le_add_left 3 _))

/-- The contraction at (b, h, w, o): the sum over the window's row `i`, its column `j` and the channel `c`. -/
theorem conv_dot {B p l q k C O : ℕ}
    (wf : DotDims.WF ⟨6, ![B, p, l, q, k, C]⟩ ⟨4, ![O, C, l, k]⟩ ⟨4, ![B, p, q, O]⟩ [5, 2, 4] [1, 2, 3] [0, 1, 3] [0] [] [])
    (L : FVec Ideal ⟨6, ![B, p, l, q, k, C]⟩ .f32) (R : FVec Ideal ⟨4, ![O, C, l, k]⟩ .f32)
    (b : Fin B) (h : Fin p) (w : Fin q) (o : Fin O) :
    Host.dotGeneral (convDims B p l q k C O wf) none L R (ix4 b h w o)
      = ∑ i : Fin l, ∑ j : Fin k, ∑ c : Fin C, L (ix6 b h i w j c) * R (ix4 o c i j) := by
  simp only [Host.dotGeneral]
  rw [Ideal.dotGeneral_apply]
  rw [← Equiv.sum_comp (contrTriple wf), Fintype.sum_prod_type]
  simp only [Fintype.sum_prod_type]
  refine Finset.sum_comm.trans (Finset.sum_congr rfl fun i _ => ?_)
  refine Finset.sum_comm.trans ?_
  refine Finset.sum_congr rfl fun j _ => Finset.sum_congr rfl fun c _ => ?_
  have el : (convDims B p l q k C O wf).lhsIdx (ix4 b h w o) (contrTriple wf (c, i, j)) = ix6 b h i w j c := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  have er : (convDims B p l q k C O wf).rhsIdx (ix4 b h w o) (contrTriple wf (c, i, j)) = ix4 o c i j := by
    funext a; apply Fin.ext
    match a with
    | ⟨0, _⟩ => rfl
    | ⟨1, _⟩ => rfl
    | ⟨2, _⟩ => rfl
    | ⟨3, _⟩ => rfl
  exact congrArg₂ (fun x y => L x * R y) el er

/-- The whole reading: the contraction of the windows of `x` is the sum of `x[b, H h i, V w j, c] * R[o, c, i, j]`, where
    the index words hold the rows `H h i` and the columns `V w j`. -/
theorem conv_windows {B Hp Wp p l q k C O w₁ w₂ : ℕ}
    (wf : DotDims.WF ⟨6, ![B, p, l, q, k, C]⟩ ⟨4, ![O, C, l, k]⟩ ⟨4, ![B, p, q, O]⟩ [5, 2, 4] [1, 2, 3] [0, 1, 3] [0] [] [])
    (wr : GatherDims.WF ⟨5, ![B, Hp, q, k, C]⟩ ⟨3, ![p, l, 1]⟩ ⟨6, ![B, p, l, q, k, C]⟩ [0, 3, 4, 5] [1] [] [1] [] 2
      ![B, 1, q, k, C])
    (wc : GatherDims.WF ⟨4, ![B, Hp, Wp, C]⟩ ⟨3, ![q, k, 1]⟩ ⟨5, ![B, Hp, q, k, C]⟩ [0, 1, 4] [2] [] [2] [] 2 ![B, Hp, 1, C])
    (x : FVec Ideal ⟨4, ![B, Hp, Wp, C]⟩ .f32) (R : FVec Ideal ⟨4, ![O, C, l, k]⟩ .f32)
    (I : IVec ⟨3, ![p, l, 1]⟩ w₁) (J : IVec ⟨3, ![q, k, 1]⟩ w₂)
    (H : Fin p → Fin l → Fin Hp) (V : Fin q → Fin k → Fin Wp)
    (hI : ∀ t i, (I (ix3 t i 0)).toInt.toNat = (H t i).val) (hJ : ∀ u j, (J (ix3 u j 0)).toInt.toNat = (V u j).val)
    (b : Fin B) (h : Fin p) (w : Fin q) (o : Fin O) :
    Host.dotGeneral (convDims B p l q k C O wf) none
        (Host.gather (rowDims B Hp p l q k C wr) (Host.gather (colDims B Hp Wp q k C wc) x J) I) R (ix4 b h w o)
      = ∑ i : Fin l, ∑ j : Fin k, ∑ c : Fin C, x (ix4 b (H h i) (V w j) c) * R (ix4 o c i j) := by
  rw [conv_dot]
  refine Finset.sum_congr rfl fun i _ => Finset.sum_congr rfl fun j _ => Finset.sum_congr rfl fun c _ => ?_
  rw [gather_row wr _ I b h i w j c (H h i) (hI h i), gather_col wc x J b (H h i) w j c (V w j) (hJ w j)]

/-- Place `i` of the window that starts at `s * h`, in an extent that holds the last window whole. -/
def place {p l H : ℕ} (s : ℕ) (hs : s * (p - 1) + l ≤ H) (h : Fin p) (i : Fin l) : Fin H :=
  ⟨i.val + s * h.val, by
    have hh : h.val ≤ p - 1 := by have := h.isLt; omega
    have := Nat.mul_le_mul_left s hh; have := i.isLt; omega⟩

/-- The convolution at (b, h, w, o) of a padded image with the kernel `R` (output channel, input channel, row, column), at
    stride `s`. -/
def conv {B H W p q l k C O : ℕ} (s : ℕ) (hr : s * (p - 1) + l ≤ H) (hc : s * (q - 1) + k ≤ W)
    (x : FVec Ideal ⟨4, ![B, H, W, C]⟩ .f32) (R : FVec Ideal ⟨4, ![O, C, l, k]⟩ .f32)
    (b : Fin B) (h : Fin p) (w : Fin q) (o : Fin O) : EReal :=
  ∑ i : Fin l, ∑ j : Fin k, ∑ c : Fin C, x (ix4 b (place s hr h i) (place s hc w j) c) * R (ix4 o c i j)

/-- The word `s * n + m` of small naturals, read back. -/
theorem word_toNat (s n m : ℕ) (hb : s * n + m < 2 ^ 31) :
    (BitVec.ofNat 32 s * BitVec.ofNat 32 n + BitVec.ofNat 32 m).toInt.toNat = s * n + m := by
  have e : BitVec.ofNat 32 s * BitVec.ofNat 32 n + BitVec.ofNat 32 m = BitVec.ofNat 32 (s * n + m) := by
    simp [BitVec.ofNat_add, BitVec.ofNat_mul]
  rw [e, BitVec.toInt_eq_toNat_of_lt (by simp; omega)]
  simp; omega

/-- The words that say where the windows lie: word (t, i) is `s * t + i`. -/
def words (s p l : ℕ) : IVec ⟨3, ![p, l, 1]⟩ 32 := fun y =>
  BitVec.ofNat 32 s * BitVec.ofNat 32 (y 0).val + BitVec.ofNat 32 (y 1).val

theorem words_place {s p l H : ℕ} (hs : s * (p - 1) + l ≤ H) (hH : H < 2 ^ 31) (t : Fin p) (i : Fin l) :
    (words s p l (ix3 t i 0)).toInt.toNat = (place s hs t i).val := by
  have hb : s * t.val + i.val < 2 ^ 31 := by have := (place s hs t i).isLt; simp only [place] at this; omega
  exact (word_toNat s t.val i.val hb).trans (Nat.add_comm _ _)

/-- The windows that those words take, contracted with the weights, are the convolution. -/
theorem conv_words {B H W p q l k C O s : ℕ} (hr : s * (p - 1) + l ≤ H) (hc : s * (q - 1) + k ≤ W) (hH : H < 2 ^ 31)
    (hW : W < 2 ^ 31)
    (wf : DotDims.WF ⟨6, ![B, p, l, q, k, C]⟩ ⟨4, ![O, C, l, k]⟩ ⟨4, ![B, p, q, O]⟩ [5, 2, 4] [1, 2, 3] [0, 1, 3] [0] [] [])
    (wr : GatherDims.WF ⟨5, ![B, H, q, k, C]⟩ ⟨3, ![p, l, 1]⟩ ⟨6, ![B, p, l, q, k, C]⟩ [0, 3, 4, 5] [1] [] [1] [] 2
      ![B, 1, q, k, C])
    (wc : GatherDims.WF ⟨4, ![B, H, W, C]⟩ ⟨3, ![q, k, 1]⟩ ⟨5, ![B, H, q, k, C]⟩ [0, 1, 4] [2] [] [2] [] 2 ![B, H, 1, C])
    (x : FVec Ideal ⟨4, ![B, H, W, C]⟩ .f32) (R : FVec Ideal ⟨4, ![O, C, l, k]⟩ .f32)
    (I : IVec ⟨3, ![p, l, 1]⟩ 32) (J : IVec ⟨3, ![q, k, 1]⟩ 32) (hI : I = words s p l) (hJ : J = words s q k) :
    Host.dotGeneral (convDims B p l q k C O wf) none
        (Host.gather (rowDims B H p l q k C wr) (Host.gather (colDims B H W q k C wc) x J) I) R
      = fun y => conv s hr hc x R (y 0) (y 1) (y 2) (y 3) := by
  subst hI hJ
  funext y
  have hy : y = ix4 (y 0) (y 1) (y 2) (y 3) := by
    funext a
    match a with
    | ⟨0, _⟩ => rfl
    | ⟨1, _⟩ => rfl
    | ⟨2, _⟩ => rfl
    | ⟨3, _⟩ => rfl
  rw [hy]
  exact conv_windows wf wr wc x R _ _ _ _ (words_place hr hH) (words_place hc hW) _ _ _ _

/-! ## Space to depth: a stride-2 convolution with a 4×4 kernel as four taps over packed pixels -/

/-- A sum over packed channels, `2·2·C` of them, is the sum over the pixel's row, its column and the channel. -/
theorem sum_packed {N C : ℕ} (hN : N = 2 * 2 * C) (f : Fin N → EReal) :
    ∑ x, f x = ∑ a : Fin 2, ∑ b : Fin 2, ∑ c : Fin C, f ⟨(2 * a.val + b.val) * C + c.val, by
      have ha := a.isLt; have hb := b.isLt; have hc := c.isLt
      have : (2 * a.val + b.val) * C ≤ 3 * C := Nat.mul_le_mul_right C (by omega)
      omega⟩ := by
  subst hN
  rw [← Equiv.sum_comp finProdFinEquiv, Fintype.sum_prod_type, ← Equiv.sum_comp finProdFinEquiv, Fintype.sum_prod_type]
  refine Finset.sum_congr rfl fun a _ => Finset.sum_congr rfl fun b _ => Finset.sum_congr rfl fun c _ => congrArg f (Fin.ext ?_)
  show c.val + C * (b.val + 2 * a.val) = (2 * a.val + b.val) * C + c.val
  ring

/-- A sum of four is two sums of two. -/
theorem sum_halves (f : Fin 4 → EReal) :
    ∑ i, f i = ∑ d : Fin 2, ∑ a : Fin 2, f ⟨2 * d.val + a.val, by have := d.isLt; have := a.isLt; omega⟩ := by
  simp only [Fin.sum_univ_four, Fin.sum_univ_two, add_assoc]
  rfl

/-- Tap (d, e) of the packed convolution: the 2×2 pixels and the channels at window place (2d, 2e). -/
def tap {B H W p q C O : ℕ} (hr : 2 * (p - 1) + 4 ≤ H) (hc : 2 * (q - 1) + 4 ≤ W)
    (x : FVec Ideal ⟨4, ![B, H, W, C]⟩ .f32) (R : FVec Ideal ⟨4, ![O, C, 4, 4]⟩ .f32)
    (b : Fin B) (h : Fin p) (w : Fin q) (o : Fin O) (d e : Fin 2) : EReal :=
  ∑ a : Fin 2, ∑ a' : Fin 2, ∑ c : Fin C,
    x (ix4 b ⟨2 * (d.val + h.val) + a.val, by have := d.isLt; have := a.isLt; have := h.isLt; omega⟩
      ⟨2 * (e.val + w.val) + a'.val, by have := e.isLt; have := a'.isLt; have := w.isLt; omega⟩ c)
    * R (ix4 o c ⟨2 * d.val + a.val, by have := d.isLt; have := a.isLt; omega⟩
      ⟨2 * e.val + a'.val, by have := e.isLt; have := a'.isLt; omega⟩)

/-- The convolution at stride 2 is the sum of the four taps. -/
theorem conv_taps {B H W p q C O : ℕ} (hr : 2 * (p - 1) + 4 ≤ H) (hc : 2 * (q - 1) + 4 ≤ W)
    (x : FVec Ideal ⟨4, ![B, H, W, C]⟩ .f32) (R : FVec Ideal ⟨4, ![O, C, 4, 4]⟩ .f32)
    (b : Fin B) (h : Fin p) (w : Fin q) (o : Fin O) :
    conv 2 hr hc x R b h w o = tap hr hc x R b h w o 0 0 + tap hr hc x R b h w o 0 1 + tap hr hc x R b h w o 1 0
      + tap hr hc x R b h w o 1 1 := by
  have e : conv 2 hr hc x R b h w o = ∑ d : Fin 2, ∑ e : Fin 2, tap hr hc x R b h w o d e := by
    rw [conv, sum_halves]
    refine Finset.sum_congr rfl fun d _ => ?_
    have : ∀ a : Fin 2, (∑ j : Fin 4, ∑ c : Fin C, x (ix4 b (place 2 hr h ⟨2 * d.val + a.val, by have := d.isLt; have := a.isLt; omega⟩) (place 2 hc w j) c) * R (ix4 o c ⟨2 * d.val + a.val, by have := d.isLt; have := a.isLt; omega⟩ j))
        = ∑ e : Fin 2, ∑ a' : Fin 2, ∑ c : Fin C,
    x (ix4 b ⟨2 * (d.val + h.val) + a.val, by have := d.isLt; have := a.isLt; have := h.isLt; omega⟩
      ⟨2 * (e.val + w.val) + a'.val, by have := e.isLt; have := a'.isLt; have := w.isLt; omega⟩ c)
    * R (ix4 o c ⟨2 * d.val + a.val, by have := d.isLt; have := a.isLt; omega⟩
      ⟨2 * e.val + a'.val, by have := e.isLt; have := a'.isLt; omega⟩) := by
      intro a
      rw [sum_halves]
      refine Finset.sum_congr rfl fun e _ => Finset.sum_congr rfl fun a' _ => Finset.sum_congr rfl fun c _ => ?_
      have e1 : place 2 hr h ⟨2 * d.val + a.val, by have := d.isLt; have := a.isLt; omega⟩
          = ⟨2 * (d.val + h.val) + a.val, by have := d.isLt; have := a.isLt; have := h.isLt; omega⟩ := Fin.ext (by simp only [place]; omega)
      have e2 : place 2 hc w ⟨2 * e.val + a'.val, by have := e.isLt; have := a'.isLt; omega⟩
          = ⟨2 * (e.val + w.val) + a'.val, by have := e.isLt; have := a'.isLt; have := w.isLt; omega⟩ := Fin.ext (by simp only [place]; omega)
      rw [e1, e2]
    exact (Finset.sum_congr rfl fun a _ => this a).trans Finset.sum_comm
  rw [e]
  simp only [Fin.sum_univ_two, add_assoc]

/-- A tap is one sum over the packed channels: a packed channel is a row and a column of the square, and a channel. -/
theorem tap_packed {B H W p q N C O : ℕ} (hN : N = 2 * 2 * C) (hC : 0 < C) (hr : 2 * (p - 1) + 4 ≤ H) (hc : 2 * (q - 1) + 4 ≤ W)
    (x : FVec Ideal ⟨4, ![B, H, W, C]⟩ .f32) (R : FVec Ideal ⟨4, ![O, C, 4, 4]⟩ .f32)
    (b : Fin B) (h : Fin p) (w : Fin q) (o : Fin O) (d e : Fin 2) (f : Fin N → EReal)
    (hf : ∀ y : Fin N, ∀ (h1 : 2 * (d.val + h.val) + y.val / C / 2 < H) (h2 : 2 * (e.val + w.val) + y.val / C % 2 < W) (h3 : y.val % C < C)
      (h4 : 2 * d.val + y.val / C / 2 < 4) (h5 : 2 * e.val + y.val / C % 2 < 4),
      f y = x (ix4 b ⟨_, h1⟩ ⟨_, h2⟩ ⟨_, h3⟩) * R (ix4 o ⟨_, h3⟩ ⟨_, h4⟩ ⟨_, h5⟩)) :
    ∑ y, f y = tap hr hc x R b h w o d e := by
  rw [sum_packed hN, tap]
  refine Finset.sum_congr rfl fun a _ => Finset.sum_congr rfl fun a' _ => Finset.sum_congr rfl fun c _ => ?_
  have hd := d.isLt; have he := e.isLt; have ha := a.isLt; have ha' := a'.isLt; have hh := h.isLt; have hw := w.isLt
  have v1 : ((2 * a.val + a'.val) * C + c.val) / C = 2 * a.val + a'.val := by
    rw [Nat.add_comm, Nat.add_mul_div_right _ _ hC, Nat.div_eq_of_lt c.isLt, Nat.zero_add]
  have v2 : ((2 * a.val + a'.val) * C + c.val) % C = c.val := by
    rw [Nat.add_comm, Nat.add_mul_mod_self_right, Nat.mod_eq_of_lt c.isLt]
  have v3 : (2 * a.val + a'.val) / 2 = a.val := by omega
  have v4 : (2 * a.val + a'.val) % 2 = a'.val := by omega
  have := hf ⟨(2 * a.val + a'.val) * C + c.val, by
    have : (2 * a.val + a'.val) * C ≤ 3 * C := Nat.mul_le_mul_right C (by omega)
    have := c.isLt; omega⟩
  simp only [v1, v2, v3, v4] at this
  exact this (by omega) (by omega) c.isLt (by omega) (by omega)

end Cert.Proof.Windows

end
-- ==== Proof.ResKernel.lean ====
/- The residual block's kernel: what its launch leaves in the result array. At a grid point the body adds nine products of a
   shifted view of the bordered image with one tap of the 3×3 weights, takes the positive part, mixes the channels by the 1×1
   weights and adds the bias and the image. -/
module

public import proofs.«01_k».proof.Proof.Gen.ResIdeal.Value
public import proofs.«01_k».proof.Proof.Windows
public import Idealize.ShloMosaic.Lib.Pointwise
public import Idealize.ShloMosaic.Lib.Pipeline.ValueKit

@[expose] public section
set_option maxRecDepth 16384
noncomputable section
namespace Cert.Proof.ResKernel
open Cert.ResIdeal Cert.ResIdeal.Gen Cert.ResIdeal.Value Idealize.ShloMosaic Idealize.ShloMosaic.TcCoe Idealize.SL.Sem

variable (m : (ℓ : Loc nD τ sig) → Buf (Elt Ideal) ℓ)

/-- Where the nine views of the bordered image begin. -/
theorem offs : ∀ t : Fin cfg0.N,
    (k0_off1 (grid0.coords t) 0#32 = ![0, 0, 0, 0] ∧ k0_off1 (grid0.coords t) 1#32 = ![0, 1, 0, 0] ∧
      k0_off1 (grid0.coords t) 2#32 = ![0, 2, 0, 0]) ∧
    (k0_off2 (grid0.coords t) 0#32 = ![0, 0, 1, 0] ∧ k0_off2 (grid0.coords t) 1#32 = ![0, 1, 1, 0] ∧
      k0_off2 (grid0.coords t) 2#32 = ![0, 2, 1, 0]) ∧
    k0_off3 (grid0.coords t) 0#32 = ![0, 0, 2, 0] ∧ k0_off3 (grid0.coords t) 1#32 = ![0, 1, 2, 0] ∧
      k0_off3 (grid0.coords t) 2#32 = ![0, 2, 2, 0] :=
  (by decide +kernel : ∀ t : Fin grid0.N, _)

/-! The arguments, as arrays. -/

abbrev xA (c : Dev nD) : FVec Ideal S2x56x56x256 .f32 := m ((c.tc : Thread nD τ).loc main_arg0)
abbrev wA (c : Dev nD) : FVec Ideal S256x256x3x3 .f32 := m ((c.tc : Thread nD τ).loc main_arg1)
abbrev vA (c : Dev nD) : FVec Ideal S256x256x1x1 .f32 := m ((c.tc : Thread nD τ).loc main_arg2)
abbrev bA (c : Dev nD) : FVec Ideal S256 .f32 := m ((c.tc : Thread nD τ).loc main_arg3)

/-- The image within its border of zeros. -/
def bordered (x : FVec Ideal S2x56x56x256 .f32) : FVec Ideal S2x58x58x256 .f32 :=
  pad S2x58x58x256 ![0, 1, 1, 0] ![0, 1, 1, 0] ![0, 0, 0, 0] x (sitofp .f32 (constantI S_ 32 0#32)) pads_S2x56x56x256_S2x58x58x256_000_110_110_000 h_S_

/-! ## What the host hands to the region -/

theorem image (c : Dev nD) : V m c main_v4 = bordered (xA m c) := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v1 = shapeCast S9x256x256 (transpose S3x3x256x256 [2, 3, 1, 0] (wA m c) transposes_S256x256x3x3_S3x3x256x256_2_3_1_0) shapeCasts_S3x3x256x256_S9x256x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem mix (c : Dev nD) : V m c main_v3 = transpose S256x256 [1, 0] (shapeCast S256x256 (vA m c) shapeCasts_S256x256x1x1_S256x256) transposes_S256x256_S256x256_1_0 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v5 = shapeCast S1x256 (bA m c) shapeCasts_S256_S1x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes one image -/

theorem idx0 : ∀ t : Fin cfg0.N, win0_0.index t = ![t.val, 0, 0, 0] := (by decide +kernel : ∀ t : Fin grid0.N, _)

theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0, 0, 0] := (by decide +kernel : ∀ t : Fin grid0.N, _)
theorem idx5 : ∀ t : Fin cfg0.N, win0_5.index t = ![t.val, 0, 0, 0] := (by decide +kernel : ∀ t : Fin grid0.N, _)

/-! The input blocks, in terms of the arguments. -/

theorem blk0 (c : Dev nD) (t : Fin cfg0.N) (a : Fin 1) (h w : Fin 58) (o : Fin 256) :
    iblk m c 0 t (ix4 a h w o) = bordered (xA m c) (ix4 (t : Fin 2) h w o) := by
  rw [← image]
  refine congrArg (V m c main_v4) (funext fun e => Fin.ext ?_)
  fin_cases e <;> blk_simp [idx0] <;> rfl

theorem blk1 (c : Dev nD) (t : Fin cfg0.N) (a : Fin 9) (i o : Fin 256) :
    iblk m c 1 t (ix3 a i o) = wA m c (ix4 o i (⟨a.val / 3, by omega⟩ : Fin 3) (⟨a.val % 3, by omega⟩ : Fin 3)) := by
  refine Eq.trans (b := V m c main_v1 (ix3 a i o)) (congrArg (V m c main_v1) (funext fun e => Fin.ext ?_)) ?_
  · fin_cases e <;> blk_simp [idx1] <;> rfl
  rw [taps]
  pointwise

theorem blk2 (c : Dev nD) (t : Fin cfg0.N) (i o : Fin 256) :
    iblk m c 2 t (ix2 i o) = vA m c (ix4 o i (0 : Fin 1) (0 : Fin 1)) := by
  refine Eq.trans (b := V m c main_v3 (ix2 i o)) (congrArg (V m c main_v3) (funext fun e => Fin.ext ?_)) ?_
  · fin_cases e <;> blk_simp [idx2] <;> rfl
  rw [mix]
  pointwise

theorem blk3 (c : Dev nD) (t : Fin cfg0.N) (a : Fin 1) (o : Fin 256) :
    iblk m c 3 t (ix2 a o) = bA m c (ix1 o) := by
  refine Eq.trans (b := V m c main_v5 (ix2 a o)) (congrArg (V m c main_v5) (funext fun e => Fin.ext ?_)) ?_
  · fin_cases e <;> blk_simp [idx3] <;> rfl
  rw [bias]
  pointwise

theorem blk4 (c : Dev nD) (t : Fin cfg0.N) (a : Fin 1) (h w : Fin 56) (o : Fin 256) :
    iblk m c 4 t (ix4 a h w o) = xA m c (ix4 (t : Fin 2) h w o) := by
  refine Eq.trans (b := V m c main_arg0 (ix4 (t : Fin 2) h w o)) (congrArg (V m c main_arg0) (funext fun e => Fin.ext ?_))
    (congrFun (V_main_arg0 m c) _)
  fin_cases e <;> blk_simp [idx4] <;> rfl

/-- An element of a point's output block is the same element of that image's result. -/
theorem emb5 (t : Fin cfg0.N) (a : Fin 1) (h w : Fin 56) (o : Fin 256) :
   ((View.whole main_v6).slice (win0_5.rect t)).emb (ix4 a h w o) = ix4 (t : Fin 2) h w o := by
  funext e; apply Fin.ext
  fin_cases e <;> blk_simp [idx5] <;> rfl

/-- The residual block at (b, h, w, o). -/
def blockAt (x : FVec Ideal S2x56x56x256 .f32) (w0 : FVec Ideal S256x256x3x3 .f32) (w1 : FVec Ideal S256x256x1x1 .f32) (b1 : FVec Ideal S256 .f32)
    (b : Fin 2) (h w : Fin 56) (o : Fin 256) : EReal :=
  (∑ d : Fin 256, max (Windows.conv 1 (by decide) (by decide) (bordered x) w0 b h w d) 0 * w1 (ix4 o d (0 : Fin 1) (0 : Fin 1)))
    + b1 (ix1 o) + x (ix4 b h w o)

/-- The residual block: `x + w1 · relu(conv3x3(x, w0)) + b1`. -/
def block (x : FVec Ideal S2x56x56x256 .f32) (w0 : FVec Ideal S256x256x3x3 .f32) (w1 : FVec Ideal S256x256x1x1 .f32) (b1 : FVec Ideal S256 .f32) :
    FVec Ideal S2x56x56x256 .f32 := fun y => blockAt x w0 w1 b1 (y 0) (y 1) (y 2) (y 3)

/-- The result array after the launch is the residual block of the arguments. -/
theorem final (c : Dev nD) : (dats m 0 c).arrAt 5 cfg0.N = block (xA m c) (wA m c) (vA m c) (bA m c) := by
  refine (dats m 0 c).arrAt_eq_of_covers 5 _ (by decide +kernel) fun t hf y => ?_
  blk_simp
  rw [after0_5]
  unfold outsAt0
  frame_out
  obtain ⟨⟨a0, a1, a2⟩, ⟨b0, b1, b2⟩, c0, c1, c2⟩ := offs t
  idx_vars y
  rw [emb5]
  pointwise [k0_pay1, k0_pay2, k0_pay3, k0_pay4, k0_pay5, k0_pay6]
  simp only [a0, a1, a2, b0, b1, b2, c0, c1, c2, blk0, blk1, blk2, blk3, blk4]
  show _ = blockAt _ _ _ _ t y1 y2 y3
  simp only [blockAt, Windows.conv, Windows.place, Fin.sum_univ_three]
  simp [add_assoc]

end Cert.Proof.ResKernel

end
-- ==== Proof.ResReference.lean ====
/- The residual block's reference: its composed host term, read as the residual block of the arguments; and so the kernel and
   the reference leave the same array. -/
module

public import proofs.«01_k».proof.Proof.Gen.ResRefIdeal.Run
public import proofs.«01_k».proof.Proof.ResKernel

@[expose] public section
set_option maxRecDepth 16384
noncomputable section
namespace Cert.Proof.ResReference
open Cert.ResRefIdeal Cert.ResRefIdeal.Gen Cert.ResRefIdeal.Value Idealize.ShloMosaic Idealize.ShloMosaic.TcCoe Idealize.SL.Sem

/-- The words of the 56 windows of three. -/
abbrev starts : IVec S56x3x1 32 :=
  (broadcastInDim S56x3x1 ![0, 1] bcast_S56x3_S56x3x1_0_1 (addi (broadcastInDim S56x3 ![0, 1] bcast_S56x1_S56x3_0_1 (muli (broadcastInDim S56x1 ![] bcast_S_S56x1 (constantI S_ 32 1#32)) (broadcastInDim S56x1 ![0] bcast_S56_S56x1_0 (iotaInDim S56 32 0)))) (broadcastInDim S56x3 ![0, 1] bcast_S1x3_S56x3_0_1 (broadcastInDim S1x3 ![1] bcast_S3_S1x3_1 (iotaInDim S3 32 0)))))

theorem starts_eq : starts = Windows.words 1 56 3 := by
  funext y
  idx_vars y
  pointwise
  rfl

/-- The reference's contraction of windows is the convolution. -/
theorem conv_eq (x : FVec Ideal S2x56x56x256 .f32) (w0 : FVec Ideal S256x256x3x3 .f32) :
    Host.dotGeneral dot_S2x56x3x56x3x256_S256x256x3x3_S2x56x56x256_524_123_013_0_n_n none (Host.gather gather_S2x58x56x3x256_S56x3x1_S2x56x3x56x3x256_0345_1_n_n_1_2_21563256 (Host.gather gather_S2x58x58x256_S56x3x1_S2x58x56x3x256_014_2_n_n_2_2_2581256 (pad S2x58x58x256 ![0, 1, 1, 0] ![0, 1, 1, 0] ![0, 0, 0, 0] (x) (sitofp .f32 (constantI S_ 32 0#32)) pads_S2x56x56x256_S2x58x58x256_000_110_110_000 h_S_) starts) starts) w0
     = fun y => Windows.conv 1 (by decide) (by decide) (ResKernel.bordered x) w0 (y 0 : Fin 2) (y 1 : Fin 56) (y 2 : Fin 56) (y 3) :=
  Windows.conv_words (s := 1) (by decide) (by decide) (by decide) (by decide) _ _ _ (ResKernel.bordered x) w0 starts starts starts_eq starts_eq

/-- The reference's run leaves the residual block of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = ResKernel.block (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run m ρ)
  funext y
  rw [conv_eq]
  idx_vars y
  pointwise
  rfl

end Cert.Proof.ResReference

end
-- ==== Proof.Res.lean ====
/- The residual block: the kernel and the reference compute the same array over the extended reals. -/
module

public import proofs.«01_k».proof.Defs
public import proofs.«01_k».proof.Proof.Gen.Res.Frame
public import proofs.«01_k».proof.Proof.Gen.ResIdeal.Frame
public import proofs.«01_k».proof.Proof.ResReference
public import Idealize.ShloMosaic.Lib.Quiescent

@[expose] public section

set_option maxRecDepth 16384

noncomputable section

namespace Cert.Proof.Res

open Idealize.ShloMosaic Idealize.ShloMosaic.TcCoe Idealize.SL.Sem

/-- The reference is host operations alone, so every counter stays at zero. -/
theorem reference_frame : Cert.quiescent_ResRefIdeal (hResRefIdeal := Cert.ResRefIdeal.Gen.facts) := by
  intro m g _
  exact (θ_run _ _ _).mono (fun r h => ⟨fun c => (h c).2, sem_eq_zero_of_no_sems (by decide) r.2⟩) (ResReference.read m g)

/-- Kernel and reference agree. -/
theorem algebraic :
    Cert.algebraic_ResIdeal_ResRefIdeal (hResIdeal := Cert.ResIdeal.Gen.facts) (hResRefIdeal := Cert.ResRefIdeal.Gen.facts) := by
  intro m g m' g' _ hargs
  refine ⟨fun c => ResKernel.block (ResKernel.xA m c) (ResKernel.wA m c) (ResKernel.vA m c) (ResKernel.bA m c), ?_, ?_⟩
  · refine (θ_run _ _ _).mono (fun r h c => ⟨(h c).1.trans (ResKernel.final m c), (h c).2⟩) (Cert.ResIdeal.Value.run_blocks m g)
  · refine (θ_run _ _ _).mono (fun r h c => ⟨(h c).1.trans ?_, (h c).2⟩) (ResReference.read m' g')
    obtain ⟨h0, h1, h2, h3⟩ := hargs c
    rw [h0, h1, h2, h3]

end Cert.Proof.Res

end
-- ==== Proof.DecKernel.lean ====
/- The decoder's 3×3 convolution's kernel: what its launch leaves in the result array. At a grid point the body adds nine products of a
   shifted view of the bordered image with one tap of the 3×3 weights, and the bias. -/
module

public import proofs.«01_k».proof.Proof.Gen.DecIdeal.Value
public import proofs.«01_k».proof.Proof.Windows
public import Idealize.ShloMosaic.Lib.Pointwise
public import Idealize.ShloMosaic.Lib.Pipeline.ValueKit

@[expose] public section
set_option maxRecDepth 16384
noncomputable section
namespace Cert.Proof.DecKernel
open Cert.DecIdeal Cert.DecIdeal.Gen Cert.DecIdeal.Value Idealize.ShloMosaic Idealize.ShloMosaic.TcCoe Idealize.SL.Sem

variable (m : (ℓ : Loc nD τ sig) → Buf (Elt Ideal) ℓ)

/-- Where the nine views of the bordered image begin. -/
theorem offs : ∀ t : Fin cfg0.N,
    (k0_off1 (grid0.coords t) 0#32 = ![0, 0, 0, 0] ∧ k0_off1 (grid0.coords t) 1#32 = ![0, 1, 0, 0] ∧
      k0_off1 (grid0.coords t) 2#32 = ![0, 2, 0, 0]) ∧
    (k0_off2 (grid0.coords t) 0#32 = ![0, 0, 1, 0] ∧ k0_off2 (grid0.coords t) 1#32 = ![0, 1, 1, 0] ∧
      k0_off2 (grid0.coords t) 2#32 = ![0, 2, 1, 0]) ∧
    k0_off3 (grid0.coords t) 0#32 = ![0, 0, 2, 0] ∧ k0_off3 (grid0.coords t) 1#32 = ![0, 1, 2, 0] ∧
      k0_off3 (grid0.coords t) 2#32 = ![0, 2, 2, 0] :=
  (by decide +kernel : ∀ t : Fin grid0.N, _)

/-! The arguments, as arrays. -/

abbrev xA (c : Dev nD) : FVec Ideal S2x56x56x256 .f32 := m ((c.tc : Thread nD τ).loc main_arg0)
abbrev wA (c : Dev nD) : FVec Ideal S256x256x3x3 .f32 := m ((c.tc : Thread nD τ).loc main_arg1)
abbrev bA (c : Dev nD) : FVec Ideal S256 .f32 := m ((c.tc : Thread nD τ).loc main_arg2)

/-- The image within its border of zeros. -/
def bordered (x : FVec Ideal S2x56x56x256 .f32) : FVec Ideal S2x58x58x256 .f32 :=
  pad S2x58x58x256 ![0, 1, 1, 0] ![0, 1, 1, 0] ![0, 0, 0, 0] x (sitofp .f32 (constantI S_ 32 0#32)) pads_S2x56x56x256_S2x58x58x256_000_110_110_000 h_S_

/-! ## What the host hands to the region -/

theorem image (c : Dev nD) : V m c main_v0 = bordered (xA m c) := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v2 = shapeCast S9x256x256 (transpose S3x3x256x256 [2, 3, 1, 0] (wA m c) transposes_S256x256x3x3_S3x3x256x256_2_3_1_0) shapeCasts_S3x3x256x256_S9x256x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v3 = shapeCast S1x256 (bA m c) shapeCasts_S256_S1x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes one image -/

theorem idx0 : ∀ t : Fin cfg0.N, win0_0.index t = ![t.val, 0, 0, 0] := (by decide +kernel : ∀ t : Fin grid0.N, _)

theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0, 0] := (by decide +kernel : ∀ t : Fin grid0.N, _)

/-! The input blocks, in terms of the arguments. -/

theorem blk0 (c : Dev nD) (t : Fin cfg0.N) (a : Fin 1) (h w : Fin 58) (o : Fin 256) :
    iblk m c 0 t (ix4 a h w o) = bordered (xA m c) (ix4 (t : Fin 2) h w o) := by
  rw [← image]
  refine congrArg (V m c main_v0) (funext fun e => Fin.ext ?_)
  fin_cases e <;> blk_simp [idx0] <;> rfl

theorem blk1 (c : Dev nD) (t : Fin cfg0.N) (a : Fin 9) (i o : Fin 256) :
    iblk m c 1 t (ix3 a i o) = wA m c (ix4 o i (⟨a.val / 3, by omega⟩ : Fin 3) (⟨a.val % 3, by omega⟩ : Fin 3)) := by
  refine Eq.trans (b := V m c main_v2 (ix3 a i o)) (congrArg (V m c main_v2) (funext fun e => Fin.ext ?_)) ?_
  · fin_cases e <;> blk_simp [idx1] <;> rfl
  rw [taps]
  pointwise

theorem blk2 (c : Dev nD) (t : Fin cfg0.N) (a : Fin 1) (o : Fin 256) :
    iblk m c 2 t (ix2 a o) = bA m c (ix1 o) := by
  refine Eq.trans (b := V m c main_v3 (ix2 a o)) (congrArg (V m c main_v3) (funext fun e => Fin.ext ?_)) ?_
  · fin_cases e <;> blk_simp [idx2] <;> rfl
  rw [bias]
  pointwise

/-- An element of a point's output block is the same element of that image's result. -/
theorem emb3 (t : Fin cfg0.N) (a : Fin 1) (h w : Fin 56) (o : Fin 256) :
   ((View.whole main_v4).slice (win0_3.rect t)).emb (ix4 a h w o) = ix4 (t : Fin 2) h w o := by
  funext e; apply Fin.ext
  fin_cases e <;> blk_simp [idx3] <;> rfl

/-- The convolution at (b, h, w, o). -/
def blockAt (x : FVec Ideal S2x56x56x256 .f32) (w0 : FVec Ideal S256x256x3x3 .f32) (b1 : FVec Ideal S256 .f32)
    (b : Fin 2) (h w : Fin 56) (o : Fin 256) : EReal :=
  Windows.conv 1 (by decide) (by decide) (bordered x) w0 b h w o + b1 (ix1 o)

/-- The convolution: `conv3x3(x, w0) + b1`. -/
def block (x : FVec Ideal S2x56x56x256 .f32) (w0 : FVec Ideal S256x256x3x3 .f32) (b1 : FVec Ideal S256 .f32) :
    FVec Ideal S2x56x56x256 .f32 := fun y => blockAt x w0 b1 (y 0) (y 1) (y 2) (y 3)

/-- The result array after the launch is the convolution of the arguments. -/
theorem final (c : Dev nD) : (dats m 0 c).arrAt 3 cfg0.N = block (xA m c) (wA m c) (bA m c) := by
  refine (dats m 0 c).arrAt_eq_of_covers 3 _ (by decide +kernel) fun t hf y => ?_
  blk_simp
  rw [after0_3]
  unfold outsAt0
  frame_out
  obtain ⟨⟨a0, a1, a2⟩, ⟨b0, b1, b2⟩, c0, c1, c2⟩ := offs t
  idx_vars y
  rw [emb3]
  pointwise [k0_pay1, k0_pay2, k0_pay3, k0_pay4, k0_pay5]
  simp only [a0, a1, a2, b0, b1, b2, c0, c1, c2, blk0, blk1, blk2]
  show _ = blockAt _ _ _ t y1 y2 y3
  simp only [blockAt, Windows.conv, Windows.place, Fin.sum_univ_three]
  simp [add_assoc]

end Cert.Proof.DecKernel

end
-- ==== Proof.DecReference.lean ====
/- The decoder's 3×3 convolution's reference: its composed host term, read as the convolution of the arguments. -/
module

public import proofs.«01_k».proof.Proof.Gen.DecRefIdeal.Run
public import proofs.«01_k».proof.Proof.DecKernel

@[expose] public section
set_option maxRecDepth 16384
noncomputable section
namespace Cert.Proof.DecReference
open Cert.DecRefIdeal Cert.DecRefIdeal.Gen Cert.DecRefIdeal.Value Idealize.ShloMosaic Idealize.ShloMosaic.TcCoe Idealize.SL.Sem

/-- The words of the 56 windows of three. -/
abbrev starts : IVec S56x3x1 32 :=
  (broadcastInDim S56x3x1 ![0, 1] bcast_S56x3_S56x3x1_0_1 (addi (broadcastInDim S56x3 ![0, 1] bcast_S56x1_S56x3_0_1 (muli (broadcastInDim S56x1 ![] bcast_S_S56x1 (constantI S_ 32 1#32)) (broadcastInDim S56x1 ![0] bcast_S56_S56x1_0 (iotaInDim S56 32 0)))) (broadcastInDim S56x3 ![0, 1] bcast_S1x3_S56x3_0_1 (broadcastInDim S1x3 ![1] bcast_S3_S1x3_1 (iotaInDim S3 32 0)))))

theorem starts_eq : starts = Windows.words 1 56 3 := by
  funext y
  idx_vars y
  pointwise
  rfl

/-- The reference's contraction of windows is the convolution. -/
theorem conv_eq (x : FVec Ideal S2x56x56x256 .f32) (w0 : FVec Ideal S256x256x3x3 .f32) :
    Host.dotGeneral dot_S2x56x3x56x3x256_S256x256x3x3_S2x56x56x256_524_123_013_0_n_n none (Host.gather gather_S2x58x56x3x256_S56x3x1_S2x56x3x56x3x256_0345_1_n_n_1_2_21563256 (Host.gather gather_S2x58x58x256_S56x3x1_S2x58x56x3x256_014_2_n_n_2_2_2581256 (pad S2x58x58x256 ![0, 1, 1, 0] ![0, 1, 1, 0] ![0, 0, 0, 0] (x) (sitofp .f32 (constantI S_ 32 0#32)) pads_S2x56x56x256_S2x58x58x256_000_110_110_000 h_S_) starts) starts) w0
     = fun y => Windows.conv 1 (by decide) (by decide) (DecKernel.bordered x) w0 (y 0 : Fin 2) (y 1 : Fin 56) (y 2 : Fin 56) (y 3) :=
  Windows.conv_words (s := 1) (by decide) (by decide) (by decide) (by decide) _ _ _ (DecKernel.bordered x) w0 starts starts starts_eq starts_eq

/-- The reference's run leaves the convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = DecKernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  pointwise
  rfl

end Cert.Proof.DecReference

end
-- ==== Proof.Dec.lean ====
/- The decoder's 3×3 convolution: the kernel and the reference compute the same array over the extended reals. -/
module

public import proofs.«01_k».proof.Defs
public import proofs.«01_k».proof.Proof.Gen.Dec.Frame
public import proofs.«01_k».proof.Proof.Gen.DecIdeal.Frame
public import proofs.«01_k».proof.Proof.DecReference
public import Idealize.ShloMosaic.Lib.Quiescent

@[expose] public section

set_option maxRecDepth 16384

noncomputable section

namespace Cert.Proof.Dec

open Idealize.ShloMosaic Idealize.ShloMosaic.TcCoe Idealize.SL.Sem

/-- The reference is host operations alone, so every counter stays at zero. -/
theorem reference_frame : Cert.quiescent_DecRefIdeal (hDecRefIdeal := Cert.DecRefIdeal.Gen.facts) := by
  intro m g _
  exact (θ_run _ _ _).mono (fun r h => ⟨fun c => (h c).2, sem_eq_zero_of_no_sems (by decide) r.2⟩) (DecReference.read m g)

/-- Kernel and reference agree. -/
theorem algebraic :
    Cert.algebraic_DecIdeal_DecRefIdeal (hDecIdeal := Cert.DecIdeal.Gen.facts) (hDecRefIdeal := Cert.DecRefIdeal.Gen.facts) := by
  intro m g m' g' _ hargs
  refine ⟨fun c => DecKernel.block (DecKernel.xA m c) (DecKernel.wA m c) (DecKernel.bA m c), ?_, ?_⟩
  · refine (θ_run _ _ _).mono (fun r h c => ⟨(h c).1.trans (DecKernel.final m c), (h c).2⟩) (Cert.DecIdeal.Value.run_blocks m g)
  · refine (θ_run _ _ _).mono (fun r h c => ⟨(h c).1.trans ?_, (h c).2⟩) (DecReference.read m' g')
    obtain ⟨h0, h1, h2⟩ := hargs c
    rw [h0, h1, h2]

end Cert.Proof.Dec

end
-- ==== Proof.Enc2Kernel.lean ====
/- The encoder's 3×3 convolution's kernel: what its launch leaves in the result array. At a grid point the body adds nine products of a
   shifted view of the bordered image with one tap of the 3×3 weights, and the bias, and takes the positive part. -/
module

public import proofs.«01_k».proof.Proof.Gen.Enc2Ideal.Value
public import proofs.«01_k».proof.Proof.Windows
public import Idealize.ShloMosaic.Lib.Pointwise
public import Idealize.ShloMosaic.Lib.Pipeline.ValueKit

@[expose] public section
set_option maxRecDepth 16384
noncomputable section
namespace Cert.Proof.Enc2Kernel
open Cert.Enc2Ideal Cert.Enc2Ideal.Gen Cert.Enc2Ideal.Value Idealize.ShloMosaic Idealize.ShloMosaic.TcCoe Idealize.SL.Sem

variable (m : (ℓ : Loc nD τ sig) → Buf (Elt Ideal) ℓ)

/-- Where the nine views of the bordered image begin. -/
theorem offs : ∀ t : Fin cfg0.N,
    (k0_off1 (grid0.coords t) 0#32 = ![0, 0, 0, 0] ∧ k0_off1 (grid0.coords t) 1#32 = ![0, 1, 0, 0] ∧
      k0_off1 (grid0.coords t) 2#32 = ![0, 2, 0, 0]) ∧
    (k0_off2 (grid0.coords t) 0#32 = ![0, 0, 1, 0] ∧ k0_off2 (grid0.coords t) 1#32 = ![0, 1, 1, 0] ∧
      k0_off2 (grid0.coords t) 2#32 = ![0, 2, 1, 0]) ∧
    k0_off3 (grid0.coords t) 0#32 = ![0, 0, 2, 0] ∧ k0_off3 (grid0.coords t) 1#32 = ![0, 1, 2, 0] ∧
      k0_off3 (grid0.coords t) 2#32 = ![0, 2, 2, 0] :=
  (by decide +kernel : ∀ t : Fin grid0.N, _)

/-! The arguments, as arrays. -/

abbrev xA (c : Dev nD) : FVec Ideal S2x56x56x256 .f32 := m ((c.tc : Thread nD τ).loc main_arg0)
abbrev wA (c : Dev nD) : FVec Ideal S256x256x3x3 .f32 := m ((c.tc : Thread nD τ).loc main_arg1)
abbrev bA (c : Dev nD) : FVec Ideal S256 .f32 := m ((c.tc : Thread nD τ).loc main_arg2)

/-- The image within its border of zeros. -/
def bordered (x : FVec Ideal S2x56x56x256 .f32) : FVec Ideal S2x58x58x256 .f32 :=
  pad S2x58x58x256 ![0, 1, 1, 0] ![0, 1, 1, 0] ![0, 0, 0, 0] x (sitofp .f32 (constantI S_ 32 0#32)) pads_S2x56x56x256_S2x58x58x256_000_110_110_000 h_S_

/-! ## What the host hands to the region -/

theorem image (c : Dev nD) : V m c main_v0 = bordered (xA m c) := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v2 = shapeCast S9x256x256 (transpose S3x3x256x256 [2, 3, 1, 0] (wA m c) transposes_S256x256x3x3_S3x3x256x256_2_3_1_0) shapeCasts_S3x3x256x256_S9x256x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v3 = shapeCast S1x256 (bA m c) shapeCasts_S256_S1x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes one image -/

theorem idx0 : ∀ t : Fin cfg0.N, win0_0.index t = ![t.val, 0, 0, 0] := (by decide +kernel : ∀ t : Fin grid0.N, _)

theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0, 0] := (by decide +kernel : ∀ t : Fin grid0.N, _)

/-! The input blocks, in terms of the arguments. -/

theorem blk0 (c : Dev nD) (t : Fin cfg0.N) (a : Fin 1) (h w : Fin 58) (o : Fin 256) :
    iblk m c 0 t (ix4 a h w o) = bordered (xA m c) (ix4 (t : Fin 2) h w o) := by
  rw [← image]
  refine congrArg (V m c main_v0) (funext fun e => Fin.ext ?_)
  fin_cases e <;> blk_simp [idx0] <;> rfl

theorem blk1 (c : Dev nD) (t : Fin cfg0.N) (a : Fin 9) (i o : Fin 256) :
    iblk m c 1 t (ix3 a i o) = wA m c (ix4 o i (⟨a.val / 3, by omega⟩ : Fin 3) (⟨a.val % 3, by omega⟩ : Fin 3)) := by
  refine Eq.trans (b := V m c main_v2 (ix3 a i o)) (congrArg (V m c main_v2) (funext fun e => Fin.ext ?_)) ?_
  · fin_cases e <;> blk_simp [idx1] <;> rfl
  rw [taps]
  pointwise

theorem blk2 (c : Dev nD) (t : Fin cfg0.N) (a : Fin 1) (o : Fin 256) :
    iblk m c 2 t (ix2 a o) = bA m c (ix1 o) := by
  refine Eq.trans (b := V m c main_v3 (ix2 a o)) (congrArg (V m c main_v3) (funext fun e => Fin.ext ?_)) ?_
  · fin_cases e <;> blk_simp [idx2] <;> rfl
  rw [bias]
  pointwise

/-- An element of a point's output block is the same element of that image's result. -/
theorem emb3 (t : Fin cfg0.N) (a : Fin 1) (h w : Fin 56) (o : Fin 256) :
   ((View.whole main_v4).slice (win0_3.rect t)).emb (ix4 a h w o) = ix4 (t : Fin 2) h w o := by
  funext e; apply Fin.ext
  fin_cases e <;> blk_simp [idx3] <;> rfl

/-- The convolution at (b, h, w, o). -/
def blockAt (x : FVec Ideal S2x56x56x256 .f32) (w0 : FVec Ideal S256x256x3x3 .f32) (b1 : FVec Ideal S256 .f32)
    (b : Fin 2) (h w : Fin 56) (o : Fin 256) : EReal :=
  max (Windows.conv 1 (by decide) (by decide) (bordered x) w0 b h w o + b1 (ix1 o)) 0

/-- The convolution: `relu(conv3x3(x, w0) + b1)`. -/
def block (x : FVec Ideal S2x56x56x256 .f32) (w0 : FVec Ideal S256x256x3x3 .f32) (b1 : FVec Ideal S256 .f32) :
    FVec Ideal S2x56x56x256 .f32 := fun y => blockAt x w0 b1 (y 0) (y 1) (y 2) (y 3)

/-- The result array after the launch is the convolution of the arguments. -/
theorem final (c : Dev nD) : (dats m 0 c).arrAt 3 cfg0.N = block (xA m c) (wA m c) (bA m c) := by
  refine (dats m 0 c).arrAt_eq_of_covers 3 _ (by decide +kernel) fun t hf y => ?_
  blk_simp
  rw [after0_3]
  unfold outsAt0
  frame_out
  obtain ⟨⟨a0, a1, a2⟩, ⟨b0, b1, b2⟩, c0, c1, c2⟩ := offs t
  idx_vars y
  rw [emb3]
  pointwise [k0_pay1, k0_pay2, k0_pay3, k0_pay4, k0_pay5]
  simp only [a0, a1, a2, b0, b1, b2, c0, c1, c2, blk0, blk1, blk2]
  show _ = blockAt _ _ _ t y1 y2 y3
  simp only [blockAt, Windows.conv, Windows.place, Fin.sum_univ_three]
  simp [add_assoc]

end Cert.Proof.Enc2Kernel

end
-- ==== Proof.Enc2Reference.lean ====
/- The encoder's 3×3 convolution's reference: its composed host term, read as the convolution of the arguments. -/
module

public import proofs.«01_k».proof.Proof.Gen.Enc2RefIdeal.Run
public import proofs.«01_k».proof.Proof.Enc2Kernel

@[expose] public section
set_option maxRecDepth 16384
noncomputable section
namespace Cert.Proof.Enc2Reference
open Cert.Enc2RefIdeal Cert.Enc2RefIdeal.Gen Cert.Enc2RefIdeal.Value Idealize.ShloMosaic Idealize.ShloMosaic.TcCoe Idealize.SL.Sem

/-- The words of the 56 windows of three. -/
abbrev starts : IVec S56x3x1 32 :=
  (broadcastInDim S56x3x1 ![0, 1] bcast_S56x3_S56x3x1_0_1 (addi (broadcastInDim S56x3 ![0, 1] bcast_S56x1_S56x3_0_1 (muli (broadcastInDim S56x1 ![] bcast_S_S56x1 (constantI S_ 32 1#32)) (broadcastInDim S56x1 ![0] bcast_S56_S56x1_0 (iotaInDim S56 32 0)))) (broadcastInDim S56x3 ![0, 1] bcast_S1x3_S56x3_0_1 (broadcastInDim S1x3 ![1] bcast_S3_S1x3_1 (iotaInDim S3 32 0)))))

theorem starts_eq : starts = Windows.words 1 56 3 := by
  funext y
  idx_vars y
  pointwise
  rfl

/-- The reference's contraction of windows is the convolution. -/
theorem conv_eq (x : FVec Ideal S2x56x56x256 .f32) (w0 : FVec Ideal S256x256x3x3 .f32) :
    Host.dotGeneral dot_S2x56x3x56x3x256_S256x256x3x3_S2x56x56x256_524_123_013_0_n_n none (Host.gather gather_S2x58x56x3x256_S56x3x1_S2x56x3x56x3x256_0345_1_n_n_1_2_21563256 (Host.gather gather_S2x58x58x256_S56x3x1_S2x58x56x3x256_014_2_n_n_2_2_2581256 (pad S2x58x58x256 ![0, 1, 1, 0] ![0, 1, 1, 0] ![0, 0, 0, 0] (x) (sitofp .f32 (constantI S_ 32 0#32)) pads_S2x56x56x256_S2x58x58x256_000_110_110_000 h_S_) starts) starts) w0
     = fun y => Windows.conv 1 (by decide) (by decide) (Enc2Kernel.bordered x) w0 (y 0 : Fin 2) (y 1 : Fin 56) (y 2 : Fin 56) (y 3) :=
  Windows.conv_words (s := 1) (by decide) (by decide) (by decide) (by decide) _ _ _ (Enc2Kernel.bordered x) w0 starts starts starts_eq starts_eq

/-- The reference's run leaves the convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = Enc2Kernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  pointwise
  rfl

end Cert.Proof.Enc2Reference

end
-- ==== Proof.Enc2.lean ====
/- The encoder's 3×3 convolution: the kernel and the reference compute the same array over the extended reals. -/
module

public import proofs.«01_k».proof.Defs
public import proofs.«01_k».proof.Proof.Gen.Enc2.Frame
public import proofs.«01_k».proof.Proof.Gen.Enc2Ideal.Frame
public import proofs.«01_k».proof.Proof.Enc2Reference
public import Idealize.ShloMosaic.Lib.Quiescent

@[expose] public section

set_option maxRecDepth 16384

noncomputable section

namespace Cert.Proof.Enc2

open Idealize.ShloMosaic Idealize.ShloMosaic.TcCoe Idealize.SL.Sem

/-- The reference is host operations alone, so every counter stays at zero. -/
theorem reference_frame : Cert.quiescent_Enc2RefIdeal (hEnc2RefIdeal := Cert.Enc2RefIdeal.Gen.facts) := by
  intro m g _
  exact (θ_run _ _ _).mono (fun r h => ⟨fun c => (h c).2, sem_eq_zero_of_no_sems (by decide) r.2⟩) (Enc2Reference.read m g)

/-- Kernel and reference agree. -/
theorem algebraic :
    Cert.algebraic_Enc2Ideal_Enc2RefIdeal (hEnc2Ideal := Cert.Enc2Ideal.Gen.facts) (hEnc2RefIdeal := Cert.Enc2RefIdeal.Gen.facts) := by
  intro m g m' g' _ hargs
  refine ⟨fun c => Enc2Kernel.block (Enc2Kernel.xA m c) (Enc2Kernel.wA m c) (Enc2Kernel.bA m c), ?_, ?_⟩
  · refine (θ_run _ _ _).mono (fun r h c => ⟨(h c).1.trans (Enc2Kernel.final m c), (h c).2⟩) (Cert.Enc2Ideal.Value.run_blocks m g)
  · refine (θ_run _ _ _).mono (fun r h c => ⟨(h c).1.trans ?_, (h c).2⟩) (Enc2Reference.read m' g')
    obtain ⟨h0, h1, h2⟩ := hargs c
    rw [h0, h1, h2]

end Cert.Proof.Enc2

end
-- ==== Proof.Deconv.lean ====
/- Reading a transposed convolution at stride 2 with a 4×4 kernel. The references convolve, at stride 1, the image spread out
   with zeros; at a result pixel only the kernel's rows and columns of the pixel's own parity meet the image, so the sum is one
   over a 2×2 window. The kernels gather those rows and columns of the weights on the host; those gathers are read here too. -/
module

public import proofs.«01_k».proof.Proof.Windows

@[expose] public section

noncomputable section

namespace Cert.Proof.Windows

open Idealize.ShloMosaic
open scoped BigOperators

/-! ## Picking rows, then columns, of the weights -/

section Pick
variable {α : Type}

/-- Rows of the weights: result (c, o, i, j) reads row `I[i]`. -/
abbrev rowPick (A B H W k : ℕ)
    (wf : GatherDims.WF ⟨4, ![A, B, H, W]⟩ ⟨2, ![k, 1]⟩ ⟨4, ![A, B, k, W]⟩ [0, 1, 3] [2] [] [2] [] 1 ![A, B, 1, W]) :
    GatherDims ⟨4, ![A, B, H, W]⟩ ⟨2, ![k, 1]⟩ ⟨4, ![A, B, k, W]⟩ where
  offsetDims := [0, 1, 3]
  collapsedSliceDims := [2]
  operandBatchingDims := []
  startIndicesBatchingDims := []
  startIndexMap := [2]
  indexVectorDim := 1
  sliceSizes := ![A, B, 1, W]
  wf := wf

theorem gather_rowPick {A B H W k w : ℕ}
    (wf : GatherDims.WF ⟨4, ![A, B, H, W]⟩ ⟨2, ![k, 1]⟩ ⟨4, ![A, B, k, W]⟩ [0, 1, 3] [2] [] [2] [] 1 ![A, B, 1, W])
    (x : (⟨4, ![A, B, H, W]⟩ : Shape).Idx → α) (I : IVec ⟨2, ![k, 1]⟩ w)
    (a : Fin A) (b : Fin B) (i : Fin k) (j : Fin W) (v : Fin H) (hI : (I (ix2 i 0)).toInt.toNat = v.val) :
    Host.gather (rowPick A B H W k wf) x I (ix4 a b i j) = x (ix4 a b v j) := by
  unfold Host.gather
  congr 1
  funext e
  refine Fin.ext ?_
  show (rowPick A B H W k wf).start (ix4 a b i j) I e + (rowPick A B H W k wf).batchCoord (ix4 a b i j) e
    + (rowPick A B H W k wf).offCoord (ix4 a b i j) e = _
  rw [GatherDims.batchCoord_eq_zero _ _ _ List.not_mem_nil, Nat.add_zero]
  match e with
  | ⟨0, _⟩ => exact Nat.zero_add _
  | ⟨1, _⟩ => exact Nat.zero_add _
  | ⟨2, h⟩ =>
    have hsi : (rowPick A B H W k wf).siIdx (ix4 a b i j) ⟨0, Nat.one_pos⟩ = ix2 i 0 := by
      funext e; refine Fin.ext ?_
      match e with
      | ⟨0, _⟩ => rfl
      | ⟨1, _⟩ => rfl
    have h1 : (rowPick A B H W k wf).offCoord (ix4 a b i j) (2 : Fin 4) = 0 := rfl
    have h2 : (rowPick A B H W k wf).start (ix4 a b i j) I (2 : Fin 4)
        = min (I ((rowPick A B H W k wf).siIdx (ix4 a b i j) ⟨0, Nat.one_pos⟩)).toInt.toNat (H - 1) := rfl
    have hv := v.isLt
    show (rowPick A B H W k wf).start (ix4 a b i j) I (2 : Fin 4) + (rowPick A B H W k wf).offCoord (ix4 a b i j) (2 : Fin 4) = v.val
    rw [h1, h2, hsi, hI]; omega
  | ⟨3, _⟩ => exact Nat.zero_add _

/-- Columns of the weights: result (c, o, i, j) reads column `I[j]`. -/
abbrev colPick (A B H W k : ℕ)
    (wf : GatherDims.WF ⟨4, ![A, B, H, W]⟩ ⟨2, ![k, 1]⟩ ⟨4, ![A, B, H, k]⟩ [0, 1, 2] [3] [] [3] [] 1 ![A, B, H, 1]) :
    GatherDims ⟨4, ![A, B, H, W]⟩ ⟨2, ![k, 1]⟩ ⟨4, ![A, B, H, k]⟩ where
  offsetDims := [0, 1, 2]
  collapsedSliceDims := [3]
  operandBatchingDims := []
  startIndicesBatchingDims := []
  startIndexMap := [3]
  indexVectorDim := 1
  sliceSizes := ![A, B, H, 1]
  wf := wf

theorem gather_colPick {A B H W k w : ℕ}
    (wf : GatherDims.WF ⟨4, ![A, B, H, W]⟩ ⟨2, ![k, 1]⟩ ⟨4, ![A, B, H, k]⟩ [0, 1, 2] [3] [] [3] [] 1 ![A, B, H, 1])
    (x : (⟨4, ![A, B, H, W]⟩ : Shape).Idx → α) (I : IVec ⟨2, ![k, 1]⟩ w)
    (a : Fin A) (b : Fin B) (i : Fin H) (j : Fin k) (v : Fin W) (hI : (I (ix2 j 0)).toInt.toNat = v.val) :
    Host.gather (colPick A B H W k wf) x I (ix4 a b i j) = x (ix4 a b i v) := by
  unfold Host.gather
  congr 1
  funext e
  refine Fin.ext ?_
  show (colPick A B H W k wf).start (ix4 a b i j) I e + (colPick A B H W k wf).batchCoord (ix4 a b i j) e
    + (colPick A B H W k wf).offCoord (ix4 a b i j) e = _
  rw [GatherDims.batchCoord_eq_zero _ _ _ List.not_mem_nil, Nat.add_zero]
  match e with
  | ⟨0, _⟩ => exact Nat.zero_add _
  | ⟨1, _⟩ => exact Nat.zero_add _
  | ⟨2, _⟩ => exact Nat.zero_add _
  | ⟨3, h⟩ =>
    have hsi : (colPick A B H W k wf).siIdx (ix4 a b i j) ⟨0, Nat.one_pos⟩ = ix2 j 0 := by
      funext e; refine Fin.ext ?_
      match e with
      | ⟨0, _⟩ => rfl
      | ⟨1, _⟩ => rfl
    have h1 : (colPick A B H W k wf).offCoord (ix4 a b i j) (3 : Fin 4) = 0 := rfl
    have h2 : (colPick A B H W k wf).start (ix4 a b i j) I (3 : Fin 4)
        = min (I ((colPick A B H W k wf).siIdx (ix4 a b i j) ⟨0, Nat.one_pos⟩)).toInt.toNat (W - 1) := rfl
    have hv := v.isLt
    show (colPick A B H W k wf).start (ix4 a b i j) I (3 : Fin 4) + (colPick A B H W k wf).offCoord (ix4 a b i j) (3 : Fin 4) = v.val
    rw [h1, h2, hsi, hI]; omega

end Pick

/-! ## The spread image -/

/-- A sum of four whose terms vanish off one parity is a sum of two. -/
theorem sum_parity (f : Fin 4 → EReal) (n : ℕ) (hz : ∀ i : Fin 4, (i.val + n) % 2 = 1 → f i = 0) :
    ∑ i, f i = ∑ a : Fin 2, f ⟨2 * a.val + n % 2, by have := a.isLt; omega⟩ := by
  simp only [Fin.sum_univ_four, Fin.sum_univ_two]
  have h2 := Nat.mod_two_eq_zero_or_one n
  rcases h2 with h | h
  · rw [hz 1 (by show (1 + n) % 2 = 1; omega), hz 3 (by show (3 + n) % 2 = 1; omega)]
    simp only [add_zero]
    congr 2 <;> apply Fin.ext <;> simp [h]
  · rw [hz 0 (by show (0 + n) % 2 = 1; omega), hz 2 (by show (2 + n) % 2 = 1; omega)]
    simp only [add_zero, zero_add]
    congr 2 <;> apply Fin.ext <;> simp [h]

/-- Tap (a, a') of the transposed convolution at result pixel (2h + q, 2w + q'): a view of the image within its border of one
    against the kernel's row `2a + q` and column `2a' + q'`. -/
def dtap {B H W C O : ℕ} (X : FVec Ideal ⟨4, ![B, H, W, C]⟩ .f32) (R : FVec Ideal ⟨4, ![O, C, 4, 4]⟩ .f32)
    (b : Fin B) (o : Fin O) (r s : ℕ) (hr : r < H) (hs : s < W) (i j : Fin 4) : EReal :=
  ∑ c : Fin C, X (ix4 b ⟨r, hr⟩ ⟨s, hs⟩ c) * R (ix4 o c i j)

/-- The convolution of the spread image is four taps on the image. -/
theorem conv_spread {B H W Hd Wd p q C O : ℕ} (hr : 1 * (p - 1) + 4 ≤ Hd) (hc : 1 * (q - 1) + 4 ≤ Wd)
    (hH : p / 2 + 2 ≤ H) (hW : q / 2 + 2 ≤ W) (hp : p % 2 = 0) (hq : q % 2 = 0)
    (X : FVec Ideal ⟨4, ![B, H, W, C]⟩ .f32) (D : FVec Ideal ⟨4, ![B, Hd, Wd, C]⟩ .f32) (R : FVec Ideal ⟨4, ![O, C, 4, 4]⟩ .f32)
    (even : ∀ b (r : Fin Hd) (s : Fin Wd) c (h1 : r.val / 2 < H) (h2 : s.val / 2 < W), r.val % 2 = 0 → s.val % 2 = 0 →
      D (ix4 b r s c) = X (ix4 b ⟨r.val / 2, h1⟩ ⟨s.val / 2, h2⟩ c))
    (odd : ∀ b (r : Fin Hd) (s : Fin Wd) c, r.val % 2 = 1 ∨ s.val % 2 = 1 → D (ix4 b r s c) = 0)
    (b : Fin B) (y : Fin p) (x : Fin q) (o : Fin O) :
    conv 1 hr hc D R b y x o = ∑ a : Fin 2, ∑ a' : Fin 2,
      dtap X R b o (y.val / 2 + y.val % 2 + a.val) (x.val / 2 + x.val % 2 + a'.val)
        (by have := a.isLt; have := y.isLt; omega) (by have := a'.isLt; have := x.isLt; omega)
        ⟨2 * a.val + y.val % 2, by have := a.isLt; omega⟩ ⟨2 * a'.val + x.val % 2, by have := a'.isLt; omega⟩ := by
  rw [conv, sum_parity _ y.val]
  · refine Finset.sum_congr rfl fun a _ => ?_
    rw [sum_parity _ x.val]
    · refine Finset.sum_congr rfl fun a' _ => Finset.sum_congr rfl fun c _ => ?_
      have := a.isLt; have := a'.isLt; have := y.isLt; have := x.isLt
      rw [even _ _ _ _ (by simp only [place]; omega) (by simp only [place]; omega) (by simp only [place]; omega) (by simp only [place]; omega)]
      congr 2
      congr 1 <;> apply Fin.ext <;> simp only [place] <;> omega
    · intro j hj
      refine Finset.sum_eq_zero fun c _ => ?_
      rw [odd _ _ _ _ (Or.inr (by simp only [place]; omega)), zero_mul]
  · intro i hi
    refine Finset.sum_eq_zero fun j _ => Finset.sum_eq_zero fun c _ => ?_
    rw [odd _ _ _ _ (Or.inl (by simp only [place]; omega)), zero_mul]

end Cert.Proof.Windows

end
-- ==== Proof.Tr1Pack.lean ====
/- The decoder's last transposed convolution's weights, packed by the host: sixteen times one tap of the kernel is written at
   its place among nine taps of twelve columns, three for each parity of the result's pixel; the other places hold zeros. -/
module
public import proofs.«01_k».proof.Proof.Gen.Tr1Ideal.Frame
public import proofs.«01_k».proof.Proof.Deconv
public import Idealize.ShloMosaic.Lib.Pointwise
public import Idealize.ShloMosaic.Lib.Routing.OpsSet
public import Idealize.ShloMosaic.Lib.Routing.OpsPair
@[expose] public section
set_option maxRecDepth 16384
noncomputable section
namespace Cert.Proof.Tr1Kernel
open Cert.Tr1Ideal Cert.Tr1Ideal.Gen Idealize.ShloMosaic Idealize.ShloMosaic.Routing Idealize.ShloMosaic.TcCoe Idealize.SL.Sem

abbrev sd : ScatterDims S3x3x128x12 S3 S128x3 := scatter_S3x3x128x12_S3_S128x3_01_01_013_0

/-- Where an update begins: the three words, and the input channels' beginning. -/
theorem begins (idx : IVec S3 32) (j : S128x3.Idx) :
    sd.start j idx 0 = (idx (ix1 (0 : Fin 3))).toInt ∧ sd.start j idx 1 = (idx (ix1 (1 : Fin 3))).toInt
      ∧ sd.start j idx 2 = 0 ∧ sd.start j idx 3 = (idx (ix1 (2 : Fin 3))).toInt := by
  refine ⟨?_, ?_, ?_, ?_⟩ <;> unfold ScatterDims.start
  · rw [dif_pos (by simp [sd, scatter_S3x3x128x12_S3_S128x3_01_01_013_0])]
    refine congrArg (fun i => (idx i).toInt) (funext fun b => Fin.ext ?_)
    fin_cases b; rfl
  · rw [dif_pos (by simp [sd, scatter_S3x3x128x12_S3_S128x3_01_01_013_0])]
    refine congrArg (fun i => (idx i).toInt) (funext fun b => Fin.ext ?_)
    fin_cases b; rfl
  · rw [dif_neg (by simp [sd, scatter_S3x3x128x12_S3_S128x3_01_01_013_0])]
  · rw [dif_pos (by simp [sd, scatter_S3x3x128x12_S3_S128x3_01_01_013_0])]
    refine congrArg (fun i => (idx i).toInt) (funext fun b => Fin.ext ?_)
    fin_cases b; rfl

/-- Where in its window an update lies. -/
theorem within (j : S128x3.Idx) :
    sd.window j 0 = 0 ∧ sd.window j 1 = 0 ∧ sd.window j 2 = (j 0).val ∧ sd.window j 3 = (j 1).val := by
  refine ⟨?_, ?_, ?_, ?_⟩ <;> unfold ScatterDims.window
  · rw [dif_neg (show _ ∉ _ by decide)]
  · rw [dif_neg (show _ ∉ _ by decide)]
  · rw [dif_pos (show _ ∈ _ by decide)]; rfl
  · rw [dif_pos (show _ ∈ _ by decide)]; rfl

/-- An update (i, o) is written at (d, e, c, k) just where the words and (i, o) say so. -/
theorem lands (idx : IVec S3 32) (j : S128x3.Idx) (d e : Fin 3) (c : Fin 128) (k : Fin 12) :
    sd.resultIdx? j idx = some (ix4 d e c k) ↔ (idx (ix1 (0 : Fin 3))).toInt = d.val ∧ (idx (ix1 (1 : Fin 3))).toInt = e.val
      ∧ (j 0).val = c.val ∧ (idx (ix1 (2 : Fin 3))).toInt + ((j 1).val : Int) = k.val := by
  rw [resultIdx?_eq_some]
  obtain ⟨s0, s1, s2, s3⟩ := begins idx j
  obtain ⟨w0, w1, w2, w3⟩ := within j
  constructor
  · intro h
    have h0 := h 0; have h1 := h 1; have h2 := h 2; have h3 := h 3
    rw [s0, w0] at h0; rw [s1, w1] at h1; rw [s2, w2] at h2; rw [s3, w3] at h3
    have h0' : (idx (ix1 (0 : Fin 3))).toInt + ((0 : ℕ) : Int) = d.val := h0
    have h1' : (idx (ix1 (1 : Fin 3))).toInt + ((0 : ℕ) : Int) = e.val := h1
    have h2' : (0 : Int) + ((j 0).val : Int) = c.val := h2
    have h3' : (idx (ix1 (2 : Fin 3))).toInt + ((j 1).val : Int) = k.val := h3
    omega
  · rintro ⟨h0, h1, h2, h3⟩ a
    fin_cases a
    · refine (congrArg₂ (fun (x : Int) (y : ℕ) => x + (y : Int)) s0 w0).trans ?_
      show _ + ((0 : ℕ) : Int) = (d.val : Int); omega
    · refine (congrArg₂ (fun (x : Int) (y : ℕ) => x + (y : Int)) s1 w1).trans ?_
      show _ + ((0 : ℕ) : Int) = (e.val : Int); omega
    · refine (congrArg₂ (fun (x : Int) (y : ℕ) => x + (y : Int)) s2 w2).trans ?_
      show (0 : Int) + _ = (c.val : Int); omega
    · refine (congrArg₂ (fun (x : Int) (y : ℕ) => x + (y : Int)) s3 w3).trans ?_
      show _ = (k.val : Int); omega

/-- The three words of an update. -/
abbrev spot (a b c : BitVec 32) : IVec S3 32 :=
  concatenate S3 0 [⟨S1, broadcastInDim S1 ![] bcast_S_S1 (constantI S_ 32 a)⟩, ⟨S1, broadcastInDim S1 ![] bcast_S_S1 (constantI S_ 32 b)⟩, ⟨S1, broadcastInDim S1 ![] bcast_S_S1 (constantI S_ 32 c)⟩] concatenates_S1_S1_S1_S3_d0

theorem spot_apply (a b c : BitVec 32) :
    spot a b c (ix1 (0 : Fin 3)) = a ∧ spot a b c (ix1 (1 : Fin 3)) = b ∧ spot a b c (ix1 (2 : Fin 3)) = c := ⟨rfl, rfl, rfl⟩

/-- An array written at one place. -/
theorem written (P : FVec Ideal S3x3x128x12 .f32) (U : FVec Ideal S128x3 .f32) (di dj : Fin 3) (p : Fin 4)
    (d e : Fin 3) (c : Fin 128) (q : Fin 4) (o : Fin 3) :
    Host.scatter sd (fun _ b => b) P (spot (BitVec.ofNat 32 di.val) (BitVec.ofNat 32 dj.val) (BitVec.ofNat 32 (3 * p.val))) U
        (ix4 d e c (⟨3 * q.val + o.val, by omega⟩ : Fin 12))
      = if d = di ∧ e = dj ∧ q = p then U (ix2 c o) else P (ix4 d e c (⟨3 * q.val + o.val, by omega⟩ : Fin 12)) := by
  obtain ⟨z0, z1, z2⟩ := spot_apply (BitVec.ofNat 32 di.val) (BitVec.ofNat 32 dj.val) (BitVec.ofNat 32 (3 * p.val))
  have t : ∀ n : Fin 12, ((BitVec.ofNat 32 n.val).toInt : Int) = n.val := by decide
  have t0 := t ⟨di.val, by omega⟩
  have t1 := t ⟨dj.val, by omega⟩
  have t2 := t ⟨3 * p.val, by omega⟩
  generalize spot (BitVec.ofNat 32 di.val) (BitVec.ofNat 32 dj.val) (BitVec.ofNat 32 (3 * p.val)) = idx at z0 z1 z2 ⊢
  dsimp only at t0 t1 t2
  rw [← z0] at t0; rw [← z1] at t1; rw [← z2] at t2
  have key : ∀ j : S128x3.Idx, sd.resultIdx? j idx = some (ix4 d e c (⟨3 * q.val + o.val, by omega⟩ : Fin 12)) →
      (d = di ∧ e = dj ∧ q = p) ∧ (j 0).val = c.val ∧ (j 1).val = o.val := by
    intro j hj
    obtain ⟨h0, h1, h2, h3⟩ := (lands idx j d e c _).1 hj
    have h3' : (idx (ix1 (2 : Fin 3))).toInt + ((j 1).val : Int) = ((3 * q.val + o.val : ℕ) : Int) := h3
    have hj1 : (j 1).val < 3 := (j 1).isLt
    have ho := o.isLt
    simp only [Fin.ext_iff]
    omega
  by_cases h : d = di ∧ e = dj ∧ q = p
  · rw [if_pos h]
    refine scatter_set_hit _ P idx U _ _ (fun j hj => ?_) (ix2 c o) ((lands idx (ix2 c o) d e c _).2 ?_)
    · obtain ⟨-, k0, k1⟩ := key j hj
      refine congrArg U (funext fun a => Fin.ext ?_)
      fin_cases a
      · exact k0
      · exact k1
    · obtain ⟨rfl, rfl, rfl⟩ := h
      refine ⟨t0, t1, rfl, ?_⟩
      show (idx (ix1 (2 : Fin 3))).toInt + (o.val : Int) = ((3 * q.val + o.val : ℕ) : Int)
      omega
  · rw [if_neg h]
    exact scatter_set_miss _ P idx U _ fun j hj => h (key j hj).1

theorem tap_in : ∀ i j : Fin 4, S128x3x4x4.Slices ![0, 0, i.val, j.val] S128x3x1x1 := by decide +kernel

/-- One tap of the kernel. -/
abbrev tap (w0 : FVec Ideal S128x3x4x4 .f32) (i j : Fin 4) : FVec Ideal S128x3 .f32 :=
  shapeCast S128x3 (extractStridedSlice S128x3x1x1 ![0, 0, i.val, j.val] w0 (tap_in i j)) shapeCasts_S128x3x1x1_S128x3

theorem tap_apply (w0 : FVec Ideal S128x3x4x4 .f32) (i j : Fin 4) (c : Fin 128) (o : Fin 3) : tap w0 i j (ix2 c o) = w0 (ix4 c o i j) := by
  unfold tap
  pointwise

/-- One of the sixteen writings: the row's and the column's parity, and which of the two rows and columns. -/
abbrev write (w0 : FVec Ideal S128x3x4x4 .f32) (P : FVec Ideal S3x3x128x12 .f32) (s : Fin 16) : FVec Ideal S3x3x128x12 .f32 :=
  Host.scatter sd (fun _ b => b) P
    (spot (BitVec.ofNat 32 (s.val / 8 + s.val / 2 % 2)) (BitVec.ofNat 32 (s.val / 4 % 2 + s.val % 2)) (BitVec.ofNat 32 (3 * (s.val / 4))))
    (tap w0 ⟨3 - s.val / 8 - 2 * (s.val / 2 % 2), by omega⟩ ⟨3 - s.val / 4 % 2 - 2 * (s.val % 2), by omega⟩)

/-- The packed weights. -/
abbrev packed (w0 : FVec Ideal S128x3x4x4 .f32) : FVec Ideal S3x3x128x12 .f32 :=
  [0, 1, 2, 3, 4, 5, 6, 7, 8, 9, 10, 11, 12, 13, 14, 15].foldl (write w0)
    (broadcastInDim S3x3x128x12 ![] bcast_S_S3x3x128x12 (constant S_ .f32 0x00000000#32))

theorem write_apply (w0 : FVec Ideal S128x3x4x4 .f32) (P : FVec Ideal S3x3x128x12 .f32) (s : Fin 16) (d e : Fin 3) (c : Fin 128) (q : Fin 4) (o : Fin 3) :
    write w0 P s (ix4 d e c (⟨3 * q.val + o.val, by omega⟩ : Fin 12))
      = if d = ⟨s.val / 8 + s.val / 2 % 2, by omega⟩ ∧ e = ⟨s.val / 4 % 2 + s.val % 2, by omega⟩ ∧ q = ⟨s.val / 4, by omega⟩
        then w0 (ix4 c o ⟨3 - s.val / 8 - 2 * (s.val / 2 % 2), by omega⟩ ⟨3 - s.val / 4 % 2 - 2 * (s.val % 2), by omega⟩)
        else P (ix4 d e c (⟨3 * q.val + o.val, by omega⟩ : Fin 12)) := by
  rw [← tap_apply w0 (⟨3 - s.val / 8 - 2 * (s.val / 2 % 2), by omega⟩ : Fin 4) (⟨3 - s.val / 4 % 2 - 2 * (s.val % 2), by omega⟩ : Fin 4) c o]
  exact written P _ ⟨s.val / 8 + s.val / 2 % 2, by omega⟩ ⟨s.val / 4 % 2 + s.val % 2, by omega⟩ ⟨s.val / 4, by omega⟩ d e c q o

theorem blank (y : S3x3x128x12.Idx) :
    (broadcastInDim S3x3x128x12 ![] bcast_S_S3x3x128x12 (constant S_ .f32 0x00000000#32) : FVec Ideal S3x3x128x12 .f32) y = 0 := by
  idx_vars y
  pointwise

section Values
variable (w0 : FVec Ideal S128x3x4x4 .f32) (c : Fin 128) (q : Fin 4) (o : Fin 3)

/-- The four places of a parity hold its taps. -/
theorem packed_tap (a a' : Fin 2) :
    packed w0 (ix4 (⟨q.val / 2 + a.val, by omega⟩ : Fin 3) (⟨q.val % 2 + a'.val, by omega⟩ : Fin 3) c (⟨3 * q.val + o.val, by omega⟩ : Fin 12))
      = w0 (ix4 c o (⟨3 - q.val / 2 - 2 * a.val, by omega⟩ : Fin 4) (⟨3 - q.val % 2 - 2 * a'.val, by omega⟩ : Fin 4)) := by
  simp only [packed, List.foldl_cons, List.foldl_nil, write_apply]
  fin_cases q <;> fin_cases a <;> fin_cases a' <;> rfl

/-- The other five hold zeros. -/
theorem packed_zero (d e : Fin 3) (h : ¬((d.val = q.val / 2 ∨ d.val = q.val / 2 + 1) ∧ (e.val = q.val % 2 ∨ e.val = q.val % 2 + 1))) :
    packed w0 (ix4 d e c (⟨3 * q.val + o.val, by omega⟩ : Fin 12)) = 0 := by
  simp only [packed, List.foldl_cons, List.foldl_nil, write_apply]
  revert h
  fin_cases q <;> fin_cases d <;> fin_cases e <;> intro h <;> first | exact absurd (by decide) h | exact blank (ix4 0 0 c 0)
end Values

/-- The packed weights, as a kernel of three rows and three columns: output column, input channel, row, column. -/
def columnsOf (w0 : FVec Ideal S128x3x4x4 .f32) : FVec Ideal ⟨4, ![12, 128, 3, 3]⟩ .f32 := fun y =>
  packed w0 (ix4 (y 2 : Fin 3) (y 3 : Fin 3) (y 1 : Fin 128) (y 0 : Fin 12))

/-- The kernel turned about: output channel, input channel, and the rows and columns last first. -/
def flipped (w0 : FVec Ideal S128x3x4x4 .f32) : FVec Ideal ⟨4, ![3, 128, 4, 4]⟩ .f32 := fun y =>
  w0 (ix4 (y 1 : Fin 128) (y 0 : Fin 3) (⟨3 - (y 2 : Fin 4).val, by omega⟩ : Fin 4) (⟨3 - (y 3 : Fin 4).val, by omega⟩ : Fin 4))

/-- A column is one of three of one of four parities. -/
theorem column_cases (k : Fin 12) : ∃ (q : Fin 4) (o' : Fin 3), k = (⟨3 * q.val + o'.val, by omega⟩ : Fin 12) :=
    ⟨⟨k.val / 3, by omega⟩, ⟨k.val % 3, by omega⟩, Fin.ext (by show k.val = 3 * (k.val / 3) + k.val % 3; omega)⟩

/-- Of nine terms those outside one parity's four places vanish. -/
theorem nine_four (q : Fin 4) (G : Fin 3 → Fin 3 → EReal)
    (none' : ∀ d e : Fin 3, ¬((d.val = q.val / 2 ∨ d.val = q.val / 2 + 1) ∧ (e.val = q.val % 2 ∨ e.val = q.val % 2 + 1)) → G d e = 0) :
    ∑ d : Fin 3, ∑ e : Fin 3, G d e = ∑ a : Fin 2, ∑ a' : Fin 2, G (⟨q.val / 2 + a.val, by omega⟩ : Fin 3) (⟨q.val % 2 + a'.val, by omega⟩ : Fin 3) := by
  simp only [Fin.sum_univ_three, Fin.sum_univ_two]
  fin_cases q
  · rw [none' 0 2 (by decide), none' 1 2 (by decide), none' 2 0 (by decide), none' 2 1 (by decide), none' 2 2 (by decide)]
    simp only [add_zero]; rfl
  · rw [none' 0 0 (by decide), none' 1 0 (by decide), none' 2 0 (by decide), none' 2 1 (by decide), none' 2 2 (by decide)]
    simp only [add_zero, zero_add]; rfl
  · rw [none' 0 0 (by decide), none' 0 1 (by decide), none' 0 2 (by decide), none' 1 2 (by decide), none' 2 2 (by decide)]
    simp only [add_zero, zero_add]; rfl
  · rw [none' 0 0 (by decide), none' 0 1 (by decide), none' 0 2 (by decide), none' 1 0 (by decide), none' 2 0 (by decide)]
    simp only [zero_add]; rfl

/-- The convolution with the packed weights, at a column of one parity, is that parity's four taps. -/
theorem conv_packed (X : FVec Ideal S2x114x114x128 .f32) (w0 : FVec Ideal S128x3x4x4 .f32) (b : Fin 2) (h w : Fin 112) (k : Fin 12)
    (Y Z : Fin 224) (o : Fin 3) (hY : Y.val = 2 * h.val + k.val / 6) (hZ : Z.val = 2 * w.val + k.val / 3 % 2) (ho : o.val = k.val % 3) :
    Windows.conv (p := 112) (q := 112) 1 (by decide) (by decide) X (columnsOf w0) b h w k
      = ∑ a : Fin 2, ∑ a' : Fin 2, Windows.dtap X (flipped w0) b o (Y.val / 2 + Y.val % 2 + a.val) (Z.val / 2 + Z.val % 2 + a'.val)
        (by omega) (by omega) ⟨2 * a.val + Y.val % 2, by omega⟩ ⟨2 * a'.val + Z.val % 2, by omega⟩ := by
  obtain ⟨q, o', rfl⟩ := column_cases k
  have hY' : Y.val = 2 * h.val + (3 * q.val + o'.val) / 6 := hY
  have hZ' : Z.val = 2 * w.val + (3 * q.val + o'.val) / 3 % 2 := hZ
  have ho' : o = o' := Fin.ext (by have : o.val = (3 * q.val + o'.val) % 3 := ho; omega)
  subst ho'
  have yq : Y.val % 2 = q.val / 2 := by omega
  have zq : Z.val % 2 = q.val % 2 := by omega
  have one : ∀ a a' : Fin 2, ∑ c : Fin 128, X (ix4 b (Windows.place 1 (by decide : 1 * (112 - 1) + 3 ≤ 114) h (⟨q.val / 2 + a.val, by omega⟩ : Fin 3))
        (Windows.place 1 (by decide : 1 * (112 - 1) + 3 ≤ 114) w (⟨q.val % 2 + a'.val, by omega⟩ : Fin 3)) c)
        * columnsOf w0 (ix4 (⟨3 * q.val + o.val, by omega⟩ : Fin 12) c (⟨q.val / 2 + a.val, by omega⟩ : Fin 3) (⟨q.val % 2 + a'.val, by omega⟩ : Fin 3))
      = Windows.dtap X (flipped w0) b o (Y.val / 2 + Y.val % 2 + a.val) (Z.val / 2 + Z.val % 2 + a'.val)
        (by omega) (by omega) ⟨2 * a.val + Y.val % 2, by omega⟩ ⟨2 * a'.val + Z.val % 2, by omega⟩ := by
    intro a a'
    unfold Windows.dtap
    refine Finset.sum_congr rfl fun c _ => ?_
    refine congrArg₂ (· * ·) ?_ ((packed_tap w0 c q o a a').trans ?_)
    · congr 1; congr 1 <;> apply Fin.ext
      · show q.val / 2 + a.val + 1 * h.val = Y.val / 2 + Y.val % 2 + a.val; omega
      · show q.val % 2 + a'.val + 1 * w.val = Z.val / 2 + Z.val % 2 + a'.val; omega
    · unfold flipped
      congr 1; congr 1 <;> apply Fin.ext
      · show 3 - q.val / 2 - 2 * a.val = 3 - (2 * a.val + Y.val % 2); rw [yq]; omega
      · show 3 - q.val % 2 - 2 * a'.val = 3 - (2 * a'.val + Z.val % 2); rw [zq]; omega
  have none : ∀ d e : Fin 3, ¬((d.val = q.val / 2 ∨ d.val = q.val / 2 + 1) ∧ (e.val = q.val % 2 ∨ e.val = q.val % 2 + 1)) →
      ∑ c : Fin 128, X (ix4 b (Windows.place 1 (by decide : 1 * (112 - 1) + 3 ≤ 114) h d) (Windows.place 1 (by decide : 1 * (112 - 1) + 3 ≤ 114) w e) c)
        * columnsOf w0 (ix4 (⟨3 * q.val + o.val, by omega⟩ : Fin 12) c d e) = 0 := by
    intro d e hde
    refine Finset.sum_eq_zero fun c _ => ?_
    refine (congrArg (X _ * ·) (packed_zero w0 c q o d e hde)).trans (mul_zero _)
  unfold Windows.conv
  simp only [← one]
  exact nine_four q _ none

end Cert.Proof.Tr1Kernel

end
-- ==== Proof.Tr1Kernel.lean ====
/- The decoder's last transposed convolution's kernel: what its launch leaves in the result array. At a grid point the body adds
   nine products of a shifted view of the bordered image with one of the nine packed taps, and the bias; a column is the row's
   parity, the column's parity and the output channel. The host then takes the pixels out of the phases. -/
module
public import proofs.«01_k».proof.Proof.Tr1Pack
public import Idealize.ShloMosaic.Lib.Pipeline.ValueKit
public import Idealize.ShloMosaic.Lib.Claim
@[expose] public section
set_option maxRecDepth 16384
noncomputable section
namespace Cert.Proof.Tr1Kernel
open Cert.Tr1Ideal Cert.Tr1Ideal.Gen Idealize.ShloMosaic Idealize.ShloMosaic.TcCoe Idealize.SL.Sem
variable (m : (ℓ : Loc nD τ sig) → Buf (Elt Ideal) ℓ) (ρ : Dev nD → PrngReg)
abbrev xA (c : Dev nD) : FVec Ideal S2x112x112x128 .f32 := m ((c.tc : Thread nD τ).loc main_arg0)
abbrev wA (c : Dev nD) : FVec Ideal S128x3x4x4 .f32 := m ((c.tc : Thread nD τ).loc main_arg1)
abbrev bA (c : Dev nD) : FVec Ideal S3 .f32 := m ((c.tc : Thread nD τ).loc main_arg2)

/-- The pixels of the result, out of the phases, channels first. -/
def unpacked (Y : FVec Ideal S2x112x112x12 .f32) : FVec Ideal S2x3x224x224 .f32 :=
  transpose S2x3x224x224 [0, 3, 1, 2] (shapeCast S2x224x224x3 (transpose S2x112x2x112x2x3 [0, 1, 3, 2, 4, 5] (shapeCast S2x112x112x2x2x3 Y shapeCasts_S2x112x112x12_S2x112x112x2x2x3) transposes_S2x112x112x2x2x3_S2x112x2x112x2x3_0_1_3_2_4_5) shapeCasts_S2x112x2x112x2x3_S2x224x224x3) transposes_S2x224x224x3_S2x3x224x224_0_3_1_2

theorem run_result :
    θ_run defs (onTc (τ := τ) (main (F := Ideal))) ⟨m, fun _ => 0, ρ⟩ fun r => ∀ c : Dev nD,
      r.2.mem ((c.tc : Thread nD τ).loc main_v123) = unpacked ((dats m 0 c).arrAt 3 cfg0.N) := by
  run_from (run_main m ρ)
  unfold Pipeline.afterTail₀
  have hv := Pipeline.withArrays_arr spec0 winFacts0.arr_inj c (V0 m c) (fun w => (dats m 0 c).arrAt w (cfgs 0).N) 3
  revert hv
  generalize Pipeline.withArrays (cfgs 0).spec c _ _ = W
  intro hv
  simp only [hostOps1, List.flatten_cons, List.flatten_nil, List.append_nil, StableHlo.TRef.binary, StableHlo.TRef.unary, StableHlo.TRef.toBuf, StableHlo.TRef.ofBuf, cast_eq]
  after_results_simp
  exact congrArg unpacked hv

/-- The kernel's run: the region's result array out of its phases, the arguments as they were. -/
theorem run_blocks :
    θ_run defs (onTc (τ := τ) (main (F := Ideal))) ⟨m, fun _ => 0, ρ⟩ fun r => ∀ c : Dev nD,
      r.2.mem ((c.tc : Thread nD τ).loc main_v123) = unpacked ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨h.1 c, h.2 c⟩) (θ_run_and (run_result m ρ) (unchanged m ρ))

/-- Where a view of the image begins. -/
theorem offs (t : Fin cfg0.N) : ∀ a : Fin 3,
    k0_off1 (grid0.coords t) (BitVec.ofNat 32 a.val) = ![0, 56 * (t.val % 2) + a.val, 0, 0] ∧
    k0_off2 (grid0.coords t) (BitVec.ofNat 32 a.val) = ![0, 56 * (t.val % 2) + a.val, 1, 0] ∧
    k0_off3 (grid0.coords t) (BitVec.ofNat 32 a.val) = ![0, 56 * (t.val % 2) + a.val, 2, 0] :=
  (by decide +kernel : ∀ t : Fin grid0.N, ∀ a : Fin 3,
    k0_off1 (grid0.coords t) (BitVec.ofNat 32 a.val) = ![0, 56 * (t.val % 2) + a.val, 0, 0] ∧
    k0_off2 (grid0.coords t) (BitVec.ofNat 32 a.val) = ![0, 56 * (t.val % 2) + a.val, 1, 0] ∧
    k0_off3 (grid0.coords t) (BitVec.ofNat 32 a.val) = ![0, 56 * (t.val % 2) + a.val, 2, 0]) t

/-- The image within its border of zeros. -/
def bordered (x : FVec Ideal S2x112x112x128 .f32) : FVec Ideal S2x114x114x128 .f32 :=
  pad S2x114x114x128 ![0, 1, 1, 0] ![0, 1, 1, 0] ![0, 0, 0, 0] x (sitofp .f32 (constantI S_ 32 0#32)) pads_S2x112x112x128_S2x114x114x128_000_110_110_000 h_S_

set_option maxHeartbeats 4000000 in
theorem image (c : Dev nD) : V m c main_v0 = bordered (xA m c) := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-- Two arrays written alike, part by part. -/
theorem written_congr {P P' : FVec Ideal S3x3x128x12 .f32} {x y z x' y' z' : IVec S1 32} {U U' : FVec Ideal S128x3 .f32}
    (hx : x = x') (hy : y = y') (hz : z = z') (hU : U = U') (hP : P = P') :
    Host.scatter sd (fun _ b => b) P (concatenate S3 0 [⟨S1, x⟩, ⟨S1, y⟩, ⟨S1, z⟩] concatenates_S1_S1_S1_S3_d0) U
      = Host.scatter sd (fun _ b => b) P' (concatenate S3 0 [⟨S1, x'⟩, ⟨S1, y'⟩, ⟨S1, z'⟩] concatenates_S1_S1_S1_S3_d0) U' := by
  rw [hx, hy, hz, hU, hP]

set_option maxHeartbeats 4000000 in
theorem taps (c : Dev nD) : V m c main_v117 = shapeCast S9x128x12 (packed (wA m c)) shapeCasts_S3x3x128x12_S9x128x12 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp
  simp only [packed, List.foldl_cons, List.foldl_nil]
  refine congrArg (fun P => shapeCast S9x128x12 P shapeCasts_S3x3x128x12_S9x128x12) ?_
  iterate 16
    refine written_congr ?_ ?_ ?_ ?_ ?_
    · after_results_simp <;> rfl
    · after_results_simp <;> rfl
    · after_results_simp <;> rfl
    · rfl
  rfl

set_option maxHeartbeats 4000000 in
theorem bias (c : Dev nD) : V m c main_v118 = shapeCast S1x12 (shapeCast S12 (broadcastInDim S4x3 ![0, 1] bcast_S1x3_S4x3_0_1 (shapeCast S1x3 (bA m c) shapeCasts_S3_S1x3)) shapeCasts_S4x3_S12) shapeCasts_S12_S1x12 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes half the rows of one image -/

theorem idx0 : ∀ t : Fin cfg0.N, win0_0.index t = ![t.val / 2, 0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 2, t.val % 2, 0, 0] := (by decide +kernel : ∀ t : Fin grid0.N, _)

/-- The image of a point, and a row of its half. -/
abbrev imageOf (t : Fin 4) : Fin 2 := ⟨t.val / 2, by omega⟩
abbrev rowOf (t : Fin 4) (h : Fin 56) : Fin 112 := ⟨56 * (t.val % 2) + h.val, by omega⟩

theorem emb0 (t : Fin cfg0.N) (z : Fin 1) (h w : Fin 114) (i : Fin 128) :
    ((View.whole main_v0).slice (win0_0.rect t)).emb (ix4 z h w i) = ix4 (imageOf t) h w i := by
  funext e; apply Fin.ext
  fin_cases e <;> blk_simp [idx0] <;> rfl

theorem emb1 (t : Fin cfg0.N) (d : Fin 9) (i : Fin 128) (o : Fin 12) :
    ((View.whole main_v117).slice (win0_1.rect t)).emb (ix3 d i o) = ix3 d i o := by
  funext e; apply Fin.ext
  fin_cases e <;> blk_simp [idx1] <;> rfl

theorem iblk0 (c : Dev nD) (t : Fin cfg0.N) :
    iblk m c 0 t = ((cfg0.win 0).blk t).view.read (Elt Ideal) (V m c main_v0) := rfl

theorem iblk1 (c : Dev nD) (t : Fin cfg0.N) :
    iblk m c 1 t = ((cfg0.win 1).blk t).view.read (Elt Ideal) (V m c main_v117) := rfl

theorem read0 (I : FVec Ideal S2x114x114x128 .f32) (t : Fin cfg0.N) (z : Fin 1) (h w : Fin 114) (i : Fin 128) :
    ((cfg0.win 0).blk t).view.read (Elt Ideal) I (ix4 z h w i) = I (ix4 (imageOf t) h w i) :=
  congrArg I (emb0 t z h w i)

theorem read1 (I : FVec Ideal S9x128x12 .f32) (t : Fin cfg0.N) (d : Fin 9) (i : Fin 128) (o : Fin 12) :
    ((cfg0.win 1).blk t).view.read (Elt Ideal) I (ix3 d i o) = I (ix3 d i o) :=
  congrArg I (emb1 t d i o)

theorem nine (P : FVec Ideal S3x3x128x12 .f32) (a b : Fin 3) (i : Fin 128) (o : Fin 12) :
    shapeCast S9x128x12 P shapeCasts_S3x3x128x12_S9x128x12 (ix3 (⟨3 * a.val + b.val, by omega⟩ : Fin 9) i o) = P (ix4 a b i o) := by
  fin_cases a <;> fin_cases b <;> pointwise

theorem blk0 (c : Dev nD) (t : Fin cfg0.N) (z : Fin 1) (h w : Fin 114) (i : Fin 128) :
    iblk m c 0 t (ix4 z h w i) = bordered (xA m c) (ix4 (imageOf t) h w i) := by
  rw [iblk0, read0, image]

theorem blk1 (c : Dev nD) (t : Fin cfg0.N) (a b : Fin 3) (i : Fin 128) (o : Fin 12) :
    iblk m c 1 t (ix3 (⟨3 * a.val + b.val, by omega⟩ : Fin 9) i o) = columnsOf (wA m c) (ix4 o i a b) := by
  rw [iblk1, read1, taps]
  exact nine _ _ _ _ _

theorem blk2 (c : Dev nD) (t : Fin cfg0.N) (a : Fin 1) (o : Fin 12) :
    iblk m c 2 t (ix2 a o) = bA m c (ix1 (⟨o.val % 3, by omega⟩ : Fin 3)) := by
  refine Eq.trans (b := V m c main_v118 (ix2 a o)) (congrArg (V m c main_v118) (funext fun e => Fin.ext ?_)) ?_
  · fin_cases e <;> blk_simp [idx2] <;> rfl
  rw [bias]
  pointwise

/-- An element of a point's output block is an element of that half of the image's result. -/
theorem emb3 (t : Fin cfg0.N) (a : Fin 1) (h : Fin 56) (w : Fin 112) (o : Fin 12) :
   ((View.whole main_v119).slice (win0_3.rect t)).emb (ix4 a h w o) = ix4 (imageOf t) (rowOf t h) w o := by
  funext e; apply Fin.ext
  fin_cases e <;> blk_simp [idx3] <;> simp <;> omega

/-! ## The transposed convolution -/

/-- The transposed convolution at (b, h, w, o): the four taps of the pixel's parity. -/
def blockAt (x : FVec Ideal S2x112x112x128 .f32) (w0 : FVec Ideal S128x3x4x4 .f32) (b1 : FVec Ideal S3 .f32)
    (b : Fin 2) (h w : Fin 224) (o : Fin 3) : EReal :=
  ∑ a : Fin 2, ∑ a' : Fin 2, Windows.dtap (bordered x) (flipped w0) b o (h.val / 2 + h.val % 2 + a.val) (w.val / 2 + w.val % 2 + a'.val)
    (by omega) (by omega) ⟨2 * a.val + h.val % 2, by omega⟩ ⟨2 * a'.val + w.val % 2, by omega⟩ + b1 (ix1 o)

/-- The transposed convolution: `conv_transpose4x4(x, w0, stride 2) + b1`, channels first. -/
def block (x : FVec Ideal S2x112x112x128 .f32) (w0 : FVec Ideal S128x3x4x4 .f32) (b1 : FVec Ideal S3 .f32) :
    FVec Ideal S2x3x224x224 .f32 := fun y => blockAt x w0 b1 (y 0) (y 2) (y 3) (y 1)

/-- What the region leaves, at (b, h, w, k): a convolution with the packed weights, and the channel's bias. -/
def phasesAt (x : FVec Ideal S2x112x112x128 .f32) (w0 : FVec Ideal S128x3x4x4 .f32) (b1 : FVec Ideal S3 .f32)
    (b : Fin 2) (h w : Fin 112) (k : Fin 12) : EReal :=
  Windows.conv (p := 112) (q := 112) 1 (by decide) (by decide) (bordered x) (columnsOf w0) b h w k + b1 (ix1 (⟨k.val % 3, by omega⟩ : Fin 3))

def phases (x : FVec Ideal S2x112x112x128 .f32) (w0 : FVec Ideal S128x3x4x4 .f32) (b1 : FVec Ideal S3 .f32) :
    FVec Ideal S2x112x112x12 .f32 := fun y => phasesAt x w0 b1 (y 0) (y 1) (y 2) (y 3)

theorem unpacked_apply (Y : FVec Ideal S2x112x112x12 .f32) (b : Fin 2) (o : Fin 3) (h w : Fin 224) :
    unpacked Y (ix4 b o h w) = Y (ix4 b (⟨h.val / 2, by omega⟩ : Fin 112) (⟨w.val / 2, by omega⟩ : Fin 112) (⟨h.val % 2 * 6 + w.val % 2 * 3 + o.val, by omega⟩ : Fin 12)) := by
  unfold unpacked
  pointwise

theorem unpacked_phases (x : FVec Ideal S2x112x112x128 .f32) (w0 : FVec Ideal S128x3x4x4 .f32) (b1 : FVec Ideal S3 .f32) :
    unpacked (phases x w0 b1) = block x w0 b1 := by
  funext y
  idx_vars y
  rw [unpacked_apply]
  show phasesAt _ _ _ _ _ _ _ = blockAt _ _ _ y0 y2 y3 y1
  unfold phasesAt blockAt
  refine congrArg₂ (· + ·) (conv_packed (bordered x) w0 _ _ _ _ y2 y3 y1 ?_ ?_ ?_) (congrArg (fun e => b1 (ix1 e)) (Fin.ext ?_))
  · show y2.val = 2 * (y2.val / 2) + (y2.val % 2 * 6 + y3.val % 2 * 3 + y1.val) / 6
    omega
  · show y3.val = 2 * (y3.val / 2) + (y2.val % 2 * 6 + y3.val % 2 * 3 + y1.val) / 3 % 2
    omega
  · show y1.val = (y2.val % 2 * 6 + y3.val % 2 * 3 + y1.val) % 3
    omega
  · show (y2.val % 2 * 6 + y3.val % 2 * 3 + y1.val) % 3 = y1.val
    omega

/-! ## The body -/

section Body
variable (v0 v1 v2 v3 v4 v5 v6 v7 v8 : Vec Ideal S1x56x112x128 .f32) (w0 w1 w2 w3 w4 w5 w6 w7 w8 : Vec Ideal S1x128x12 .f32) (b : Vec Ideal S1x12 .f32)
  (z : Fin 1) (h : Fin 56) (w : Fin 112) (o : Fin 12)

/-- The body at (h, w, o): nine products of a view of the image with a tap, and the bias. -/
theorem body : k0_pay1 (k0_pay4 (k0_pay3 (k0_pay2 v0 w0 v1 w1) v2 w2 v3 w3 v4 w4) v5 w5 v6 w6) (k0_pay5 v7) w7 v8 w8 b (ix4 z h w o)
    = ∑ x, v0 (ix4 0 h w x) * w0 (ix3 0 x o) + ∑ x, v1 (ix4 0 h w x) * w1 (ix3 0 x o) + ∑ x, v2 (ix4 0 h w x) * w2 (ix3 0 x o)
      + ∑ x, v3 (ix4 0 h w x) * w3 (ix3 0 x o) + ∑ x, v4 (ix4 0 h w x) * w4 (ix3 0 x o) + ∑ x, v5 (ix4 0 h w x) * w5 (ix3 0 x o)
      + ∑ x, v6 (ix4 0 h w x) * w6 (ix3 0 x o) + ∑ x, v7 (ix4 0 h w x) * w7 (ix3 0 x o) + ∑ x, v8 (ix4 0 h w x) * w8 (ix3 0 x o) + b (ix2 0 o) := by
  pointwise [k0_pay1, k0_pay2, k0_pay3, k0_pay4, k0_pay5]
end Body

/-- A view of the image read at an index. -/
theorem ld0 (B : Vec Ideal S1x114x114x128 .f32) (off : Fin 4 → ℕ) (d e : ℕ) (hoff : off = ![0, d, e, 0]) (hin) (h : Fin 56) (w : Fin 112) (i : Fin 128)
    (hd : d + h.val < 114) (he : e + w.val < 114) :
    View.ld B (Rect.unit (s := S1x114x114x128) off ![1, 56, 112, 128] hin) (ix4 0 h w i) = B (ix4 0 (⟨d + h.val, hd⟩ : Fin 114) (⟨e + w.val, he⟩ : Fin 114) i) := by
  subst hoff
  pointwise

/-- A tap read at an index. -/
theorem ld1 (B : Vec Ideal S9x128x12 .f32) (d : Fin 9) (hin) (i : Fin 128) (o : Fin 12) :
    View.ld B (Rect.unit (s := S9x128x12) ![d.val, 0, 0] ![1, 128, 12] hin) (ix3 0 i o) = B (ix3 d i o) := by
  pointwise

section Piece
variable (X : FVec Ideal S2x114x114x128 .f32) (R : FVec Ideal ⟨4, ![12, 128, 3, 3]⟩ .f32) (t : Fin 4)
  (B0 : Vec Ideal S1x114x114x128 .f32) (B1 : Vec Ideal S9x128x12 .f32)
  (e0 : ∀ (h w : Fin 114) (i : Fin 128), B0 (ix4 0 h w i) = X (ix4 (imageOf t) h w i))
  (e1 : ∀ (a b : Fin 3) (i : Fin 128) (o : Fin 12), B1 (ix3 (⟨3 * a.val + b.val, by omega⟩ : Fin 9) i o) = R (ix4 o i a b))
  (h : Fin 56) (w : Fin 112) (o : Fin 12)
include e0 e1

/-- A view of the image against a packed tap is a term of the convolution. -/
theorem term_of (a a' : Fin 3) (off : Fin 4 → ℕ) (hoff : off = ![0, 56 * (t.val % 2) + a.val, a'.val, 0])
    (g : Fin 9) (hg : g.val = 3 * a.val + a'.val) (hin hin') :
    ∑ x : Fin 128, View.ld B0 (Rect.unit (s := S1x114x114x128) off ![1, 56, 112, 128] hin) (ix4 0 h w x)
        * View.ld B1 (Rect.unit (s := S9x128x12) ![g.val, 0, 0] ![1, 128, 12] hin') (ix3 0 x o)
      = ∑ x : Fin 128, X (ix4 (imageOf t) (Windows.place 1 (by decide : 1 * (112 - 1) + 3 ≤ 114) (rowOf t h) a)
          (Windows.place 1 (by decide : 1 * (112 - 1) + 3 ≤ 114) w a') x) * R (ix4 o x a a') := by
  refine Finset.sum_congr rfl fun y _ => ?_
  have hg' : g = (⟨3 * a.val + a'.val, by omega⟩ : Fin 9) := Fin.ext hg
  rw [ld0 _ off _ _ hoff hin h w y (by omega) (by omega), ld1, e0, (congrArg (fun d : Fin 9 => B1 (ix3 d y o)) hg').trans (e1 _ _ y o)]
  refine congrArg₂ (· * ·) ?_ rfl
  congr 1; congr 1 <;> apply Fin.ext
  · show 56 * (t.val % 2) + a.val + h.val = a.val + 1 * (56 * (t.val % 2) + h.val); omega
  · show a'.val + w.val = a'.val + 1 * w.val; omega
end Piece

/-- The region's result array after the launch. -/
theorem final (c : Dev nD) : (dats m 0 c).arrAt 3 cfg0.N = phases (xA m c) (wA m c) (bA m c) := by
  refine (dats m 0 c).arrAt_eq_of_covers 3 _ (by decide +kernel) fun t hf y => ?_
  blk_simp
  rw [after0_3]
  unfold outsAt0
  frame_out
  idx_vars y
  rw [emb3]
  have key := term_of (bordered (xA m c)) (columnsOf (wA m c)) t (iblk m c 0 t) (iblk m c 1 t) (blk0 m c t 0) (blk1 m c t) y1 y2 y3
  refine (body _ _ _ _ _ _ _ _ _ _ _ _ _ _ _ _ _ _ _ y0 y1 y2 y3).trans ?_
  show _ = phasesAt (xA m c) (wA m c) (bA m c) (imageOf t) (rowOf t y1) y2 y3
  unfold phasesAt Windows.conv
  simp only [Fin.sum_univ_three]
  have sum9 : ∀ {a b c d e f g h i a' b' c' d' e' f' g' h' i' j j' : EReal}, a = a' → b = b' → c = c' → d = d' → e = e' → f = f' → g = g' → h = h' → i = i' → j = j' →
      a + b + c + d + e + f + g + h + i + j = a' + b' + c' + (d' + e' + f') + (g' + h' + i') + j' := by
    rintro _ _ _ _ _ _ _ _ _ _ _ _ _ _ _ _ _ _ _ _ rfl rfl rfl rfl rfl rfl rfl rfl rfl rfl
    simp only [add_assoc]
  exact sum9 (key 0 0 _ (offs t 0).1 0 rfl _ _) (key 0 1 _ (offs t 0).2.1 1 rfl _ _) (key 0 2 _ (offs t 0).2.2 2 rfl _ _)
    (key 1 0 _ (offs t 1).1 3 rfl _ _) (key 1 1 _ (offs t 1).2.1 4 rfl _ _) (key 1 2 _ (offs t 1).2.2 5 rfl _ _)
    (key 2 0 _ (offs t 2).1 6 rfl _ _) (key 2 1 _ (offs t 2).2.1 7 rfl _ _) (key 2 2 _ (offs t 2).2.2 8 rfl _ _) (blk2 m c t 0 y3)

end Cert.Proof.Tr1Kernel

end
-- ==== Proof.Tr1Reference.lean ====
/- The decoder's last transposed convolution's reference: its composed host term, a convolution of the image spread out with
   zeros, read as the taps of each parity. -/
module

public import proofs.«01_k».proof.Proof.Gen.Tr1RefIdeal.Run
public import proofs.«01_k».proof.Proof.Tr1Kernel

@[expose] public section
set_option maxRecDepth 16384
noncomputable section
namespace Cert.Proof.Tr1Reference
open Cert.Tr1RefIdeal Cert.Tr1RefIdeal.Gen Cert.Tr1RefIdeal.Value Idealize.ShloMosaic Idealize.ShloMosaic.TcCoe Idealize.SL.Sem

/-- The words of the 224 windows of four, one apart. -/
abbrev starts : IVec S224x4x1 32 :=
  (broadcastInDim S224x4x1 ![0, 1] bcast_S224x4_S224x4x1_0_1 (addi (broadcastInDim S224x4 ![0, 1] bcast_S224x1_S224x4_0_1 (muli (broadcastInDim S224x1 ![] bcast_S_S224x1 (constantI S_ 32 1#32)) (broadcastInDim S224x1 ![0] bcast_S224_S224x1_0 (iotaInDim S224 32 0)))) (broadcastInDim S224x4 ![0, 1] bcast_S1x4_S224x4_0_1 (broadcastInDim S1x4 ![1] bcast_S4_S1x4_1 (iotaInDim S4 32 0)))))

theorem starts_eq : starts = Windows.words 1 224 4 := by
  funext y
  idx_vars y
  pointwise
  rfl

/-- The image spread out with zeros, within a border of two. -/
def spread (x : FVec Ideal S2x112x112x128 .f32) : FVec Ideal S2x227x227x128 .f32 :=
  pad S2x227x227x128 ![0, 2, 2, 0] ![0, 2, 2, 0] ![0, 0, 0, 0] (pad S2x223x223x128 ![0, 0, 0, 0] ![0, 0, 0, 0] ![0, 1, 1, 0] x (constant S_ .f32 0x00000000#32) pads_S2x112x112x128_S2x223x223x128_000_001_001_000 h_S_) (sitofp .f32 (constantI S_ 32 0#32)) pads_S2x223x223x128_S2x227x227x128_000_220_220_000 h_S_

/-- The kernel turned about is `Tr1Kernel.flipped`. -/
theorem flipped_eq (w0 : FVec Ideal S128x3x4x4 .f32) :
    Host.reverse [2, 3] (transpose S3x128x4x4 [1, 0, 2, 3] w0 transposes_S128x3x4x4_S3x128x4x4_1_0_2_3) = Tr1Kernel.flipped w0 := by
  funext y
  idx_vars y
  unfold Tr1Kernel.flipped
  refine congrArg w0 (funext fun e => Fin.ext ?_)
  fin_cases e
  · rfl
  · rfl
  · show 4 - (y2.val + 1) = 3 - y2.val; omega
  · show 4 - (y3.val + 1) = 3 - y3.val; omega

/-- The border's word is zero. -/
theorem zero : (FloatOps.sitofp (F := Ideal) FTy.f32 0#32 : EReal) = 0 := by
  show (((0#32 : BitVec 32).toInt : ℝ) : EReal) = 0
  simp

/-- Between the image's pixels there are zeros. -/
theorem odd (x : FVec Ideal S2x112x112x128 .f32) (b : Fin 2) (r s : Fin 227) (c : Fin 128) (h : r.val % 2 = 1 ∨ s.val % 2 = 1) :
    spread x (ix4 b r s c) = 0 := by
  unfold spread
  pointwise
  split
  · rw [dif_neg (by omega)]
  · exact zero

/-- At even places lies the image within its border of one. -/
theorem even (x : FVec Ideal S2x112x112x128 .f32) (b : Fin 2) (r s : Fin 227) (c : Fin 128) (h1 : r.val / 2 < 114) (h2 : s.val / 2 < 114)
    (hr : r.val % 2 = 0) (hs : s.val % 2 = 0) :
    spread x (ix4 b r s c) = Tr1Kernel.bordered x (ix4 b (⟨r.val / 2, h1⟩ : Fin 114) (⟨s.val / 2, h2⟩ : Fin 114) c) := by
  unfold spread Tr1Kernel.bordered
  pointwise
  by_cases hin : (1 ≤ r.val / 2 ∧ r.val / 2 - 1 < 112) ∧ 1 ≤ s.val / 2 ∧ s.val / 2 - 1 < 112
  · rw [dif_pos hin, dif_pos (by omega), dif_pos (by omega)]
    congr 1; congr 1 <;> apply Fin.ext
    · show (r.val - 2) / 2 = r.val / 2 - 1; omega
    · show (s.val - 2) / 2 = s.val / 2 - 1; omega
  · refine Eq.trans ?_ (dif_neg hin).symm
    split
    · rw [dif_neg (by omega)]; exact zero.symm
    · rfl

/-- The reference's contraction of windows is the convolution of the spread image. -/
theorem conv_eq (x : FVec Ideal S2x112x112x128 .f32) (w0 : FVec Ideal S128x3x4x4 .f32) :
    Host.dotGeneral dot_S2x224x4x224x4x128_S3x128x4x4_S2x224x224x3_524_123_013_0_n_n none (Host.gather gather_S2x227x224x4x128_S224x4x1_S2x224x4x224x4x128_0345_1_n_n_1_2_212244128 (Host.gather gather_S2x227x227x128_S224x4x1_S2x227x224x4x128_014_2_n_n_2_2_22271128 (pad S2x227x227x128 ![0, 2, 2, 0] ![0, 2, 2, 0] ![0, 0, 0, 0] (pad S2x223x223x128 ![0, 0, 0, 0] ![0, 0, 0, 0] ![0, 1, 1, 0] x (constant S_ .f32 0x00000000#32) pads_S2x112x112x128_S2x223x223x128_000_001_001_000 h_S_) (sitofp .f32 (constantI S_ 32 0#32)) pads_S2x223x223x128_S2x227x227x128_000_220_220_000 h_S_) (broadcastInDim S224x4x1 ![0, 1] bcast_S224x4_S224x4x1_0_1 (addi (broadcastInDim S224x4 ![0, 1] bcast_S224x1_S224x4_0_1 (muli (broadcastInDim S224x1 ![] bcast_S_S224x1 (constantI S_ 32 1#32)) (broadcastInDim S224x1 ![0] bcast_S224_S224x1_0 (iotaInDim S224 32 0)))) (broadcastInDim S224x4 ![0, 1] bcast_S1x4_S224x4_0_1 (broadcastInDim S1x4 ![1] bcast_S4_S1x4_1 (iotaInDim S4 32 0)))))) (broadcastInDim S224x4x1 ![0, 1] bcast_S224x4_S224x4x1_0_1 (addi (broadcastInDim S224x4 ![0, 1] bcast_S224x1_S224x4_0_1 (muli (broadcastInDim S224x1 ![] bcast_S_S224x1 (constantI S_ 32 1#32)) (broadcastInDim S224x1 ![0] bcast_S224_S224x1_0 (iotaInDim S224 32 0)))) (broadcastInDim S224x4 ![0, 1] bcast_S1x4_S224x4_0_1 (broadcastInDim S1x4 ![1] bcast_S4_S1x4_1 (iotaInDim S4 32 0)))))) (Host.reverse [2, 3] (transpose S3x128x4x4 [1, 0, 2, 3] w0 transposes_S128x3x4x4_S3x128x4x4_1_0_2_3))
     = fun y => Windows.conv 1 (by decide) (by decide) (spread x) (Tr1Kernel.flipped w0) (y 0 : Fin 2) (y 1 : Fin 224) (y 2 : Fin 224) (y 3) := by
  rw [flipped_eq]
  exact Windows.conv_words (s := 1) (by decide) (by decide) (by decide) (by decide) _ _ _ (spread x) (Tr1Kernel.flipped w0) starts starts starts_eq starts_eq

/-- The reference's value, read by parity. -/
theorem conv_taps (x : FVec Ideal S2x112x112x128 .f32) (w0 : FVec Ideal S128x3x4x4 .f32) (b1 : FVec Ideal S3 .f32) (b : Fin 2) (y z : Fin 224) (o : Fin 3) :
    Windows.conv (p := 224) (q := 224) 1 (by decide) (by decide) (spread x) (Tr1Kernel.flipped w0) b y z o + b1 (ix1 o) = Tr1Kernel.blockAt x w0 b1 b y z o := by
  refine (congrArg (fun s => s + b1 (ix1 o)) (Windows.conv_spread (B := 2) (H := 114) (W := 114) (Hd := 227) (Wd := 227) (p := 224) (q := 224) (C := 128) (O := 3)
    (by decide) (by decide) (by decide) (by decide) (by decide) (by decide) (Tr1Kernel.bordered x) (spread x) (Tr1Kernel.flipped w0) ?_ ?_ b y z o)).trans ?_
  · exact even x
  · exact odd x
  · rfl

/-- The reference's run leaves the transposed convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Tr1Kernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  refine Eq.trans ?_ (conv_taps _ _ (m ((c.tc : Thread nD τ).loc main_arg2)) y0 y2 y3 y1)
  pointwise

end Cert.Proof.Tr1Reference

end
-- ==== Proof.Tr1.lean ====
/- The decoder's last transposed convolution: the kernel and the reference compute the same array over the extended reals. -/
module

public import proofs.«01_k».proof.Defs
public import proofs.«01_k».proof.Proof.Gen.Tr1.Frame
public import proofs.«01_k».proof.Proof.Gen.Tr1Ideal.Frame
public import proofs.«01_k».proof.Proof.Tr1Reference
public import Idealize.ShloMosaic.Lib.Quiescent

@[expose] public section

set_option maxRecDepth 16384

noncomputable section

namespace Cert.Proof.Tr1

open Idealize.ShloMosaic Idealize.ShloMosaic.TcCoe Idealize.SL.Sem

/-- The reference is host operations alone, so every counter stays at zero. -/
theorem reference_frame : Cert.quiescent_Tr1RefIdeal (hTr1RefIdeal := Cert.Tr1RefIdeal.Gen.facts) := by
  intro m g _
  exact (θ_run _ _ _).mono (fun r h => ⟨fun c => (h c).2, sem_eq_zero_of_no_sems (by decide) r.2⟩) (Tr1Reference.read m g)

/-- Kernel and reference agree. -/
theorem algebraic :
    Cert.algebraic_Tr1Ideal_Tr1RefIdeal (hTr1Ideal := Cert.Tr1Ideal.Gen.facts) (hTr1RefIdeal := Cert.Tr1RefIdeal.Gen.facts) := by
  intro m g m' g' _ hargs
  refine ⟨fun c => Tr1Kernel.block (Tr1Kernel.xA m c) (Tr1Kernel.wA m c) (Tr1Kernel.bA m c), ?_, ?_⟩
  · refine (θ_run _ _ _).mono (fun r h c => ⟨(h c).1.trans ((congrArg Tr1Kernel.unpacked (Tr1Kernel.final m c)).trans (Tr1Kernel.unpacked_phases _ _ _)), (h c).2⟩) (Tr1Kernel.run_blocks m g)
  · refine (θ_run _ _ _).mono (fun r h c => ⟨(h c).1.trans ?_, (h c).2⟩) (Tr1Reference.read m' g')
    obtain ⟨h0, h1, h2⟩ := hargs c
    rw [h0, h1, h2]

end Cert.Proof.Tr1

end
-- ==== Proof.Tr0Kernel.lean ====
/- The decoder's first transposed convolution's kernel: what its launch leaves in the result array. The host packs the kernel's
   rows and columns of each parity into sixteen taps; at a grid point the body adds, for each parity of the result pixel, four
   products of a shifted view of the bordered image with a tap, and the bias, and takes the positive part. The host then takes
   the pixels out of the phases. -/
module
public import proofs.«01_k».proof.Proof.Gen.Tr0Ideal.Frame
public import proofs.«01_k».proof.Proof.Deconv
public import Idealize.ShloMosaic.Lib.Pointwise
public import Idealize.ShloMosaic.Lib.Pipeline.ValueKit
public import Idealize.ShloMosaic.Lib.Claim
@[expose] public section
set_option maxRecDepth 16384
noncomputable section
namespace Cert.Proof.Tr0Kernel
open Cert.Tr0Ideal Cert.Tr0Ideal.Gen Idealize.ShloMosaic Idealize.ShloMosaic.TcCoe Idealize.SL.Sem
variable (m : (ℓ : Loc nD τ sig) → Buf (Elt Ideal) ℓ) (ρ : Dev nD → PrngReg)
abbrev xA (c : Dev nD) : FVec Ideal S2x56x56x256 .f32 := m ((c.tc : Thread nD τ).loc main_arg0)
abbrev wA (c : Dev nD) : FVec Ideal S256x128x4x4 .f32 := m ((c.tc : Thread nD τ).loc main_arg1)
abbrev bA (c : Dev nD) : FVec Ideal S128 .f32 := m ((c.tc : Thread nD τ).loc main_arg2)
/-- The pixels of the result, out of the phases. -/
def unpacked (Y : FVec Ideal S2x56x56x512 .f32) : FVec Ideal S2x112x112x128 .f32 :=
  shapeCast S2x112x112x128 (transpose S2x56x2x56x2x128 [0, 1, 3, 2, 4, 5] (shapeCast S2x56x56x2x2x128 Y shapeCasts_S2x56x56x512_S2x56x56x2x2x128) transposes_S2x56x56x2x2x128_S2x56x2x56x2x128_0_1_3_2_4_5) shapeCasts_S2x56x2x56x2x128_S2x112x112x128

theorem run_result :
    θ_run defs (onTc (τ := τ) (main (F := Ideal))) ⟨m, fun _ => 0, ρ⟩ fun r => ∀ c : Dev nD,
      r.2.mem ((c.tc : Thread nD τ).loc main_v70) = unpacked ((dats m 0 c).arrAt 3 cfg0.N) := by
  run_from (run_main m ρ)
  unfold Pipeline.afterTail₀
  have hv := Pipeline.withArrays_arr spec0 winFacts0.arr_inj c (V0 m c) (fun w => (dats m 0 c).arrAt w (cfgs 0).N) 3
  revert hv
  generalize Pipeline.withArrays (cfgs 0).spec c _ _ = W
  intro hv
  simp only [hostOps1, List.flatten_cons, List.flatten_nil, List.append_nil, StableHlo.TRef.binary, StableHlo.TRef.unary, StableHlo.TRef.toBuf, StableHlo.TRef.ofBuf, cast_eq]
  after_results_simp
  exact congrArg unpacked hv

/-- The kernel's run: the region's result array out of its phases, the arguments as they were. -/
theorem run_blocks :
    θ_run defs (onTc (τ := τ) (main (F := Ideal))) ⟨m, fun _ => 0, ρ⟩ fun r => ∀ c : Dev nD,
      r.2.mem ((c.tc : Thread nD τ).loc main_v70) = unpacked ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨h.1 c, h.2 c⟩) (θ_run_and (run_result m ρ) (unchanged m ρ))

/-- Where a view of the image begins, from the row words. -/
theorem offs (t : Fin cfg0.N) : ∀ a q : Fin 2,
    k0_off1 (grid0.coords t) (BitVec.ofNat 32 a.val) (BitVec.ofNat 32 q.val) = ![0, q.val + a.val, 0, 0] ∧
    k0_off2 (grid0.coords t) (BitVec.ofNat 32 a.val) (BitVec.ofNat 32 q.val) = ![0, q.val + a.val, 1, 0] ∧
    k0_off3 (grid0.coords t) (BitVec.ofNat 32 a.val) (BitVec.ofNat 32 q.val) = ![0, q.val + a.val, 2, 0] :=
  (by decide +kernel : ∀ t : Fin grid0.N, ∀ a q : Fin 2,
    k0_off1 (grid0.coords t) (BitVec.ofNat 32 a.val) (BitVec.ofNat 32 q.val) = ![0, q.val + a.val, 0, 0] ∧
    k0_off2 (grid0.coords t) (BitVec.ofNat 32 a.val) (BitVec.ofNat 32 q.val) = ![0, q.val + a.val, 1, 0] ∧
    k0_off3 (grid0.coords t) (BitVec.ofNat 32 a.val) (BitVec.ofNat 32 q.val) = ![0, q.val + a.val, 2, 0]) t

/-- The image within its border of zeros. -/
def bordered (x : FVec Ideal S2x56x56x256 .f32) : FVec Ideal S2x58x58x256 .f32 :=
  pad S2x58x58x256 ![0, 1, 1, 0] ![0, 1, 1, 0] ![0, 0, 0, 0] x (sitofp .f32 (constantI S_ 32 0#32)) pads_S2x56x56x256_S2x58x58x256_000_110_110_000 h_S_

/-- A list of places in an extent of four, as the words of a gather. -/
abbrev places (l : Fin 2 → BitVec 32) : IVec S2x1 32 :=
  broadcastInDim S2x1 ![0] bcast_S2_S2x1_0 (select (cmpi .slt (fun i => l (S2.rowMajor i)) (broadcastInDim S2 ![] bcast_S_S2 (constantI S_ 32 0#32))) (addi (fun i => l (S2.rowMajor i)) (broadcastInDim S2 ![] bcast_S_S2 (constantI S_ 32 4#32))) (fun i => l (S2.rowMajor i)))

/-- The four taps of a phase, from the weights' rows and columns of its parity. -/
abbrev phaseTaps (w0 : FVec Ideal S256x128x4x4 .f32) (l l' : Fin 2 → BitVec 32) : FVec Ideal S4x256x128 .f32 :=
  shapeCast S4x256x128 (transpose S2x2x256x128 [2, 3, 0, 1] (Host.gather gather_S256x128x2x4_S2x1_S256x128x2x2_012_3_n_n_3_1_25612821 (Host.gather gather_S256x128x4x4_S2x1_S256x128x2x4_013_2_n_n_2_1_25612814 w0 (places l)) (places l')) transposes_S256x128x2x2_S2x2x256x128_2_3_0_1) shapeCasts_S2x2x256x128_S4x256x128

theorem image (c : Dev nD) : V m c main_v0 = bordered (xA m c) := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v65 = concatenate S16x256x128 0 [⟨S4x256x128, phaseTaps (wA m c) lit0 lit1⟩, ⟨S4x256x128, phaseTaps (wA m c) lit2 lit3⟩, ⟨S4x256x128, phaseTaps (wA m c) lit4 lit5⟩, ⟨S4x256x128, phaseTaps (wA m c) lit6 lit7⟩] concatenates_S4x256x128_S4x256x128_S4x256x128_S4x256x128_S16x256x128_d0 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v66 = shapeCast S1x128 (bA m c) shapeCasts_S128_S1x128 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! The lists hold the rows and the columns of the kernel of each phase, last first. -/

theorem rows : ∀ (p : Fin 4) (a : Fin 2), (places (![lit0, lit2, lit4, lit6] p) (ix2 a 0)).toInt.toNat = 3 - p.val / 2 - 2 * a.val := by
  decide +kernel
theorem cols : ∀ (p : Fin 4) (a : Fin 2), (places (![lit1, lit3, lit5, lit7] p) (ix2 a 0)).toInt.toNat = 3 - p.val % 2 - 2 * a.val := by
  decide +kernel

theorem layout (G : FVec Ideal S256x128x2x2 .f32) (k : Fin 4) (i : Fin 256) (o : Fin 128) :
    shapeCast S4x256x128 (transpose S2x2x256x128 [2, 3, 0, 1] G transposes_S256x128x2x2_S2x2x256x128_2_3_0_1) shapeCasts_S2x2x256x128_S4x256x128 (ix3 k i o)
      = G (ix4 i o (⟨k.val / 2, by omega⟩ : Fin 2) (⟨k.val % 2, by omega⟩ : Fin 2)) := by
  pointwise

theorem phaseTaps_apply (w0 : FVec Ideal S256x128x4x4 .f32) (l l' : Fin 2 → BitVec 32) (q q' : Fin 2)
    (hl : ∀ a : Fin 2, (places l (ix2 a 0)).toInt.toNat = 3 - q.val - 2 * a.val)
    (hl' : ∀ a : Fin 2, (places l' (ix2 a 0)).toInt.toNat = 3 - q'.val - 2 * a.val) (k : Fin 4) (i : Fin 256) (o : Fin 128) :
    phaseTaps w0 l l' (ix3 k i o)
      = w0 (ix4 i o (⟨3 - q.val - 2 * (k.val / 2), by omega⟩ : Fin 4) (⟨3 - q'.val - 2 * (k.val % 2), by omega⟩ : Fin 4)) := by
  refine (layout _ k i o).trans ?_
  refine (Windows.gather_colPick _ _ _ _ _ _ _ (⟨3 - q'.val - 2 * (k.val % 2), by omega⟩ : Fin 4) (hl' ⟨k.val % 2, by omega⟩)).trans ?_
  exact Windows.gather_rowPick _ _ _ _ _ _ _ (⟨3 - q.val - 2 * (k.val / 2), by omega⟩ : Fin 4) (hl ⟨k.val / 2, by omega⟩)

theorem stack (P : Fin 4 → FVec Ideal S4x256x128 .f32) (p k : Fin 4) (i : Fin 256) (o : Fin 128) :
    concatenate S16x256x128 0 [⟨S4x256x128, P 0⟩, ⟨S4x256x128, P 1⟩, ⟨S4x256x128, P 2⟩, ⟨S4x256x128, P 3⟩] concatenates_S4x256x128_S4x256x128_S4x256x128_S4x256x128_S16x256x128_d0
        (ix3 (⟨4 * p.val + k.val, by omega⟩ : Fin 16) i o) = P p (ix3 k i o) := by
  fin_cases p <;> fin_cases k <;> pointwise <;> rfl

/-- A tap of the packed weights. -/
theorem packed (w0 : FVec Ideal S256x128x4x4 .f32) (p k : Fin 4) (i : Fin 256) (o : Fin 128) :
    concatenate S16x256x128 0 [⟨S4x256x128, phaseTaps w0 lit0 lit1⟩, ⟨S4x256x128, phaseTaps w0 lit2 lit3⟩, ⟨S4x256x128, phaseTaps w0 lit4 lit5⟩, ⟨S4x256x128, phaseTaps w0 lit6 lit7⟩] concatenates_S4x256x128_S4x256x128_S4x256x128_S4x256x128_S16x256x128_d0
        (ix3 (⟨4 * p.val + k.val, by omega⟩ : Fin 16) i o)
      = w0 (ix4 i o (⟨3 - p.val / 2 - 2 * (k.val / 2), by omega⟩ : Fin 4) (⟨3 - p.val % 2 - 2 * (k.val % 2), by omega⟩ : Fin 4)) :=
  (stack (fun p => phaseTaps w0 (![lit0, lit2, lit4, lit6] p) (![lit1, lit3, lit5, lit7] p)) p k i o).trans
    (phaseTaps_apply w0 _ _ (⟨p.val / 2, by omega⟩ : Fin 2) (⟨p.val % 2, by omega⟩ : Fin 2) (rows p) (cols p) k i o)

/-! ## The windows' blocks: each point takes one image -/

theorem idx0 : ∀ t : Fin cfg0.N, win0_0.index t = ![t.val, 0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0, 0] := (by decide +kernel : ∀ t : Fin grid0.N, _)

theorem emb0 (t : Fin cfg0.N) (z : Fin 1) (h w : Fin 58) (i : Fin 256) :
    ((View.whole main_v0).slice (win0_0.rect t)).emb (ix4 z h w i) = ix4 (t : Fin 2) h w i := by
  funext e; apply Fin.ext
  fin_cases e <;> blk_simp [idx0] <;> rfl

theorem emb1 (t : Fin cfg0.N) (d : Fin 16) (i : Fin 256) (o : Fin 128) :
    ((View.whole main_v65).slice (win0_1.rect t)).emb (ix3 d i o) = ix3 d i o := by
  funext e; apply Fin.ext
  fin_cases e <;> blk_simp [idx1] <;> rfl

theorem iblk0 (c : Dev nD) (t : Fin cfg0.N) :
    iblk m c 0 t = ((cfg0.win 0).blk t).view.read (Elt Ideal) (V m c main_v0) := rfl

theorem iblk1 (c : Dev nD) (t : Fin cfg0.N) :
    iblk m c 1 t = ((cfg0.win 1).blk t).view.read (Elt Ideal) (V m c main_v65) := rfl

theorem read0 (I : FVec Ideal S2x58x58x256 .f32) (t : Fin cfg0.N) (z : Fin 1) (h w : Fin 58) (i : Fin 256) :
    ((cfg0.win 0).blk t).view.read (Elt Ideal) I (ix4 z h w i) = I (ix4 (t : Fin 2) h w i) :=
  congrArg I (emb0 t z h w i)

theorem read1 (I : FVec Ideal S16x256x128 .f32) (t : Fin cfg0.N) (d : Fin 16) (i : Fin 256) (o : Fin 128) :
    ((cfg0.win 1).blk t).view.read (Elt Ideal) I (ix3 d i o) = I (ix3 d i o) :=
  congrArg I (emb1 t d i o)

theorem blk0 (c : Dev nD) (t : Fin cfg0.N) (z : Fin 1) (h w : Fin 58) (i : Fin 256) :
    iblk m c 0 t (ix4 z h w i) = bordered (xA m c) (ix4 (t : Fin 2) h w i) := by
  rw [iblk0, read0, image]

theorem blk1 (c : Dev nD) (t : Fin cfg0.N) (p k : Fin 4) (i : Fin 256) (o : Fin 128) :
    iblk m c 1 t (ix3 (⟨4 * p.val + k.val, by omega⟩ : Fin 16) i o)
      = wA m c (ix4 i o (⟨3 - p.val / 2 - 2 * (k.val / 2), by omega⟩ : Fin 4) (⟨3 - p.val % 2 - 2 * (k.val % 2), by omega⟩ : Fin 4)) := by
  rw [iblk1, read1, taps]
  exact packed _ _ _ _ _

theorem blk2 (c : Dev nD) (t : Fin cfg0.N) (a : Fin 1) (o : Fin 128) :
    iblk m c 2 t (ix2 a o) = bA m c (ix1 o) := by
  refine Eq.trans (b := V m c main_v66 (ix2 a o)) (congrArg (V m c main_v66) (funext fun e => Fin.ext ?_)) ?_
  · fin_cases e <;> blk_simp [idx2] <;> rfl
  rw [bias]
  pointwise

/-- An element of a point's output block is the same element of that image's result. -/
theorem emb3 (t : Fin cfg0.N) (a : Fin 1) (h w : Fin 56) (o : Fin 512) :
   ((View.whole main_v67).slice (win0_3.rect t)).emb (ix4 a h w o) = ix4 (t : Fin 2) h w o := by
  funext e; apply Fin.ext
  fin_cases e <;> blk_simp [idx3] <;> rfl

/-! ## The transposed convolution -/

/-- The kernel turned about: output channel, input channel, and the rows and columns last first. -/
def flipped (w0 : FVec Ideal S256x128x4x4 .f32) : FVec Ideal ⟨4, ![128, 256, 4, 4]⟩ .f32 := fun y =>
  w0 (ix4 (y 1 : Fin 256) (y 0 : Fin 128) (⟨3 - (y 2 : Fin 4).val, by omega⟩ : Fin 4) (⟨3 - (y 3 : Fin 4).val, by omega⟩ : Fin 4))

/-- The transposed convolution at (b, h, w, o): the four taps of the pixel's parity. -/
def blockAt (x : FVec Ideal S2x56x56x256 .f32) (w0 : FVec Ideal S256x128x4x4 .f32) (b1 : FVec Ideal S128 .f32)
    (b : Fin 2) (h w : Fin 112) (o : Fin 128) : EReal :=
  max (∑ a : Fin 2, ∑ a' : Fin 2, Windows.dtap (bordered x) (flipped w0) b o (h.val / 2 + h.val % 2 + a.val) (w.val / 2 + w.val % 2 + a'.val)
    (by omega) (by omega) ⟨2 * a.val + h.val % 2, by omega⟩ ⟨2 * a'.val + w.val % 2, by omega⟩ + b1 (ix1 o)) 0

/-- The transposed convolution: `relu(conv_transpose4x4(x, w0, stride 2) + b1)`. -/
def block (x : FVec Ideal S2x56x56x256 .f32) (w0 : FVec Ideal S256x128x4x4 .f32) (b1 : FVec Ideal S128 .f32) :
    FVec Ideal S2x112x112x128 .f32 := fun y => blockAt x w0 b1 (y 0) (y 1) (y 2) (y 3)

/-- Its pixels packed by parity: a column is the row's parity, the column's parity and the output channel. -/
def phasesAt (x : FVec Ideal S2x56x56x256 .f32) (w0 : FVec Ideal S256x128x4x4 .f32) (b1 : FVec Ideal S128 .f32)
    (b : Fin 2) (h w : Fin 56) (k : Fin 512) : EReal :=
  blockAt x w0 b1 b (⟨2 * h.val + k.val / 256, by omega⟩ : Fin 112) (⟨2 * w.val + k.val / 128 % 2, by omega⟩ : Fin 112) (⟨k.val % 128, by omega⟩ : Fin 128)

/-- What the region leaves. -/
def phases (x : FVec Ideal S2x56x56x256 .f32) (w0 : FVec Ideal S256x128x4x4 .f32) (b1 : FVec Ideal S128 .f32) :
    FVec Ideal S2x56x56x512 .f32 := fun y => phasesAt x w0 b1 (y 0) (y 1) (y 2) (y 3)

theorem unpacked_apply (Y : FVec Ideal S2x56x56x512 .f32) (b : Fin 2) (h w : Fin 112) (o : Fin 128) :
    unpacked Y (ix4 b h w o) = Y (ix4 b (⟨h.val / 2, by omega⟩ : Fin 56) (⟨w.val / 2, by omega⟩ : Fin 56) (⟨h.val % 2 * 256 + w.val % 2 * 128 + o.val, by omega⟩ : Fin 512)) := by
  unfold unpacked
  pointwise

theorem unpacked_phases (x : FVec Ideal S2x56x56x256 .f32) (w0 : FVec Ideal S256x128x4x4 .f32) (b1 : FVec Ideal S128 .f32) :
    unpacked (phases x w0 b1) = block x w0 b1 := by
  funext y
  idx_vars y
  rw [unpacked_apply]
  show blockAt _ _ _ _ _ _ _ = blockAt _ _ _ _ _ _ _
  congr 1 <;> apply Fin.ext
  · show 2 * (y1.val / 2) + (y1.val % 2 * 256 + y2.val % 2 * 128 + y3.val) / 256 = y1.val
    omega
  · show 2 * (y2.val / 2) + (y1.val % 2 * 256 + y2.val % 2 * 128 + y3.val) / 128 % 2 = y2.val
    omega
  · show (y1.val % 2 * 256 + y2.val % 2 * 128 + y3.val) % 128 = y3.val
    omega

/-! ## The body -/

/-- A phase of the body at (h, w, o): four products of a view of the image with a tap, and the bias. -/
def four (v0 : Vec Ideal S1x56x56x256 .f32) (w0 : Vec Ideal S1x256x128 .f32) (v1 : Vec Ideal S1x56x56x256 .f32) (w1 : Vec Ideal S1x256x128 .f32)
    (v2 : Vec Ideal S1x56x56x256 .f32) (w2 : Vec Ideal S1x256x128 .f32) (v3 : Vec Ideal S1x56x56x256 .f32) (w3 : Vec Ideal S1x256x128 .f32)
    (b : Vec Ideal S1x128 .f32) (h w : Fin 56) (o : Fin 128) : EReal :=
  max (∑ x, v0 (ix4 0 h w x) * w0 (ix3 0 x o) + ∑ x, v1 (ix4 0 h w x) * w1 (ix3 0 x o) + ∑ x, v2 (ix4 0 h w x) * w2 (ix3 0 x o)
    + ∑ x, v3 (ix4 0 h w x) * w3 (ix3 0 x o) + b (ix2 0 o)) 0

section Body
variable (v0 v1 v2 v3 : Vec Ideal S1x56x56x256 .f32) (w0 w1 w2 w3 : Vec Ideal S1x256x128 .f32) (b : Vec Ideal S1x128 .f32)
  (h w : Fin 56) (o : Fin 128)

theorem body0 : k0_pay3 (k0_pay2 v0 w0 v1 w1) v2 w2 v3 w3 b (ix2 (⟨h.val * 56 + w.val, by omega⟩ : Fin 3136) o)
    = four v0 w0 v1 w1 v2 w2 v3 w3 b h w o := by
  unfold four
  pointwise [k0_pay2, k0_pay3]

theorem body1 : k0_pay7 (k0_pay6 k0_pay4 (k0_pay5 v0) w0 v1 w1 v2 w2) v3 w3 b (ix2 (⟨h.val * 56 + w.val, by omega⟩ : Fin 3136) o)
    = four v0 w0 v1 w1 v2 w2 v3 w3 b h w o := by
  unfold four
  pointwise [k0_pay4, k0_pay5, k0_pay6, k0_pay7]

theorem body2 : k0_pay12 (k0_pay9 (k0_pay8 v0 w0) v1 w1 v2 w2) (k0_pay10 v3) (k0_pay11 w3) (constant S3136x128 .f32 0x00000000#32) b (ix2 (⟨h.val * 56 + w.val, by omega⟩ : Fin 3136) o)
    = four v0 w0 v1 w1 v2 w2 v3 w3 b h w o := by
  unfold four
  pointwise [k0_pay8, k0_pay9, k0_pay10, k0_pay11, k0_pay12]

variable (p0 p1 p2 : FVec Ideal S3136x128 .f32)

theorem column0 (z : Fin 1) : k0_pay1 (k0_pay14 p0 p1 p2 (k0_pay13 v0 w0 v1 w1) v2 w2 v3 w3 b) (ix4 z h w (⟨o.val, by omega⟩ : Fin 512))
    = p0 (ix2 (⟨h.val * 56 + w.val, by omega⟩ : Fin 3136) o) := by
  pointwise [k0_pay1, k0_pay13, k0_pay14]

theorem column1 (z : Fin 1) : k0_pay1 (k0_pay14 p0 p1 p2 (k0_pay13 v0 w0 v1 w1) v2 w2 v3 w3 b) (ix4 z h w (⟨128 + o.val, by omega⟩ : Fin 512))
    = p1 (ix2 (⟨h.val * 56 + w.val, by omega⟩ : Fin 3136) o) := by
  pointwise [k0_pay1, k0_pay13, k0_pay14]

theorem column2 (z : Fin 1) : k0_pay1 (k0_pay14 p0 p1 p2 (k0_pay13 v0 w0 v1 w1) v2 w2 v3 w3 b) (ix4 z h w (⟨256 + o.val, by omega⟩ : Fin 512))
    = p2 (ix2 (⟨h.val * 56 + w.val, by omega⟩ : Fin 3136) o) := by
  pointwise [k0_pay1, k0_pay13, k0_pay14]
  have e : ∀ hh, (⟨256 + o.val - 128 - 128, hh⟩ : Fin 128) = o := fun _ => Fin.ext (by show 256 + o.val - 128 - 128 = o.val; omega)
  rw [dif_neg (by omega), dif_neg (by omega), dif_pos (by omega), e]

theorem column3 (z : Fin 1) : k0_pay1 (k0_pay14 p0 p1 p2 (k0_pay13 v0 w0 v1 w1) v2 w2 v3 w3 b) (ix4 z h w (⟨384 + o.val, by omega⟩ : Fin 512))
    = four v0 w0 v1 w1 v2 w2 v3 w3 b h w o := by
  unfold four
  pointwise [k0_pay1, k0_pay13, k0_pay14]
  have e : ∀ hh, (⟨384 + o.val - 128 - 128 - 128, hh⟩ : Fin 128) = o := fun _ => Fin.ext (by show 384 + o.val - 128 - 128 - 128 = o.val; omega)
  rw [dif_neg (by omega), dif_neg (by omega), dif_neg (by omega)]
  simp only [e]
end Body

/-- A view of the image read at an index. -/
theorem ld0 (B : Vec Ideal S1x58x58x256 .f32) (off : Fin 4 → ℕ) (d e : ℕ) (hoff : off = ![0, d, e, 0]) (hin) (h w : Fin 56) (i : Fin 256)
    (hd : d + h.val < 58) (he : e + w.val < 58) :
    View.ld B (Rect.unit (s := S1x58x58x256) off ![1, 56, 56, 256] hin) (ix4 0 h w i) = B (ix4 0 (⟨d + h.val, hd⟩ : Fin 58) (⟨e + w.val, he⟩ : Fin 58) i) := by
  subst hoff
  pointwise

/-- A tap read at an index. -/
theorem ld1 (B : Vec Ideal S16x256x128 .f32) (d : Fin 16) (hin) (i : Fin 256) (o : Fin 128) :
    View.ld B (Rect.unit (s := S16x256x128) ![d.val, 0, 0] ![1, 256, 128] hin) (ix3 0 i o) = B (ix3 d i o) := by
  pointwise

section Piece
variable (x : FVec Ideal S2x56x56x256 .f32) (w0 : FVec Ideal S256x128x4x4 .f32) (b1 : FVec Ideal S128 .f32) (t : Fin 2)
  (B0 : Vec Ideal S1x58x58x256 .f32) (B1 : Vec Ideal S16x256x128 .f32) (B2 : Vec Ideal S1x128 .f32)
  (e0 : ∀ (h w : Fin 58) (i : Fin 256), B0 (ix4 0 h w i) = bordered x (ix4 t h w i))
  (e1 : ∀ (p k : Fin 4) (i : Fin 256) (o : Fin 128), B1 (ix3 (⟨4 * p.val + k.val, by omega⟩ : Fin 16) i o)
    = w0 (ix4 i o (⟨3 - p.val / 2 - 2 * (k.val / 2), by omega⟩ : Fin 4) (⟨3 - p.val % 2 - 2 * (k.val % 2), by omega⟩ : Fin 4)))
  (e2 : ∀ o : Fin 128, B2 (ix2 0 o) = b1 (ix1 o))
  (h w : Fin 56) (o : Fin 128) (q q' : Fin 2)
include e0 e1

/-- A view of the image against a packed tap is a tap of the transposed convolution. -/
theorem tap_of (a a' : Fin 2) (off : Fin 4 → ℕ) (hoff : off = ![0, q.val + a.val, q'.val + a'.val, 0])
    (g : Fin 16) (hg : g.val = 4 * (2 * q.val + q'.val) + (2 * a.val + a'.val)) (hin hin')
    (Y X : Fin 112) (hY : Y.val = 2 * h.val + q.val) (hX : X.val = 2 * w.val + q'.val) :
    ∑ x : Fin 256, View.ld B0 (Rect.unit (s := S1x58x58x256) off ![1, 56, 56, 256] hin) (ix4 0 h w x)
        * View.ld B1 (Rect.unit (s := S16x256x128) ![g.val, 0, 0] ![1, 256, 128] hin') (ix3 0 x o)
      = Windows.dtap (bordered x) (flipped w0) t o (Y.val / 2 + Y.val % 2 + a.val) (X.val / 2 + X.val % 2 + a'.val)
          (by omega) (by omega) ⟨2 * a.val + Y.val % 2, by omega⟩ ⟨2 * a'.val + X.val % 2, by omega⟩ := by
  have hq := q.isLt; have hq' := q'.isLt; have ha := a.isLt; have ha' := a'.isLt
  unfold Windows.dtap
  refine Finset.sum_congr rfl fun y _ => ?_
  have hg' : g = (⟨4 * (⟨2 * q.val + q'.val, by omega⟩ : Fin 4).val + (⟨2 * a.val + a'.val, by omega⟩ : Fin 4).val, by show 4 * (2 * q.val + q'.val) + (2 * a.val + a'.val) < 16; omega⟩ : Fin 16) := Fin.ext hg
  rw [ld0 _ off _ _ hoff hin h w y (by omega) (by omega), ld1, e0, (congrArg (fun d : Fin 16 => B1 (ix3 d y o)) hg').trans (e1 _ _ y o)]
  unfold flipped
  refine congrArg₂ (· * ·) ?_ ?_
  · congr 1; congr 1 <;> apply Fin.ext
    · show q.val + a.val + h.val = Y.val / 2 + Y.val % 2 + a.val; omega
    · show q'.val + a'.val + w.val = X.val / 2 + X.val % 2 + a'.val; omega
  · have f1 : (2 * q.val + q'.val) / 2 = q.val := by omega
    have f2 : (2 * q.val + q'.val) % 2 = q'.val := by omega
    have f3 : (2 * a.val + a'.val) / 2 = a.val := by omega
    have f4 : (2 * a.val + a'.val) % 2 = a'.val := by omega
    have f5 : Y.val % 2 = q.val := by omega
    have f6 : X.val % 2 = q'.val := by omega
    congr 1; congr 1 <;> apply Fin.ext
    · show 3 - (2 * q.val + q'.val) / 2 - 2 * ((2 * a.val + a'.val) / 2) = 3 - (2 * a.val + Y.val % 2)
      rw [f1, f3, f5]; omega
    · show 3 - (2 * q.val + q'.val) % 2 - 2 * ((2 * a.val + a'.val) % 2) = 3 - (2 * a'.val + X.val % 2)
      rw [f2, f4, f6]; omega

include e2

/-- A phase of the body is a phase of the transposed convolution. -/
theorem piece (k : Fin 512) (hk : k.val = 128 * (2 * q.val + q'.val) + o.val)
    (o0 o1 o2 o3 : Fin 4 → ℕ) (h0 : o0 = ![0, q.val + 0, q'.val + 0, 0]) (h1 : o1 = ![0, q.val + 0, q'.val + 1, 0])
    (h2 : o2 = ![0, q.val + 1, q'.val + 0, 0]) (h3 : o3 = ![0, q.val + 1, q'.val + 1, 0])
    (g0 g1 g2 g3 : Fin 16) (k0 : g0.val = 4 * (2 * q.val + q'.val) + 0) (k1 : g1.val = 4 * (2 * q.val + q'.val) + 1)
    (k2 : g2.val = 4 * (2 * q.val + q'.val) + 2) (k3 : g3.val = 4 * (2 * q.val + q'.val) + 3) (i0 i1 i2 i3 j0 j1 j2 j3) :
    four (View.ld B0 (Rect.unit (s := S1x58x58x256) o0 ![1, 56, 56, 256] i0)) (View.ld B1 (Rect.unit (s := S16x256x128) ![g0.val, 0, 0] ![1, 256, 128] j0))
        (View.ld B0 (Rect.unit (s := S1x58x58x256) o1 ![1, 56, 56, 256] i1)) (View.ld B1 (Rect.unit (s := S16x256x128) ![g1.val, 0, 0] ![1, 256, 128] j1))
        (View.ld B0 (Rect.unit (s := S1x58x58x256) o2 ![1, 56, 56, 256] i2)) (View.ld B1 (Rect.unit (s := S16x256x128) ![g2.val, 0, 0] ![1, 256, 128] j2))
        (View.ld B0 (Rect.unit (s := S1x58x58x256) o3 ![1, 56, 56, 256] i3)) (View.ld B1 (Rect.unit (s := S16x256x128) ![g3.val, 0, 0] ![1, 256, 128] j3))
        B2 h w o = phases x w0 b1 (ix4 t h w k) := by
  have hq := q.isLt; have hq' := q'.isLt
  have key := tap_of x w0 t B0 B1 e0 e1 h w o q q'
  have ho : (⟨k.val % 128, by omega⟩ : Fin 128) = o := Fin.ext (by show k.val % 128 = o.val; omega)
  show _ = blockAt x w0 b1 t (⟨2 * h.val + k.val / 256, by omega⟩ : Fin 112) (⟨2 * w.val + k.val / 128 % 2, by omega⟩ : Fin 112) (⟨k.val % 128, by omega⟩ : Fin 128)
  have hY : 2 * h.val + k.val / 256 = 2 * h.val + q.val := by omega
  have hX : 2 * w.val + k.val / 128 % 2 = 2 * w.val + q'.val := by omega
  rw [ho]
  generalize hYv : (⟨2 * h.val + k.val / 256, by omega⟩ : Fin 112) = Y
  generalize hXv : (⟨2 * w.val + k.val / 128 % 2, by omega⟩ : Fin 112) = X
  have hY' : Y.val = 2 * h.val + q.val := by rw [← hYv]; exact hY
  have hX' : X.val = 2 * w.val + q'.val := by rw [← hXv]; exact hX
  unfold four blockAt
  rw [key 0 0 o0 h0 g0 k0 i0 j0 Y X hY' hX', key 0 1 o1 h1 g1 k1 i1 j1 Y X hY' hX', key 1 0 o2 h2 g2 k2 i2 j2 Y X hY' hX',
    key 1 1 o3 h3 g3 k3 i3 j3 Y X hY' hX', e2 o]
  simp only [Fin.sum_univ_two, add_assoc]

end Piece

/-- The columns of the region's result are the four phases. -/
theorem columns (k : Fin 512) : ∃ o : Fin 128, k = ⟨o.val, by omega⟩ ∨ k = ⟨128 + o.val, by omega⟩ ∨ k = ⟨256 + o.val, by omega⟩ ∨ k = ⟨384 + o.val, by omega⟩ := by
  refine ⟨⟨k.val % 128, by omega⟩, ?_⟩
  have := k.isLt
  simp only [Fin.ext_iff]
  omega

/-- The region's result array after the launch. -/
theorem final (c : Dev nD) : (dats m 0 c).arrAt 3 cfg0.N = phases (xA m c) (wA m c) (bA m c) := by
  refine (dats m 0 c).arrAt_eq_of_covers 3 _ (by decide +kernel) fun t hf y => ?_
  blk_simp
  rw [after0_3]
  unfold outsAt0
  frame_out
  idx_vars y
  rw [emb3]
  have key := piece (xA m c) (wA m c) (bA m c) t (iblk m c 0 t) (iblk m c 1 t) (iblk m c 2 t) (blk0 m c t 0) (blk1 m c t) (blk2 m c t 0) y1 y2
  obtain ⟨o, h | h | h | h⟩ := columns y3 <;> subst h
  · refine (column0 _ _ _ _ _ _ _ _ _ y1 y2 o _ _ _ y0).trans ((body0 _ _ _ _ _ _ _ _ _ y1 y2 o).trans ?_)
    exact key o 0 0 _ (by show o.val = 128 * 0 + o.val; omega) _ _ _ _ (offs t 0 0).1 (offs t 0 0).2.1 (offs t 1 0).1 (offs t 1 0).2.1 0 1 2 3 rfl rfl rfl rfl _ _ _ _ _ _ _ _
  · refine (column1 _ _ _ _ _ _ _ _ _ y1 y2 o _ _ _ y0).trans ((body1 _ _ _ _ _ _ _ _ _ y1 y2 o).trans ?_)
    exact key o 0 1 _ (by show 128 + o.val = 128 * 1 + o.val; omega) _ _ _ _ (offs t 0 0).2.1 (offs t 0 0).2.2 (offs t 1 0).2.1 (offs t 1 0).2.2 4 5 6 7 rfl rfl rfl rfl _ _ _ _ _ _ _ _
  · refine (column2 _ _ _ _ _ _ _ _ _ y1 y2 o _ _ _ y0).trans ((body2 _ _ _ _ _ _ _ _ _ y1 y2 o).trans ?_)
    exact key o 1 0 _ (by show 256 + o.val = 128 * 2 + o.val; omega) _ _ _ _ (offs t 0 1).1 (offs t 0 1).2.1 (offs t 1 1).1 (offs t 1 1).2.1 8 9 10 11 rfl rfl rfl rfl _ _ _ _ _ _ _ _
  · refine (column3 _ _ _ _ _ _ _ _ _ y1 y2 o _ _ _ y0).trans ?_
    exact key o 1 1 _ (by show 384 + o.val = 128 * 3 + o.val; omega) _ _ _ _ (offs t 0 1).2.1 (offs t 0 1).2.2 (offs t 1 1).2.1 (offs t 1 1).2.2 12 13 14 15 rfl rfl rfl rfl _ _ _ _ _ _ _ _

end Cert.Proof.Tr0Kernel

end
-- ==== Proof.Tr0Reference.lean ====
/- The decoder's first transposed convolution's reference: its composed host term, a convolution of the image spread out with
   zeros, read as the taps of each parity. -/
module

public import proofs.«01_k».proof.Proof.Gen.Tr0RefIdeal.Run
public import proofs.«01_k».proof.Proof.Tr0Kernel

@[expose] public section
set_option maxRecDepth 16384
noncomputable section
namespace Cert.Proof.Tr0Reference
open Cert.Tr0RefIdeal Cert.Tr0RefIdeal.Gen Cert.Tr0RefIdeal.Value Idealize.ShloMosaic Idealize.ShloMosaic.TcCoe Idealize.SL.Sem

/-- The words of the 112 windows of four, one apart. -/
abbrev starts : IVec S112x4x1 32 :=
  (broadcastInDim S112x4x1 ![0, 1] bcast_S112x4_S112x4x1_0_1 (addi (broadcastInDim S112x4 ![0, 1] bcast_S112x1_S112x4_0_1 (muli (broadcastInDim S112x1 ![] bcast_S_S112x1 (constantI S_ 32 1#32)) (broadcastInDim S112x1 ![0] bcast_S112_S112x1_0 (iotaInDim S112 32 0)))) (broadcastInDim S112x4 ![0, 1] bcast_S1x4_S112x4_0_1 (broadcastInDim S1x4 ![1] bcast_S4_S1x4_1 (iotaInDim S4 32 0)))))

theorem starts_eq : starts = Windows.words 1 112 4 := by
  funext y
  idx_vars y
  pointwise
  rfl

/-- The image spread out with zeros, within a border of two. -/
def spread (x : FVec Ideal S2x56x56x256 .f32) : FVec Ideal S2x115x115x256 .f32 :=
  pad S2x115x115x256 ![0, 2, 2, 0] ![0, 2, 2, 0] ![0, 0, 0, 0] (pad S2x111x111x256 ![0, 0, 0, 0] ![0, 0, 0, 0] ![0, 1, 1, 0] x (constant S_ .f32 0x00000000#32) pads_S2x56x56x256_S2x111x111x256_000_001_001_000 h_S_) (sitofp .f32 (constantI S_ 32 0#32)) pads_S2x111x111x256_S2x115x115x256_000_220_220_000 h_S_

/-- The kernel turned about is `Tr0Kernel.flipped`. -/
theorem flipped_eq (w0 : FVec Ideal S256x128x4x4 .f32) :
    Host.reverse [2, 3] (transpose S128x256x4x4 [1, 0, 2, 3] w0 transposes_S256x128x4x4_S128x256x4x4_1_0_2_3) = Tr0Kernel.flipped w0 := by
  funext y
  idx_vars y
  unfold Tr0Kernel.flipped
  refine congrArg w0 (funext fun e => Fin.ext ?_)
  fin_cases e
  · rfl
  · rfl
  · show 4 - (y2.val + 1) = 3 - y2.val; omega
  · show 4 - (y3.val + 1) = 3 - y3.val; omega

/-- The border's word is zero. -/
theorem zero : (FloatOps.sitofp (F := Ideal) FTy.f32 0#32 : EReal) = 0 := by
  show (((0#32 : BitVec 32).toInt : ℝ) : EReal) = 0
  simp

/-- Between the image's pixels there are zeros. -/
theorem odd (x : FVec Ideal S2x56x56x256 .f32) (b : Fin 2) (r s : Fin 115) (c : Fin 256) (h : r.val % 2 = 1 ∨ s.val % 2 = 1) :
    spread x (ix4 b r s c) = 0 := by
  unfold spread
  pointwise
  split
  · rw [dif_neg (by omega)]
  · exact zero

/-- At even places lies the image within its border of one. -/
theorem even (x : FVec Ideal S2x56x56x256 .f32) (b : Fin 2) (r s : Fin 115) (c : Fin 256) (h1 : r.val / 2 < 58) (h2 : s.val / 2 < 58)
    (hr : r.val % 2 = 0) (hs : s.val % 2 = 0) :
    spread x (ix4 b r s c) = Tr0Kernel.bordered x (ix4 b (⟨r.val / 2, h1⟩ : Fin 58) (⟨s.val / 2, h2⟩ : Fin 58) c) := by
  unfold spread Tr0Kernel.bordered
  pointwise
  by_cases hin : (1 ≤ r.val / 2 ∧ r.val / 2 - 1 < 56) ∧ 1 ≤ s.val / 2 ∧ s.val / 2 - 1 < 56
  · rw [dif_pos hin, dif_pos (by omega), dif_pos (by omega)]
    congr 1; congr 1 <;> apply Fin.ext
    · show (r.val - 2) / 2 = r.val / 2 - 1; omega
    · show (s.val - 2) / 2 = s.val / 2 - 1; omega
  · refine Eq.trans ?_ (dif_neg hin).symm
    split
    · rw [dif_neg (by omega)]; exact zero.symm
    · rfl

/-- The reference's contraction of windows is the convolution of the spread image. -/
theorem conv_eq (x : FVec Ideal S2x56x56x256 .f32) (w0 : FVec Ideal S256x128x4x4 .f32) :
    Host.dotGeneral dot_S2x112x4x112x4x256_S128x256x4x4_S2x112x112x128_524_123_013_0_n_n none (Host.gather gather_S2x115x112x4x256_S112x4x1_S2x112x4x112x4x256_0345_1_n_n_1_2_211124256 (Host.gather gather_S2x115x115x256_S112x4x1_S2x115x112x4x256_014_2_n_n_2_2_21151256 (pad S2x115x115x256 ![0, 2, 2, 0] ![0, 2, 2, 0] ![0, 0, 0, 0] (pad S2x111x111x256 ![0, 0, 0, 0] ![0, 0, 0, 0] ![0, 1, 1, 0] x (constant S_ .f32 0x00000000#32) pads_S2x56x56x256_S2x111x111x256_000_001_001_000 h_S_) (sitofp .f32 (constantI S_ 32 0#32)) pads_S2x111x111x256_S2x115x115x256_000_220_220_000 h_S_) (broadcastInDim S112x4x1 ![0, 1] bcast_S112x4_S112x4x1_0_1 (addi (broadcastInDim S112x4 ![0, 1] bcast_S112x1_S112x4_0_1 (muli (broadcastInDim S112x1 ![] bcast_S_S112x1 (constantI S_ 32 1#32)) (broadcastInDim S112x1 ![0] bcast_S112_S112x1_0 (iotaInDim S112 32 0)))) (broadcastInDim S112x4 ![0, 1] bcast_S1x4_S112x4_0_1 (broadcastInDim S1x4 ![1] bcast_S4_S1x4_1 (iotaInDim S4 32 0)))))) (broadcastInDim S112x4x1 ![0, 1] bcast_S112x4_S112x4x1_0_1 (addi (broadcastInDim S112x4 ![0, 1] bcast_S112x1_S112x4_0_1 (muli (broadcastInDim S112x1 ![] bcast_S_S112x1 (constantI S_ 32 1#32)) (broadcastInDim S112x1 ![0] bcast_S112_S112x1_0 (iotaInDim S112 32 0)))) (broadcastInDim S112x4 ![0, 1] bcast_S1x4_S112x4_0_1 (broadcastInDim S1x4 ![1] bcast_S4_S1x4_1 (iotaInDim S4 32 0)))))) (Host.reverse [2, 3] (transpose S128x256x4x4 [1, 0, 2, 3] w0 transposes_S256x128x4x4_S128x256x4x4_1_0_2_3))
     = fun y => Windows.conv 1 (by decide) (by decide) (spread x) (Tr0Kernel.flipped w0) (y 0 : Fin 2) (y 1 : Fin 112) (y 2 : Fin 112) (y 3) := by
  rw [flipped_eq]
  exact Windows.conv_words (s := 1) (by decide) (by decide) (by decide) (by decide) _ _ _ (spread x) (Tr0Kernel.flipped w0) starts starts starts_eq starts_eq

/-- The reference's value, read by parity. -/
theorem conv_taps (x : FVec Ideal S2x56x56x256 .f32) (w0 : FVec Ideal S256x128x4x4 .f32) (b1 : FVec Ideal S128 .f32) (b : Fin 2) (y z : Fin 112) (o : Fin 128) :
    max (Windows.conv (p := 112) (q := 112) 1 (by decide) (by decide) (spread x) (Tr0Kernel.flipped w0) b y z o + b1 (ix1 o)) 0 = Tr0Kernel.blockAt x w0 b1 b y z o := by
  refine (congrArg (fun s => max (s + b1 (ix1 o)) 0) (Windows.conv_spread (B := 2) (H := 58) (W := 58) (Hd := 115) (Wd := 115) (p := 112) (q := 112) (C := 256) (O := 128)
    (by decide) (by decide) (by decide) (by decide) (by decide) (by decide) (Tr0Kernel.bordered x) (spread x) (Tr0Kernel.flipped w0) ?_ ?_ b y z o)).trans ?_
  · exact even x
  · exact odd x
  · rfl

/-- The reference's run leaves the transposed convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = Tr0Kernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  refine Eq.trans ?_ (conv_taps _ _ (m ((c.tc : Thread nD τ).loc main_arg2)) y0 y1 y2 y3)
  pointwise

end Cert.Proof.Tr0Reference

end
-- ==== Proof.Tr0.lean ====
/- The decoder's first transposed convolution: the kernel and the reference compute the same array over the extended reals. -/
module

public import proofs.«01_k».proof.Defs
public import proofs.«01_k».proof.Proof.Gen.Tr0.Frame
public import proofs.«01_k».proof.Proof.Gen.Tr0Ideal.Frame
public import proofs.«01_k».proof.Proof.Tr0Reference
public import Idealize.ShloMosaic.Lib.Quiescent

@[expose] public section

set_option maxRecDepth 16384

noncomputable section

namespace Cert.Proof.Tr0

open Idealize.ShloMosaic Idealize.ShloMosaic.TcCoe Idealize.SL.Sem

/-- The reference is host operations alone, so every counter stays at zero. -/
theorem reference_frame : Cert.quiescent_Tr0RefIdeal (hTr0RefIdeal := Cert.Tr0RefIdeal.Gen.facts) := by
  intro m g _
  exact (θ_run _ _ _).mono (fun r h => ⟨fun c => (h c).2, sem_eq_zero_of_no_sems (by decide) r.2⟩) (Tr0Reference.read m g)

/-- Kernel and reference agree. -/
theorem algebraic :
    Cert.algebraic_Tr0Ideal_Tr0RefIdeal (hTr0Ideal := Cert.Tr0Ideal.Gen.facts) (hTr0RefIdeal := Cert.Tr0RefIdeal.Gen.facts) := by
  intro m g m' g' _ hargs
  refine ⟨fun c => Tr0Kernel.block (Tr0Kernel.xA m c) (Tr0Kernel.wA m c) (Tr0Kernel.bA m c), ?_, ?_⟩
  · refine (θ_run _ _ _).mono (fun r h c => ⟨(h c).1.trans ((congrArg Tr0Kernel.unpacked (Tr0Kernel.final m c)).trans (Tr0Kernel.unpacked_phases _ _ _)), (h c).2⟩) (Tr0Kernel.run_blocks m g)
  · refine (θ_run _ _ _).mono (fun r h c => ⟨(h c).1.trans ?_, (h c).2⟩) (Tr0Reference.read m' g')
    obtain ⟨h0, h1, h2⟩ := hargs c
    rw [h0, h1, h2]

end Cert.Proof.Tr0

end
-- ==== Proof.Enc1Kernel.lean ====
/- The encoder's second 4×4 convolution's kernel: what its launch leaves in the result array. The host packs each 2×2 square of
   pixels into the channels; at a grid point the body adds four products of a shifted view of the packed image with one tap of the
   packed weights, and the bias, and takes the positive part. -/
module

public import proofs.«01_k».proof.Proof.Gen.Enc1Ideal.Value
public import proofs.«01_k».proof.Proof.Windows
public import Idealize.ShloMosaic.Lib.Pointwise
public import Idealize.ShloMosaic.Lib.Pipeline.ValueKit

@[expose] public section
set_option maxRecDepth 16384
noncomputable section
namespace Cert.Proof.Enc1Kernel
open Cert.Enc1Ideal Cert.Enc1Ideal.Gen Cert.Enc1Ideal.Value Idealize.ShloMosaic Idealize.ShloMosaic.TcCoe Idealize.SL.Sem

variable (m : (ℓ : Loc nD τ sig) → Buf (Elt Ideal) ℓ)

/-- Where the four views of the packed image begin. -/
theorem offs : ∀ t : Fin cfg0.N,
    k0_off1 (grid0.coords t) 0#32 = ![0, 0, 0, 0] ∧ k0_off1 (grid0.coords t) 1#32 = ![0, 1, 0, 0] ∧
    k0_off2 (grid0.coords t) 0#32 = ![0, 0, 1, 0] ∧ k0_off2 (grid0.coords t) 1#32 = ![0, 1, 1, 0] :=
  (by decide +kernel : ∀ t : Fin grid0.N, _)

/-! The arguments, as arrays. -/

abbrev xA (c : Dev nD) : FVec Ideal S2x112x112x128 .f32 := m ((c.tc : Thread nD τ).loc main_arg0)
abbrev wA (c : Dev nD) : FVec Ideal S256x128x4x4 .f32 := m ((c.tc : Thread nD τ).loc main_arg1)
abbrev bA (c : Dev nD) : FVec Ideal S256 .f32 := m ((c.tc : Thread nD τ).loc main_arg2)

/-- The image within its border of zeros. -/
def bordered (x : FVec Ideal S2x112x112x128 .f32) : FVec Ideal S2x114x114x128 .f32 :=
  pad S2x114x114x128 ![0, 1, 1, 0] ![0, 1, 1, 0] ![0, 0, 0, 0] x (sitofp .f32 (constantI S_ 32 0#32)) pads_S2x112x112x128_S2x114x114x128_000_110_110_000 h_S_

/-! ## What the host hands to the region -/

theorem image (c : Dev nD) : V m c main_v3 = shapeCast S2x57x57x512 (transpose S2x57x57x2x2x128 [0, 1, 3, 2, 4, 5] (shapeCast S2x57x2x57x2x128 (bordered (xA m c)) shapeCasts_S2x114x114x128_S2x57x2x57x2x128) transposes_S2x57x2x57x2x128_S2x57x57x2x2x128_0_1_3_2_4_5) shapeCasts_S2x57x57x2x2x128_S2x57x57x512 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v6 = shapeCast S4x512x256 (transpose S2x2x2x2x128x256 [2, 4, 3, 5, 1, 0] (shapeCast S256x128x2x2x2x2 (wA m c) shapeCasts_S256x128x4x4_S256x128x2x2x2x2) transposes_S256x128x2x2x2x2_S2x2x2x2x128x256_2_4_3_5_1_0) shapeCasts_S2x2x2x2x128x256_S4x512x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v7 = shapeCast S1x256 (bA m c) shapeCasts_S256_S1x256 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes one image -/

theorem idx0 : ∀ t : Fin cfg0.N, win0_0.index t = ![t.val, 0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0, 0, 0] := (by decide +kernel : ∀ t : Fin grid0.N, _)

/-! The input blocks, in terms of the arguments: a packed channel is a pixel of the square and a channel. -/

theorem emb0 (t : Fin cfg0.N) (z : Fin 1) (h w : Fin 57) (i : Fin 512) :
    ((View.whole main_v3).slice (win0_0.rect t)).emb (ix4 z h w i) = ix4 (t : Fin 2) h w i := by
  funext e; apply Fin.ext
  fin_cases e <;> blk_simp [idx0] <;> rfl

theorem iblk0 (c : Dev nD) (t : Fin cfg0.N) :
    iblk m c 0 t = ((cfg0.win 0).blk t).view.read (Elt Ideal) (V m c main_v3) := rfl

theorem read0 (I : FVec Ideal S2x57x57x512 .f32) (t : Fin cfg0.N) (z : Fin 1) (h w : Fin 57) (i : Fin 512) :
    ((cfg0.win 0).blk t).view.read (Elt Ideal) I (ix4 z h w i) = I (ix4 (t : Fin 2) h w i) :=
  congrArg I (emb0 t z h w i)

theorem unpack (B : FVec Ideal S2x114x114x128 .f32) (t : Fin 2) (h w : Fin 57) (i : Fin 512) :
    shapeCast S2x57x57x512 (transpose S2x57x57x2x2x128 [0, 1, 3, 2, 4, 5] (shapeCast S2x57x2x57x2x128 B shapeCasts_S2x114x114x128_S2x57x2x57x2x128) transposes_S2x57x2x57x2x128_S2x57x57x2x2x128_0_1_3_2_4_5) shapeCasts_S2x57x57x2x2x128_S2x57x57x512 (ix4 t h w i)
      = B (ix4 t (⟨h.val * 2 + i.val / 256, by omega⟩ : Fin 114) (⟨w.val * 2 + i.val / 128 % 2, by omega⟩ : Fin 114) (⟨i.val % 128, by omega⟩ : Fin 128)) := by
  pointwise

theorem blk0 (c : Dev nD) (t : Fin cfg0.N) (z : Fin 1) (h w : Fin 57) (i : Fin 512) :
    iblk m c 0 t (ix4 z h w i)
      = bordered (xA m c) (ix4 (t : Fin 2) (⟨h.val * 2 + i.val / 256, by omega⟩ : Fin 114) (⟨w.val * 2 + i.val / 128 % 2, by omega⟩ : Fin 114) (⟨i.val % 128, by omega⟩ : Fin 128)) := by
  rw [iblk0, read0, image]
  exact unpack _ _ _ _ _

theorem blk1 (c : Dev nD) (t : Fin cfg0.N) (d : Fin 4) (i : Fin 512) (o : Fin 256) :
    iblk m c 1 t (ix3 d i o)
      = wA m c (ix4 o (⟨i.val % 128, by omega⟩ : Fin 128) (⟨d.val / 2 * 2 + i.val / 256, by omega⟩ : Fin 4) (⟨d.val % 2 * 2 + i.val / 128 % 2, by omega⟩ : Fin 4)) := by
  refine Eq.trans (b := V m c main_v6 (ix3 d i o)) (congrArg (V m c main_v6) (funext fun e => Fin.ext ?_)) ?_
  · fin_cases e <;> blk_simp [idx1] <;> rfl
  rw [taps]
  pointwise

theorem blk2 (c : Dev nD) (t : Fin cfg0.N) (a : Fin 1) (o : Fin 256) :
    iblk m c 2 t (ix2 a o) = bA m c (ix1 o) := by
  refine Eq.trans (b := V m c main_v7 (ix2 a o)) (congrArg (V m c main_v7) (funext fun e => Fin.ext ?_)) ?_
  · fin_cases e <;> blk_simp [idx2] <;> rfl
  rw [bias]
  pointwise

/-- An element of a point's output block is the same element of that image's result. -/
theorem emb3 (t : Fin cfg0.N) (a : Fin 1) (h w : Fin 56) (o : Fin 256) :
   ((View.whole main_v8).slice (win0_3.rect t)).emb (ix4 a h w o) = ix4 (t : Fin 2) h w o := by
  funext e; apply Fin.ext
  fin_cases e <;> blk_simp [idx3] <;> rfl

/-- The convolution at (b, h, w, o). -/
def blockAt (x : FVec Ideal S2x112x112x128 .f32) (w0 : FVec Ideal S256x128x4x4 .f32) (b1 : FVec Ideal S256 .f32)
    (b : Fin 2) (h w : Fin 56) (o : Fin 256) : EReal :=
  max (Windows.conv 2 (by decide) (by decide) (bordered x) w0 b h w o + b1 (ix1 o)) 0

/-- The convolution: `relu(conv4x4(x, w0, stride 2) + b1)`. -/
def block (x : FVec Ideal S2x112x112x128 .f32) (w0 : FVec Ideal S256x128x4x4 .f32) (b1 : FVec Ideal S256 .f32) :
    FVec Ideal S2x56x56x256 .f32 := fun y => blockAt x w0 b1 (y 0) (y 1) (y 2) (y 3)

/-- The body at (h, w, o) of a point's block: four products of a view of the packed image with a tap, and the bias. -/
theorem body (v0 v1 v2 v3 : Vec Ideal S1x56x56x512 .f32) (w0 w1 w2 w3 : Vec Ideal S1x512x256 .f32) (b : Vec Ideal S1x256 .f32)
    (z : Fin 1) (h w : Fin 56) (o : Fin 256) :
    k0_pay1 (k0_pay2 v0 w0 v1 w1) v2 w2 v3 w3 b (ix4 z h w o)
      = max (∑ x, v0 (ix4 0 h w x) * w0 (ix3 0 x o) + ∑ x, v1 (ix4 0 h w x) * w1 (ix3 0 x o) + ∑ x, v2 (ix4 0 h w x) * w2 (ix3 0 x o)
        + ∑ x, v3 (ix4 0 h w x) * w3 (ix3 0 x o) + b (ix2 0 o)) 0 := by
  pointwise [k0_pay1, k0_pay2]

/-- A view of the packed image read at an index. -/
theorem ld0 (B : Vec Ideal S1x57x57x512 .f32) (off : Fin 4 → ℕ) (d e : ℕ) (hoff : off = ![0, d, e, 0]) (hin) (h w : Fin 56) (i : Fin 512)
    (hd : d + h.val < 57) (he : e + w.val < 57) :
    View.ld B (Rect.unit (s := S1x57x57x512) off ![1, 56, 56, 512] hin) (ix4 0 h w i) = B (ix4 0 (⟨d + h.val, hd⟩ : Fin 57) (⟨e + w.val, he⟩ : Fin 57) i) := by
  subst hoff
  pointwise

/-- A tap read at an index. -/
theorem ld1 (B : Vec Ideal S4x512x256 .f32) (d : Fin 4) (hin) (i : Fin 512) (o : Fin 256) :
    View.ld B (Rect.unit (s := S4x512x256) ![d.val, 0, 0] ![1, 512, 256] hin) (ix3 0 i o) = B (ix3 d i o) := by
  pointwise

/-- A view of the packed image against a packed tap is the tap of the convolution at stride 2. -/
theorem tap_of (X : FVec Ideal S2x114x114x128 .f32) (R : FVec Ideal S256x128x4x4 .f32) (t : Fin 2) (B0 : Vec Ideal S1x57x57x512 .f32) (B1 : Vec Ideal S4x512x256 .f32)
    (e0 : ∀ (h w : Fin 57) (i : Fin 512), B0 (ix4 0 h w i) = X (ix4 t (⟨h.val * 2 + i.val / 256, by omega⟩ : Fin 114) (⟨w.val * 2 + i.val / 128 % 2, by omega⟩ : Fin 114) (⟨i.val % 128, by omega⟩ : Fin 128)))
    (e1 : ∀ (d : Fin 4) (i : Fin 512) (o : Fin 256), B1 (ix3 d i o) = R (ix4 o (⟨i.val % 128, by omega⟩ : Fin 128) (⟨d.val / 2 * 2 + i.val / 256, by omega⟩ : Fin 4) (⟨d.val % 2 * 2 + i.val / 128 % 2, by omega⟩ : Fin 4)))
    (y1 y2 : Fin 56) (y3 : Fin 256) (d e : Fin 2) (g : Fin 4) (off : Fin 4 → ℕ) (hoff : off = ![0, d.val, e.val, 0]) (hg : g.val = 2 * d.val + e.val) (hin hin') :
    ∑ x : Fin 512, View.ld B0 (Rect.unit (s := S1x57x57x512) off ![1, 56, 56, 512] hin) (ix4 0 y1 y2 x)
        * View.ld B1 (Rect.unit (s := S4x512x256) ![g.val, 0, 0] ![1, 512, 256] hin') (ix3 0 x y3)
      = Windows.tap (B := 2) (H := 114) (W := 114) (p := 56) (q := 56) (C := 128) (O := 256) (by decide) (by decide) X R t y1 y2 y3 d e := by
  refine Windows.tap_packed (C := 128) rfl (by decide) _ _ _ _ _ _ _ _ _ _ _ fun y h1 h2 h3 h4 h5 => ?_
  have := y.isLt; have := d.isLt; have := e.isLt; have := y1.isLt; have := y2.isLt
  rw [ld0 _ off d e hoff hin y1 y2 y (by omega) (by omega), ld1, e0, e1]
  congr 2 <;> congr 1 <;> apply Fin.ext <;> simp only [hg] <;> omega

/-- The result array after the launch is the convolution of the arguments. -/
theorem final (c : Dev nD) : (dats m 0 c).arrAt 3 cfg0.N = block (xA m c) (wA m c) (bA m c) := by
  refine (dats m 0 c).arrAt_eq_of_covers 3 _ (by decide +kernel) fun t hf y => ?_
  blk_simp
  rw [after0_3]
  unfold outsAt0
  frame_out
  obtain ⟨a0, a1, b0, b1⟩ := offs t
  idx_vars y
  rw [emb3]
  refine (body _ _ _ _ _ _ _ _ _ y0 y1 y2 y3).trans ?_
  show _ = max (Windows.conv 2 _ _ (bordered (xA m c)) (wA m c) t y1 y2 y3 + bA m c (ix1 y3)) 0
  have taps := Windows.conv_taps (B := 2) (H := 114) (W := 114) (p := 56) (q := 56) (C := 128) (O := 256) (by decide) (by decide)
    (bordered (xA m c)) (wA m c) t y1 y2 y3
  have key := tap_of (bordered (xA m c)) (wA m c) t (iblk m c 0 t) (iblk m c 1 t) (blk0 m c t 0) (blk1 m c t) y1 y2 y3
  refine Eq.trans ?_ (congrArg (fun s => max (s + bA m c (ix1 y3)) 0) taps.symm)
  exact congrArg (fun s => max s 0) (congrArg₂ (· + ·) (congrArg₂ (· + ·) (congrArg₂ (· + ·) (congrArg₂ (· + ·)
    (key 0 0 0 _ a0 rfl _ inb_S4x512x256_S1x512x256_0_0_0) (key 0 1 1 _ b0 rfl _ inb_S4x512x256_S1x512x256_1_0_0))
    (key 1 0 2 _ a1 rfl _ inb_S4x512x256_S1x512x256_2_0_0)) (key 1 1 3 _ b1 rfl _ inb_S4x512x256_S1x512x256_3_0_0))
    (blk2 m c t 0 y3))

end Cert.Proof.Enc1Kernel

end
-- ==== Proof.Enc1Reference.lean ====
/- The encoder's second 4×4 convolution's reference: its composed host term, read as the convolution of the arguments. -/
module

public import proofs.«01_k».proof.Proof.Gen.Enc1RefIdeal.Run
public import proofs.«01_k».proof.Proof.Enc1Kernel

@[expose] public section
set_option maxRecDepth 16384
noncomputable section
namespace Cert.Proof.Enc1Reference
open Cert.Enc1RefIdeal Cert.Enc1RefIdeal.Gen Cert.Enc1RefIdeal.Value Idealize.ShloMosaic Idealize.ShloMosaic.TcCoe Idealize.SL.Sem

/-- The words of the 56 windows of four, two apart. -/
abbrev starts : IVec S56x4x1 32 :=
  (broadcastInDim S56x4x1 ![0, 1] bcast_S56x4_S56x4x1_0_1 (addi (broadcastInDim S56x4 ![0, 1] bcast_S56x1_S56x4_0_1 (muli (broadcastInDim S56x1 ![] bcast_S_S56x1 (constantI S_ 32 2#32)) (broadcastInDim S56x1 ![0] bcast_S56_S56x1_0 (iotaInDim S56 32 0)))) (broadcastInDim S56x4 ![0, 1] bcast_S1x4_S56x4_0_1 (broadcastInDim S1x4 ![1] bcast_S4_S1x4_1 (iotaInDim S4 32 0)))))

theorem starts_eq : starts = Windows.words 2 56 4 := by
  funext y
  idx_vars y
  pointwise
  rfl

/-- The reference's contraction of windows is the convolution. -/
theorem conv_eq (x : FVec Ideal S2x112x112x128 .f32) (w0 : FVec Ideal S256x128x4x4 .f32) :
    Host.dotGeneral dot_S2x56x4x56x4x128_S256x128x4x4_S2x56x56x256_524_123_013_0_n_n none (Host.gather gather_S2x114x56x4x128_S56x4x1_S2x56x4x56x4x128_0345_1_n_n_1_2_21564128 (Host.gather gather_S2x114x114x128_S56x4x1_S2x114x56x4x128_014_2_n_n_2_2_21141128 (pad S2x114x114x128 ![0, 1, 1, 0] ![0, 1, 1, 0] ![0, 0, 0, 0] (x) (sitofp .f32 (constantI S_ 32 0#32)) pads_S2x112x112x128_S2x114x114x128_000_110_110_000 h_S_) starts) starts) w0
     = fun y => Windows.conv 2 (by decide) (by decide) (Enc1Kernel.bordered x) w0 (y 0 : Fin 2) (y 1 : Fin 56) (y 2 : Fin 56) (y 3) :=
  Windows.conv_words (s := 2) (by decide) (by decide) (by decide) (by decide) _ _ _ (Enc1Kernel.bordered x) w0 starts starts starts_eq starts_eq

/-- The reference's run leaves the convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = Enc1Kernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  pointwise
  rfl

end Cert.Proof.Enc1Reference

end
-- ==== Proof.Enc1.lean ====
/- The encoder's second 4×4 convolution: the kernel and the reference compute the same array over the extended reals. -/
module

public import proofs.«01_k».proof.Defs
public import proofs.«01_k».proof.Proof.Gen.Enc1.Frame
public import proofs.«01_k».proof.Proof.Gen.Enc1Ideal.Frame
public import proofs.«01_k».proof.Proof.Enc1Reference
public import Idealize.ShloMosaic.Lib.Quiescent

@[expose] public section

set_option maxRecDepth 16384

noncomputable section

namespace Cert.Proof.Enc1

open Idealize.ShloMosaic Idealize.ShloMosaic.TcCoe Idealize.SL.Sem

/-- The reference is host operations alone, so every counter stays at zero. -/
theorem reference_frame : Cert.quiescent_Enc1RefIdeal (hEnc1RefIdeal := Cert.Enc1RefIdeal.Gen.facts) := by
  intro m g _
  exact (θ_run _ _ _).mono (fun r h => ⟨fun c => (h c).2, sem_eq_zero_of_no_sems (by decide) r.2⟩) (Enc1Reference.read m g)

/-- Kernel and reference agree. -/
theorem algebraic :
    Cert.algebraic_Enc1Ideal_Enc1RefIdeal (hEnc1Ideal := Cert.Enc1Ideal.Gen.facts) (hEnc1RefIdeal := Cert.Enc1RefIdeal.Gen.facts) := by
  intro m g m' g' _ hargs
  refine ⟨fun c => Enc1Kernel.block (Enc1Kernel.xA m c) (Enc1Kernel.wA m c) (Enc1Kernel.bA m c), ?_, ?_⟩
  · refine (θ_run _ _ _).mono (fun r h c => ⟨(h c).1.trans (Enc1Kernel.final m c), (h c).2⟩) (Cert.Enc1Ideal.Value.run_blocks m g)
  · refine (θ_run _ _ _).mono (fun r h c => ⟨(h c).1.trans ?_, (h c).2⟩) (Enc1Reference.read m' g')
    obtain ⟨h0, h1, h2⟩ := hargs c
    rw [h0, h1, h2]

end Cert.Proof.Enc1

end
-- ==== Proof.Enc0Kernel.lean ====
/- The encoder's first 4×4 convolution's kernel: what its launch leaves in the result array. The host packs each 2×2 square of
   pixels into the channels; at a grid point the body adds four products of a shifted view of the packed image with one tap of the
   packed weights, and the bias, and takes the positive part. -/
module

public import proofs.«01_k».proof.Proof.Gen.Enc0Ideal.Value
public import proofs.«01_k».proof.Proof.Windows
public import Idealize.ShloMosaic.Lib.Pointwise
public import Idealize.ShloMosaic.Lib.Pipeline.ValueKit

@[expose] public section
set_option maxRecDepth 16384
noncomputable section
namespace Cert.Proof.Enc0Kernel
open Cert.Enc0Ideal Cert.Enc0Ideal.Gen Cert.Enc0Ideal.Value Idealize.ShloMosaic Idealize.ShloMosaic.TcCoe Idealize.SL.Sem

variable (m : (ℓ : Loc nD τ sig) → Buf (Elt Ideal) ℓ)

/-- Where the four views of the packed image begin: at the point's 56 rows. -/
theorem offs : ∀ t : Fin cfg0.N,
    k0_off1 (grid0.coords t) 0#32 = ![0, 56 * (t.val % 2), 0, 0] ∧ k0_off1 (grid0.coords t) 1#32 = ![0, 56 * (t.val % 2) + 1, 0, 0] ∧
    k0_off2 (grid0.coords t) 0#32 = ![0, 56 * (t.val % 2), 1, 0] ∧ k0_off2 (grid0.coords t) 1#32 = ![0, 56 * (t.val % 2) + 1, 1, 0] :=
  (by decide +kernel : ∀ t : Fin grid0.N, _)

/-- A point's image. -/
abbrev img (t : Fin cfg0.N) : Fin 2 := ⟨t.val / 2, by have := (show t.val < 4 from t.isLt); omega⟩
/-- A row of a point's block, in the result. -/
abbrev row (t : Fin cfg0.N) (h : Fin 56) : Fin 112 := ⟨56 * (t.val % 2) + h.val, by omega⟩

/-! The arguments, as arrays. -/

abbrev xA (c : Dev nD) : FVec Ideal S2x3x224x224 .f32 := m ((c.tc : Thread nD τ).loc main_arg0)
abbrev wA (c : Dev nD) : FVec Ideal S128x3x4x4 .f32 := m ((c.tc : Thread nD τ).loc main_arg1)
abbrev bA (c : Dev nD) : FVec Ideal S128 .f32 := m ((c.tc : Thread nD τ).loc main_arg2)

/-- The image, channels last, within its border of zeros. -/
def bordered (x : FVec Ideal S2x3x224x224 .f32) : FVec Ideal S2x226x226x3 .f32 :=
  pad S2x226x226x3 ![0, 1, 1, 0] ![0, 1, 1, 0] ![0, 0, 0, 0] (transpose S2x224x224x3 [0, 2, 3, 1] x transposes_S2x3x224x224_S2x224x224x3_0_2_3_1)
    (sitofp .f32 (constantI S_ 32 0#32)) pads_S2x224x224x3_S2x226x226x3_000_110_110_000 h_S_

/-! ## What the host hands to the region -/

theorem image (c : Dev nD) : V m c main_v4 = shapeCast S2x113x113x12 (transpose S2x113x113x2x2x3 [0, 1, 3, 2, 4, 5] (shapeCast S2x113x2x113x2x3 (bordered (xA m c)) shapeCasts_S2x226x226x3_S2x113x2x113x2x3) transposes_S2x113x2x113x2x3_S2x113x113x2x2x3_0_1_3_2_4_5) shapeCasts_S2x113x113x2x2x3_S2x113x113x12 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem taps (c : Dev nD) : V m c main_v7 = shapeCast S4x12x128 (transpose S2x2x2x2x3x128 [2, 4, 3, 5, 1, 0] (shapeCast S128x3x2x2x2x2 (wA m c) shapeCasts_S128x3x4x4_S128x3x2x2x2x2) transposes_S128x3x2x2x2x2_S2x2x2x2x3x128_2_4_3_5_1_0) shapeCasts_S2x2x2x2x3x128_S4x12x128 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

theorem bias (c : Dev nD) : V m c main_v8 = shapeCast S1x128 (bA m c) shapeCasts_S128_S1x128 := by
  unfold_abbrev_sides
  simp only [hostOps0, hostOps0_1, hostOps0_2, List.flatten_cons, List.flatten_nil, List.cons_append, List.nil_append,
    List.append_nil, StableHlo.TRef.binary, StableHlo.TRef.unary, StableHlo.TRef.toBuf, StableHlo.TRef.ofBuf, cast_eq]
  after_results_simp <;> rfl

/-! ## The windows' blocks: each point takes half the rows of one image -/

theorem idx0 : ∀ t : Fin cfg0.N, win0_0.index t = ![t.val / 2, 0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 2, t.val % 2, 0, 0] := (by decide +kernel : ∀ t : Fin grid0.N, _)

/-! The input blocks, in terms of the arguments: a packed channel is a pixel of the square and a channel. -/

theorem emb0 (t : Fin cfg0.N) (z : Fin 1) (h w : Fin 113) (i : Fin 12) :
    ((View.whole main_v4).slice (win0_0.rect t)).emb (ix4 z h w i) = ix4 (img t) h w i := by
  funext e; apply Fin.ext
  fin_cases e <;> blk_simp [idx0] <;> rfl

theorem iblk0 (c : Dev nD) (t : Fin cfg0.N) :
    iblk m c 0 t = ((cfg0.win 0).blk t).view.read (Elt Ideal) (V m c main_v4) := rfl

theorem read0 (I : FVec Ideal S2x113x113x12 .f32) (t : Fin cfg0.N) (z : Fin 1) (h w : Fin 113) (i : Fin 12) :
    ((cfg0.win 0).blk t).view.read (Elt Ideal) I (ix4 z h w i) = I (ix4 (img t) h w i) :=
  congrArg I (emb0 t z h w i)

theorem unpack (B : FVec Ideal S2x226x226x3 .f32) (t : Fin 2) (h w : Fin 113) (i : Fin 12) :
    shapeCast S2x113x113x12 (transpose S2x113x113x2x2x3 [0, 1, 3, 2, 4, 5] (shapeCast S2x113x2x113x2x3 B shapeCasts_S2x226x226x3_S2x113x2x113x2x3) transposes_S2x113x2x113x2x3_S2x113x113x2x2x3_0_1_3_2_4_5) shapeCasts_S2x113x113x2x2x3_S2x113x113x12 (ix4 t h w i)
      = B (ix4 t (⟨h.val * 2 + i.val / 6, by omega⟩ : Fin 226) (⟨w.val * 2 + i.val / 3 % 2, by omega⟩ : Fin 226) (⟨i.val % 3, by omega⟩ : Fin 3)) := by
  pointwise

theorem blk0 (c : Dev nD) (t : Fin cfg0.N) (z : Fin 1) (h w : Fin 113) (i : Fin 12) :
    iblk m c 0 t (ix4 z h w i)
      = bordered (xA m c) (ix4 (img t) (⟨h.val * 2 + i.val / 6, by omega⟩ : Fin 226) (⟨w.val * 2 + i.val / 3 % 2, by omega⟩ : Fin 226) (⟨i.val % 3, by omega⟩ : Fin 3)) := by
  rw [iblk0, read0, image]
  exact unpack _ _ _ _ _

theorem blk1 (c : Dev nD) (t : Fin cfg0.N) (d : Fin 4) (i : Fin 12) (o : Fin 128) :
    iblk m c 1 t (ix3 d i o)
      = wA m c (ix4 o (⟨i.val % 3, by omega⟩ : Fin 3) (⟨d.val / 2 * 2 + i.val / 6, by omega⟩ : Fin 4) (⟨d.val % 2 * 2 + i.val / 3 % 2, by omega⟩ : Fin 4)) := by
  refine Eq.trans (b := V m c main_v7 (ix3 d i o)) (congrArg (V m c main_v7) (funext fun e => Fin.ext ?_)) ?_
  · fin_cases e <;> blk_simp [idx1] <;> rfl
  rw [taps]
  pointwise

theorem blk2 (c : Dev nD) (t : Fin cfg0.N) (a : Fin 1) (o : Fin 128) :
    iblk m c 2 t (ix2 a o) = bA m c (ix1 o) := by
  refine Eq.trans (b := V m c main_v8 (ix2 a o)) (congrArg (V m c main_v8) (funext fun e => Fin.ext ?_)) ?_
  · fin_cases e <;> blk_simp [idx2] <;> rfl
  rw [bias]
  pointwise

/-- An element of a point's output block is an element of that image's result, at the point's rows. -/
theorem emb3 (t : Fin cfg0.N) (a : Fin 1) (h : Fin 56) (w : Fin 112) (o : Fin 128) :
   ((View.whole main_v9).slice (win0_3.rect t)).emb (ix4 a h w o) = ix4 (img t) (row t h) w o := by
  funext e; apply Fin.ext
  fin_cases e <;> blk_simp [idx3] <;> (try rfl) <;> (simp [ix4]; try omega)

/-- The convolution at (b, h, w, o). -/
def blockAt (x : FVec Ideal S2x3x224x224 .f32) (w0 : FVec Ideal S128x3x4x4 .f32) (b1 : FVec Ideal S128 .f32)
    (b : Fin 2) (h w : Fin 112) (o : Fin 128) : EReal :=
  max (Windows.conv 2 (by decide) (by decide) (bordered x) w0 b h w o + b1 (ix1 o)) 0

/-- The convolution: `relu(conv4x4(x, w0, stride 2) + b1)`. -/
def block (x : FVec Ideal S2x3x224x224 .f32) (w0 : FVec Ideal S128x3x4x4 .f32) (b1 : FVec Ideal S128 .f32) :
    FVec Ideal S2x112x112x128 .f32 := fun y => blockAt x w0 b1 (y 0) (y 1) (y 2) (y 3)

/-- The body at (h, w, o) of a point's block: four products of a view of the packed image with a tap, and the bias. -/
theorem body (v0 v1 v2 v3 : Vec Ideal S1x56x112x12 .f32) (w0 w1 w2 w3 : Vec Ideal S1x12x128 .f32) (b : Vec Ideal S1x128 .f32)
    (z : Fin 1) (h : Fin 56) (w : Fin 112) (o : Fin 128) :
    k0_pay1 (k0_pay2 v0 w0 v1 w1) v2 w2 v3 w3 b (ix4 z h w o)
      = max (∑ x, v0 (ix4 0 h w x) * w0 (ix3 0 x o) + ∑ x, v1 (ix4 0 h w x) * w1 (ix3 0 x o) + ∑ x, v2 (ix4 0 h w x) * w2 (ix3 0 x o)
        + ∑ x, v3 (ix4 0 h w x) * w3 (ix3 0 x o) + b (ix2 0 o)) 0 := by
  pointwise [k0_pay1, k0_pay2]

/-- A view of the packed image read at an index. -/
theorem ld0 (B : Vec Ideal S1x113x113x12 .f32) (off : Fin 4 → ℕ) (d e : ℕ) (hoff : off = ![0, d, e, 0]) (hin) (h : Fin 56) (w : Fin 112) (i : Fin 12)
    (hd : d + h.val < 113) (he : e + w.val < 113) :
    View.ld B (Rect.unit (s := S1x113x113x12) off ![1, 56, 112, 12] hin) (ix4 0 h w i) = B (ix4 0 (⟨d + h.val, hd⟩ : Fin 113) (⟨e + w.val, he⟩ : Fin 113) i) := by
  subst hoff
  pointwise

/-- A tap read at an index. -/
theorem ld1 (B : Vec Ideal S4x12x128 .f32) (d : Fin 4) (hin) (i : Fin 12) (o : Fin 128) :
    View.ld B (Rect.unit (s := S4x12x128) ![d.val, 0, 0] ![1, 12, 128] hin) (ix3 0 i o) = B (ix3 d i o) := by
  pointwise

/-- A view of the packed image against a packed tap is the tap of the convolution at stride 2. -/
theorem tap_of (X : FVec Ideal S2x226x226x3 .f32) (R : FVec Ideal S128x3x4x4 .f32) (t : Fin 2) (B0 : Vec Ideal S1x113x113x12 .f32) (B1 : Vec Ideal S4x12x128 .f32)
    (e0 : ∀ (h w : Fin 113) (i : Fin 12), B0 (ix4 0 h w i) = X (ix4 t (⟨h.val * 2 + i.val / 6, by omega⟩ : Fin 226) (⟨w.val * 2 + i.val / 3 % 2, by omega⟩ : Fin 226) (⟨i.val % 3, by omega⟩ : Fin 3)))
    (e1 : ∀ (d : Fin 4) (i : Fin 12) (o : Fin 128), B1 (ix3 d i o) = R (ix4 o (⟨i.val % 3, by omega⟩ : Fin 3) (⟨d.val / 2 * 2 + i.val / 6, by omega⟩ : Fin 4) (⟨d.val % 2 * 2 + i.val / 3 % 2, by omega⟩ : Fin 4)))
    (r : ℕ) (y1' : Fin 112) (y1 : Fin 56) (hr : y1'.val = r + y1.val) (y2 : Fin 112) (y3 : Fin 128) (d e : Fin 2) (g : Fin 4) (off : Fin 4 → ℕ) (hoff : off = ![0, r + d.val, e.val, 0]) (hg : g.val = 2 * d.val + e.val) (hin hin') :
    ∑ x : Fin 12, View.ld B0 (Rect.unit (s := S1x113x113x12) off ![1, 56, 112, 12] hin) (ix4 0 y1 y2 x)
        * View.ld B1 (Rect.unit (s := S4x12x128) ![g.val, 0, 0] ![1, 12, 128] hin') (ix3 0 x y3)
      = Windows.tap (B := 2) (H := 226) (W := 226) (p := 112) (q := 112) (C := 3) (O := 128) (by decide) (by decide) X R t y1' y2 y3 d e := by
  refine Windows.tap_packed (C := 3) rfl (by decide) _ _ _ _ _ _ _ _ _ _ _ fun y h1 h2 h3 h4 h5 => ?_
  have := y.isLt; have := d.isLt; have := e.isLt; have := y1'.isLt; have := y2.isLt
  rw [ld0 _ off (r + d.val) e hoff hin y1 y2 y (by omega) (by omega), ld1, e0, e1]
  congr 2 <;> congr 1 <;> apply Fin.ext <;> simp only [hg] <;> omega

/-- The result array after the launch is the convolution of the arguments. -/
theorem final (c : Dev nD) : (dats m 0 c).arrAt 3 cfg0.N = block (xA m c) (wA m c) (bA m c) := by
  refine (dats m 0 c).arrAt_eq_of_covers 3 _ (by decide +kernel) fun t hf y => ?_
  blk_simp
  rw [after0_3]
  unfold outsAt0
  frame_out
  obtain ⟨a0, a1, b0, b1⟩ := offs t
  idx_vars y
  rw [emb3]
  refine (body _ _ _ _ _ _ _ _ _ y0 y1 y2 y3).trans ?_
  show _ = max (Windows.conv 2 _ _ (bordered (xA m c)) (wA m c) (img t) (row t y1) y2 y3 + bA m c (ix1 y3)) 0
  have taps := Windows.conv_taps (B := 2) (H := 226) (W := 226) (p := 112) (q := 112) (C := 3) (O := 128) (by decide) (by decide)
    (bordered (xA m c)) (wA m c) (img t) (row t y1) y2 y3
  have key := tap_of (bordered (xA m c)) (wA m c) (img t) (iblk m c 0 t) (iblk m c 1 t) (blk0 m c t 0) (blk1 m c t) (56 * (t.val % 2)) (row t y1) y1 rfl y2 y3
  refine Eq.trans ?_ (congrArg (fun s => max (s + bA m c (ix1 y3)) 0) taps.symm)
  exact congrArg (fun s => max s 0) (congrArg₂ (· + ·) (congrArg₂ (· + ·) (congrArg₂ (· + ·) (congrArg₂ (· + ·)
    (key 0 0 0 _ a0 rfl _ inb_S4x12x128_S1x12x128_0_0_0) (key 0 1 1 _ b0 rfl _ inb_S4x12x128_S1x12x128_1_0_0))
    (key 1 0 2 _ a1 rfl _ inb_S4x12x128_S1x12x128_2_0_0)) (key 1 1 3 _ b1 rfl _ inb_S4x12x128_S1x12x128_3_0_0))
    (blk2 m c t 0 y3))

end Cert.Proof.Enc0Kernel

end
-- ==== Proof.Enc0Reference.lean ====
/- The encoder's first 4×4 convolution's reference: its composed host term, read as the convolution of the arguments. -/
module

public import proofs.«01_k».proof.Proof.Gen.Enc0RefIdeal.Run
public import proofs.«01_k».proof.Proof.Enc0Kernel

@[expose] public section
set_option maxRecDepth 16384
noncomputable section
namespace Cert.Proof.Enc0Reference
open Cert.Enc0RefIdeal Cert.Enc0RefIdeal.Gen Cert.Enc0RefIdeal.Value Idealize.ShloMosaic Idealize.ShloMosaic.TcCoe Idealize.SL.Sem

/-- The words of the 112 windows of four, two apart. -/
abbrev starts : IVec S112x4x1 32 :=
  (broadcastInDim S112x4x1 ![0, 1] bcast_S112x4_S112x4x1_0_1 (addi (broadcastInDim S112x4 ![0, 1] bcast_S112x1_S112x4_0_1 (muli (broadcastInDim S112x1 ![] bcast_S_S112x1 (constantI S_ 32 2#32)) (broadcastInDim S112x1 ![0] bcast_S112_S112x1_0 (iotaInDim S112 32 0)))) (broadcastInDim S112x4 ![0, 1] bcast_S1x4_S112x4_0_1 (broadcastInDim S1x4 ![1] bcast_S4_S1x4_1 (iotaInDim S4 32 0)))))

theorem starts_eq : starts = Windows.words 2 112 4 := by
  funext y
  idx_vars y
  pointwise
  rfl

/-- The reference's contraction of windows is the convolution. -/
theorem conv_eq (x : FVec Ideal S2x3x224x224 .f32) (w0 : FVec Ideal S128x3x4x4 .f32) :
    Host.dotGeneral dot_S2x112x4x112x4x3_S128x3x4x4_S2x112x112x128_524_123_013_0_n_n none (Host.gather gather_S2x226x112x4x3_S112x4x1_S2x112x4x112x4x3_0345_1_n_n_1_2_2111243 (Host.gather gather_S2x226x226x3_S112x4x1_S2x226x112x4x3_014_2_n_n_2_2_222613 (pad S2x226x226x3 ![0, 1, 1, 0] ![0, 1, 1, 0] ![0, 0, 0, 0] (transpose S2x224x224x3 [0, 2, 3, 1] (x) transposes_S2x3x224x224_S2x224x224x3_0_2_3_1) (sitofp .f32 (constantI S_ 32 0#32)) pads_S2x224x224x3_S2x226x226x3_000_110_110_000 h_S_) starts) starts) w0
     = fun y => Windows.conv 2 (by decide) (by decide) (Enc0Kernel.bordered x) w0 (y 0 : Fin 2) (y 1 : Fin 112) (y 2 : Fin 112) (y 3) :=
  Windows.conv_words (s := 2) (by decide) (by decide) (by decide) (by decide) _ _ _ (Enc0Kernel.bordered x) w0 starts starts starts_eq starts_eq

/-- The reference's run leaves the convolution of its arguments. -/
theorem read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = Enc0Kernel.block (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  rw [conv_eq]
  idx_vars y
  pointwise
  rfl

end Cert.Proof.Enc0Reference

end
-- ==== Proof.Enc0.lean ====
/- The encoder's first 4×4 convolution: the kernel and the reference compute the same array over the extended reals. -/
module

public import proofs.«01_k».proof.Defs
public import proofs.«01_k».proof.Proof.Gen.Enc0.Frame
public import proofs.«01_k».proof.Proof.Gen.Enc0Ideal.Frame
public import proofs.«01_k».proof.Proof.Enc0Reference
public import Idealize.ShloMosaic.Lib.Quiescent

@[expose] public section

set_option maxRecDepth 16384

noncomputable section

namespace Cert.Proof.Enc0

open Idealize.ShloMosaic Idealize.ShloMosaic.TcCoe Idealize.SL.Sem

/-- The reference is host operations alone, so every counter stays at zero. -/
theorem reference_frame : Cert.quiescent_Enc0RefIdeal (hEnc0RefIdeal := Cert.Enc0RefIdeal.Gen.facts) := by
  intro m g _
  exact (θ_run _ _ _).mono (fun r h => ⟨fun c => (h c).2, sem_eq_zero_of_no_sems (by decide) r.2⟩) (Enc0Reference.read m g)

/-- Kernel and reference agree. -/
theorem algebraic :
    Cert.algebraic_Enc0Ideal_Enc0RefIdeal (hEnc0Ideal := Cert.Enc0Ideal.Gen.facts) (hEnc0RefIdeal := Cert.Enc0RefIdeal.Gen.facts) := by
  intro m g m' g' _ hargs
  refine ⟨fun c => Enc0Kernel.block (Enc0Kernel.xA m c) (Enc0Kernel.wA m c) (Enc0Kernel.bA m c), ?_, ?_⟩
  · refine (θ_run _ _ _).mono (fun r h c => ⟨(h c).1.trans (Enc0Kernel.final m c), (h c).2⟩) (Cert.Enc0Ideal.Value.run_blocks m g)
  · refine (θ_run _ _ _).mono (fun r h c => ⟨(h c).1.trans ?_, (h c).2⟩) (Enc0Reference.read m' g')
    obtain ⟨h0, h1, h2⟩ := hargs c
    rw [h0, h1, h2]

end Cert.Proof.Enc0

end
-- ==== Proof.VqNearest.lean ====
/- The nearest code: the first of 1024 scores that is least. It is what a scan over tiles of 128 scores keeps, which replaces its
   candidate only when a tile's least score is strictly smaller, and what a search over the whole row finds. -/
module

public import Idealize.ShloMosaic.Lib.Pointwise

@[expose] public section
set_option maxRecDepth 16384
noncomputable section
namespace Cert.Proof.VqNearest
open Idealize.ShloMosaic

/-! ## The least word and the least score of a family -/

theorem minsi_toInt (a b : BitVec 32) : (IntOp.minsi a b).toInt = min a.toInt b.toInt := by
  unfold IntOp.minsi
  by_cases h : a.slt b = true
  · have := BitVec.slt_iff_toInt_lt.mp h
    simp only [h, if_true]; omega
  · have : ¬ a.toInt < b.toInt := fun hh => h (BitVec.slt_iff_toInt_lt.mpr hh)
    simp only [h]; simp; omega

theorem fold_minsi_le {n : ℕ} (acc : BitVec 32) (g : Fin n → BitVec 32) (s : Finset (Fin n)) :
    ∀ j ∈ s, (s.fold IntOp.minsi acc g).toInt ≤ (g j).toInt := by
  induction s using Finset.induction with
  | empty => simp
  | insert a s ha ih =>
    intro j hj
    rw [Finset.fold_insert ha, minsi_toInt]
    rcases Finset.mem_insert.mp hj with rfl | hj
    · exact min_le_left _ _
    · exact (min_le_right _ _).trans (ih j hj)

theorem le_fold_minsi {n : ℕ} (acc w : BitVec 32) (g : Fin n → BitVec 32) (hacc : w.toInt ≤ acc.toInt) (s : Finset (Fin n))
    (hg : ∀ j, w.toInt ≤ (g j).toInt) : w.toInt ≤ (s.fold IntOp.minsi acc g).toInt := by
  induction s using Finset.induction with
  | empty => simpa using hacc
  | insert a s ha ih => rw [Finset.fold_insert ha, minsi_toInt]; exact le_min (hg a) ih

/-- The least word of a family is the one that bounds it and is taken. -/
theorem fold_minsi_eq {n : ℕ} (acc : BitVec 32) (g : Fin n → BitVec 32) (k : Fin n) (hacc : (g k).toInt ≤ acc.toInt)
    (hg : ∀ j, (g k).toInt ≤ (g j).toInt) : Finset.univ.fold IntOp.minsi acc g = g k :=
  BitVec.eq_of_toInt_eq (le_antisymm (fold_minsi_le acc g _ k (Finset.mem_univ k)) (le_fold_minsi acc _ g hacc _ hg))

theorem fold_min_eq {n : ℕ} (f : Fin n → EReal) : Finset.univ.fold min ⊤ f = Finset.univ.inf f := rfl

/-- The first place of a nonempty family at which it is least. -/
theorem exists_first {n : ℕ} [NeZero n] (f : Fin n → EReal) : ∃ k, (∀ j, f k ≤ f j) ∧ ∀ j < k, f k < f j := by
  classical
  obtain ⟨a, ha⟩ := Finite.exists_min f
  let P : Finset (Fin n) := Finset.univ.filter fun j => f j = f a
  have hP : P.Nonempty := ⟨a, by simp [P]⟩
  refine ⟨P.min' hP, ?_⟩
  have hk : f (P.min' hP) = f a := (Finset.mem_filter.mp (P.min'_mem hP)).2
  refine ⟨fun j => hk ▸ ha j, fun j hj => lt_of_le_of_ne (hk ▸ ha j) fun he => ?_⟩
  have : P.min' hP ≤ j := P.min'_le j (Finset.mem_filter.mpr ⟨Finset.mem_univ j, by rw [← he, hk]⟩)
  exact absurd hj (not_lt.mpr this)

theorem toInt_small {k : ℕ} (hk : k ≤ 1024) : (BitVec.ofNat 32 k).toInt = k := by
  rw [BitVec.toInt_eq_toNat_of_lt] <;> simp only [BitVec.toNat_ofNat] <;> omega

/-- A family's least score, and the word of the first place at which it is taken, counted from b on. -/
theorem search {n : ℕ} [NeZero n] (b : ℕ) (hb : b + n ≤ 1024) (f : Fin n → EReal) (at_ : Fin n → BitVec 32)
    (hat : ∀ l, at_ l = BitVec.ofNat 32 (b + l.val)) :
    ∃ k : Fin n, (Finset.univ.fold min ⊤ f = f k ∧ (∀ j, f k ≤ f j) ∧ ∀ j < k, f k < f j) ∧
      Finset.univ.fold IntOp.minsi 2147483647#32 (fun l => if f l = Finset.univ.fold min ⊤ f then at_ l else 1024#32)
        = BitVec.ofNat 32 (b + k.val) := by
  obtain ⟨k, h1, h2⟩ := exists_first f
  have hm : Finset.univ.fold min ⊤ f = f k := by
    rw [fold_min_eq]
    exact le_antisymm (Finset.inf_le (Finset.mem_univ k)) (Finset.le_inf fun j _ => h1 j)
  refine ⟨k, ⟨hm, h1, h2⟩, ?_⟩
  have hk := k.isLt
  rw [hm]
  refine (fold_minsi_eq _ _ k ?_ fun j => ?_).trans ?_
  · rw [if_pos rfl, hat, toInt_small (by omega)]
    have : (2147483647#32 : BitVec 32).toInt = 2147483647 := by decide
    omega
  · rw [if_pos rfl, hat, toInt_small (by omega)]
    have hj := j.isLt
    split_ifs with h
    · rw [hat, toInt_small (by omega)]
      have : k ≤ j := not_lt.mp fun hjk => absurd h (h2 j hjk).ne'
      have : k.val ≤ j.val := this
      omega
    · rw [show (1024#32 : BitVec 32).toInt = 1024 by decide]
      omega
  · rw [if_pos rfl, hat]

/-! ## The nearest code -/

/-- k is the first place at which s is least. -/
def First (s : Fin 1024 → EReal) (k : Fin 1024) : Prop := (∀ j, s k ≤ s j) ∧ ∀ j < k, s k < s j

theorem First.unique {s : Fin 1024 → EReal} {k l : Fin 1024} (hk : First s k) (hl : First s l) : k = l := by
  rcases lt_trichotomy k l with h | h | h
  · exact absurd (hl.2 k h) (not_lt.mpr (hk.1 l))
  · exact h
  · exact absurd (hk.2 l h) (not_lt.mpr (hl.1 k))

/-- The first place at which s is least. -/
def nearest (s : Fin 1024 → EReal) : Fin 1024 := (exists_first s).choose

theorem nearest_first (s : Fin 1024 → EReal) : First s (nearest s) := (exists_first s).choose_spec

theorem First.nearest {s : Fin 1024 → EReal} {k : Fin 1024} (hk : First s k) : nearest s = k := (nearest_first s).unique hk

/-- A real number added to every score leaves the nearest code. -/
theorem nearest_add (s d : Fin 1024 → EReal) (x : EReal) (hx : x ≠ ⊤) (hx' : x ≠ ⊥) (hd : ∀ k, d k = x + s k) : nearest d = nearest s := by
  lift x to ℝ using ⟨hx, hx'⟩
  have back : ∀ k, s k = ((-x : ℝ) : EReal) + d k := fun k => by
    rw [hd, ← add_assoc, ← EReal.coe_add, neg_add_cancel, EReal.coe_zero, zero_add]
  have h := nearest_first s
  refine First.nearest ⟨fun j => ?_, fun j hj => ?_⟩
  · rw [hd, hd]; exact add_le_add le_rfl (h.1 j)
  · refine lt_of_le_of_ne (by rw [hd, hd]; exact add_le_add le_rfl (h.1 j)) fun he => (h.2 j hj).ne ?_
    rw [back, back j, he]

/-- The word of the first place at which a family's least score is taken. -/
def found {n : ℕ} (f : Fin n → EReal) : BitVec 32 :=
  Finset.univ.fold IntOp.minsi 2147483647#32 fun l => if f l = Finset.univ.fold min ⊤ f then BitVec.ofNat 32 l.val else 1024#32

theorem found_first {n : ℕ} [NeZero n] (hn : n ≤ 1024) (f : Fin n → EReal) :
    ∃ k : Fin n, ((∀ j, f k ≤ f j) ∧ ∀ j < k, f k < f j) ∧ found f = BitVec.ofNat 32 k.val := by
  obtain ⟨k, ⟨_, h1, h2⟩, hw⟩ := search 0 (by omega) f (fun l => BitVec.ofNat 32 l.val) fun l => by rw [Nat.zero_add]
  exact ⟨k, ⟨h1, h2⟩, hw.trans (by rw [Nat.zero_add])⟩

/-- A search over the whole row finds the nearest code. -/
theorem row (s : Fin 1024 → EReal) : found s = BitVec.ofNat 32 (nearest s).val := by
  obtain ⟨k, hk, hw⟩ := found_first (Nat.le_refl 1024) s
  exact hw.trans (congrArg (fun l : Fin 1024 => BitVec.ofNat 32 l.val) (First.nearest hk).symm)

/-! ## The scan -/

/-- What the scan holds of the scores before b: the least of them and the word of the first place at which it is taken. -/
def Held (s : Fin 1024 → EReal) (b : ℕ) (m : EReal) (w : BitVec 32) : Prop :=
  (∀ j : Fin 1024, j.val < b → m ≤ s j) ∧
    ((∃ k : Fin 1024, w = BitVec.ofNat 32 k.val ∧ s k = m ∧ ∀ j < k, m < s j) ∨ (m = ⊤ ∧ w = 0#32))

theorem held_zero (s : Fin 1024 → EReal) : Held s 0 ⊤ 0#32 := ⟨fun _ h => absurd h (Nat.not_lt_zero _), .inr ⟨rfl, rfl⟩⟩

/-- A tile's step. -/
theorem held_step {n : ℕ} [NeZero n] (s : Fin 1024 → EReal) (b : ℕ) (hb : b + n ≤ 1024) (m : EReal) (w : BitVec 32) (h : Held s b m w)
    (f : Fin n → EReal) (hf : ∀ l : Fin n, f l = s ⟨b + l.val, by omega⟩) (at_ : Fin n → BitVec 32)
    (hat : ∀ l, at_ l = BitVec.ofNat 32 (b + l.val)) :
    Held s (b + n) (if Finset.univ.fold min ⊤ f < m then Finset.univ.fold min ⊤ f else m)
      (if Finset.univ.fold min ⊤ f < m then
        Finset.univ.fold IntOp.minsi 2147483647#32 (fun l => if f l = Finset.univ.fold min ⊤ f then at_ l else 1024#32) else w) := by
  obtain ⟨k, ⟨hm, h1, h2⟩, hw⟩ := search b hb f at_ hat
  have tile : ∀ j : Fin 1024, b ≤ j.val → j.val < b + n → ∃ l : Fin n, j.val = b + l.val ∧ s j = f l := fun j hj hj' =>
    ⟨⟨j.val - b, by omega⟩, by simp only; omega, by rw [hf]; congr 1; apply Fin.ext; simp only; omega⟩
  rw [hw, hm]
  obtain ⟨ha, hc⟩ := h
  by_cases hlt : f k < m
  · rw [if_pos hlt, if_pos hlt]
    refine ⟨fun j hj => ?_, .inl ⟨⟨b + k.val, by omega⟩, rfl, (hf k).symm, fun j hj => ?_⟩⟩
    · by_cases hjb : j.val < b
      · exact hlt.le.trans (ha j hjb)
      · obtain ⟨l, _, hl⟩ := tile j (by omega) hj
        rw [hl]; exact h1 l
    · have hj : j.val < b + k.val := hj
      by_cases hjb : j.val < b
      · exact hlt.trans_le (ha j hjb)
      · obtain ⟨l, hjl, hl⟩ := tile j (by omega) (by omega)
        rw [hl]; exact h2 l (Fin.lt_def.mpr (by omega))
  · rw [if_neg hlt, if_neg hlt]
    refine ⟨fun j hj => ?_, hc⟩
    by_cases hjb : j.val < b
    · exact ha j hjb
    · obtain ⟨l, _, hl⟩ := tile j (by omega) hj
      rw [hl]; exact (not_lt.mp hlt).trans (h1 l)

/-- After the last tile the scan holds the nearest code. -/
theorem held_last (s : Fin 1024 → EReal) (m : EReal) (w : BitVec 32) (h : Held s 1024 m w) : w = BitVec.ofNat 32 (nearest s).val := by
  obtain ⟨ha, ⟨k, rfl, hk, hlt⟩ | ⟨rfl, rfl⟩⟩ := h
  · rw [First.nearest (s := s) (k := k) ⟨fun j => hk ▸ ha j j.isLt, fun j hj => hk ▸ hlt j hj⟩]
  · rw [First.nearest (s := s) (k := 0) ⟨fun j => le_top.trans (ha j j.isLt), fun j hj => absurd hj (Fin.not_lt_zero j)⟩]
    rfl

end Cert.Proof.VqNearest

end
-- ==== Proof.VqTile.lean ====
/- One grid point of the vector quantiser, as functions of its blocks: the scores of a tile of codes, the scan that keeps the nearest
   code of each row, the rows it picks, and how often each code is picked. -/
module

public import proofs.«01_k».proof.Proof.Gen.VqIdeal.Value
public import proofs.«01_k».proof.Proof.VqNearest
public import Idealize.ShloMosaic.Lib.Pointwise
public import Idealize.ShloMosaic.Lib.Pipeline.ValueKit

@[expose] public section
set_option maxRecDepth 16384
noncomputable section
namespace Cert.Proof.VqTile
open Cert.VqIdeal Cert.VqIdeal.Gen Idealize.ShloMosaic Idealize.ShloMosaic.TcCoe Idealize.SL.Sem Cert.Proof.VqNearest

/-- The scores of a tile of codes: |e|² − 2·h·e. -/
def score (h : FVec Ideal S448x256 .f32) (E : FVec Ideal S256x128 .f32) (n : FVec Ideal S1x128 .f32) : FVec Ideal S448x128 .f32 :=
  subf (broadcastTo S448x128 n broadcasts_S1x128_S448x128)
    (mulf (broadcast S448x128 (Scalar.ofBits .f32 0x40000000#32))
      (matmul dot_S448x256_S256x128_S448x128_1_0_0_1_n_n none (truncf .bf16 h bitsLt_bf16_f32)
        (truncf .bf16 (shapeCast S256x128 E shapeCasts_S256x128_S256x128) bitsLt_bf16_f32) (constant S448x128 .f32 0x00000000#32)))

/-- A tile's least score in each row. -/
def least (S : FVec Ideal S448x128 .f32) : FVec Ideal S448x1 .f32 :=
  shapeCast S448x1 (multiReduction .minimumf [1] S448 S 0x7F800000#32 reduces_S448x128_S448 (.inl rfl) rfl) shapeCasts_S448_S448x1

/-- The first code of the tile that takes it. -/
def word (b : BitVec 32) (S : FVec Ideal S448x128 .f32) : IVec S448x1 32 :=
  shapeCast S448x1 (multiReductionI .minsi [1] S448
    (select (cmpf .oeq S (broadcastTo S448x128 (least S) broadcasts_S448x1_S448x128))
      (addi (iota .tc S448x128 32 [1] iota_S448x128_d1_w32) (broadcast S448x128 b)) (broadcast S448x128 1024#32))
    2147483647#32 reduces_S448x128_S448 rfl) shapeCasts_S448_S448x1

/-- The least score kept after a tile. -/
def keepM (S : FVec Ideal S448x128 .f32) (v : FVec Ideal S448x1 .f32) : FVec Ideal S448x1 .f32 :=
  select (cmpf .olt (least S) v) (least S) v

/-- The code kept after a tile. -/
def keepW (b : BitVec 32) (S : FVec Ideal S448x128 .f32) (v : FVec Ideal S448x1 .f32) (w : IVec S448x1 32) : IVec S448x1 32 :=
  select (cmpf .olt (least S) v) (word b S) w

/-- The tile of codes that begins at d. -/
def tile (h : Vec Ideal S448x256 .f32) (E : Vec Ideal S256x1024 .f32) (n : Vec Ideal S1x1024 .f32) (d : ℕ)
    (hE : ∀ a : Fin 2, (![0, d] : Fin 2 → ℕ) a + (![256, 128] : Fin 2 → ℕ) a ≤ S256x1024.size a)
    (hn : ∀ a : Fin 2, (![0, d] : Fin 2 → ℕ) a + (![1, 128] : Fin 2 → ℕ) a ≤ S1x1024.size a) : FVec Ideal S448x128 .f32 :=
  score h (View.ld E (Rect.unit (s := S256x1024) ![0, d] ![256, 128] hE)) (View.ld n (Rect.unit (s := S1x1024) ![0, d] ![1, 128] hn))

section
variable (h : Vec Ideal S448x256 .f32) (E : Vec Ideal S256x1024 .f32) (n : Vec Ideal S1x1024 .f32)

abbrev t0 := tile h E n 0 inb_S256x1024_S256x128_0_0 inb_S1x1024_S1x128_0_0
abbrev t1 := tile h E n 128 inb_S256x1024_S256x128_0_128 inb_S1x1024_S1x128_0_128
abbrev t2 := tile h E n 256 inb_S256x1024_S256x128_0_256 inb_S1x1024_S1x128_0_256
abbrev t3 := tile h E n 384 inb_S256x1024_S256x128_0_384 inb_S1x1024_S1x128_0_384
abbrev t4 := tile h E n 512 inb_S256x1024_S256x128_0_512 inb_S1x1024_S1x128_0_512
abbrev t5 := tile h E n 640 inb_S256x1024_S256x128_0_640 inb_S1x1024_S1x128_0_640
abbrev t6 := tile h E n 768 inb_S256x1024_S256x128_0_768 inb_S1x1024_S1x128_0_768
abbrev t7 := tile h E n 896 inb_S256x1024_S256x128_0_896 inb_S1x1024_S1x128_0_896

def m0 : FVec Ideal S448x1 .f32 := broadcast S448x1 (Scalar.ofBits .f32 0x7F800000#32)
def m1 := keepM (t0 h E n) m0
def m2 := keepM (t1 h E n) (m1 h E n)
def m3 := keepM (t2 h E n) (m2 h E n)
def m4 := keepM (t3 h E n) (m3 h E n)
def m5 := keepM (t4 h E n) (m4 h E n)
def m6 := keepM (t5 h E n) (m5 h E n)
def m7 := keepM (t6 h E n) (m6 h E n)
def w1 := keepW 0#32 (t0 h E n) m0 (broadcast S448x1 0#32)
def w2 := keepW 128#32 (t1 h E n) (m1 h E n) (w1 h E n)
def w3 := keepW 256#32 (t2 h E n) (m2 h E n) (w2 h E n)
def w4 := keepW 384#32 (t3 h E n) (m3 h E n) (w3 h E n)
def w5 := keepW 512#32 (t4 h E n) (m4 h E n) (w4 h E n)
def w6 := keepW 640#32 (t5 h E n) (m5 h E n) (w5 h E n)
def w7 := keepW 768#32 (t6 h E n) (m6 h E n) (w6 h E n)

/-- The code the scan picks for each row. -/
def picked : IVec S448x1 32 := keepW 896#32 (t7 h E n) (m7 h E n) (w7 h E n)

end

/-- Which of the tile's codes a row picks, as ones and zeros. -/
def hot (b : BitVec 32) (w : IVec S448x1 32) : FVec Ideal S448x128 .f32 :=
  sitofp .f32 (extui 32 (cmpi .eq (addi (iota .tc S448x128 32 [1] iota_S448x128_d1_w32) (broadcast S448x128 b))
    (broadcastTo S448x128 w broadcasts_S448x1_S448x128)) natLt_1_32)

/-- The codes a row picks among a tile's. -/
def from_ (b : BitVec 32) (w : IVec S448x1 32) (e : FVec Ideal S128x256 .f32) : FVec Ideal S448x256 .f32 :=
  matmul dot_S448x128_S128x256_S448x256_1_0_0_1_n_n none (truncf .bf16 (hot b w) bitsLt_bf16_f32) (truncf .bf16 e bitsLt_bf16_f32)
    (constant S448x256 .f32 0x00000000#32)

/-- The rows of codes that begin at d. -/
def rows (e : Vec Ideal S1024x256 .f32) (d : ℕ)
    (he : ∀ a : Fin 2, (![d, 0] : Fin 2 → ℕ) a + (![128, 256] : Fin 2 → ℕ) a ≤ S1024x256.size a) : FVec Ideal S128x256 .f32 :=
  View.ld e (Rect.unit (s := S1024x256) ![d, 0] ![128, 256] he)

/-- The codes picked. -/
def quant (w : IVec S448x1 32) (e : Vec Ideal S1024x256 .f32) : FVec Ideal S448x256 .f32 :=
  addf (addf (addf (addf (addf (addf (addf (addf (broadcast S448x256 (Scalar.ofBits .f32 0x00000000#32))
    (from_ 0#32 w (rows e 0 inb_S1024x256_S128x256_0_0)))
    (from_ 128#32 w (rows e 128 inb_S1024x256_S128x256_128_0)))
    (from_ 256#32 w (rows e 256 inb_S1024x256_S128x256_256_0)))
    (from_ 384#32 w (rows e 384 inb_S1024x256_S128x256_384_0)))
    (from_ 512#32 w (rows e 512 inb_S1024x256_S128x256_512_0)))
    (from_ 640#32 w (rows e 640 inb_S1024x256_S128x256_640_0)))
    (from_ 768#32 w (rows e 768 inb_S1024x256_S128x256_768_0)))
    (from_ 896#32 w (rows e 896 inb_S1024x256_S128x256_896_0))

/-! ## Read at an index -/

theorem inf : Ideal.ofBits FTy.f32 0x7F800000#32 = ⊤ := by simp [Ideal.ofBits, Ideal.ieee]

theorem score_at (h : FVec Ideal S448x256 .f32) (E : FVec Ideal S256x128 .f32) (n : FVec Ideal S1x128 .f32) (r : Fin 448) (l : Fin 128) :
    score h E n (ix2 r l) = n (ix2 0 l) - Ideal.ofBits FTy.f32 0x40000000#32 * ∑ x : Fin 256, h (ix2 r x) * E (ix2 x l) := by
  pointwise [score]

theorem least_at (S : FVec Ideal S448x128 .f32) (r : Fin 448) (z : Fin 1) :
    least S (ix2 r z) = Finset.univ.fold min ⊤ fun l : Fin 128 => S (ix2 r l) := by
  rw [← inf]
  pointwise [least]

theorem word_at (b : BitVec 32) (S : FVec Ideal S448x128 .f32) (r : Fin 448) (z : Fin 1) :
    word b S (ix2 r z) = Finset.univ.fold IntOp.minsi 2147483647#32 fun l : Fin 128 =>
      if S (ix2 r l) = Finset.univ.fold min ⊤ (fun l : Fin 128 => S (ix2 r l)) then IntOp.addi (BitVec.ofNat 32 l.val) b else 1024#32 := by
  pointwise [word, least_at]

theorem keepM_at (S : FVec Ideal S448x128 .f32) (v : FVec Ideal S448x1 .f32) (r : Fin 448) (z : Fin 1) :
    keepM S v (ix2 r z) = if least S (ix2 r z) < v (ix2 r z) then least S (ix2 r z) else v (ix2 r z) := by
  pointwise [keepM]

theorem keepW_at (b : BitVec 32) (S : FVec Ideal S448x128 .f32) (v : FVec Ideal S448x1 .f32) (w : IVec S448x1 32) (r : Fin 448) (z : Fin 1) :
    keepW b S v w (ix2 r z) = if least S (ix2 r z) < v (ix2 r z) then word b S (ix2 r z) else w (ix2 r z) := by
  pointwise [keepW]

theorem one : (FloatOps.sitofp (F := Ideal) FTy.f32 1#32 : EReal) = 1 := by
  simp [FloatOps.sitofp]

theorem zero : (FloatOps.sitofp (F := Ideal) FTy.f32 0#32 : EReal) = 0 := by
  simp [FloatOps.sitofp]

theorem flag (a b : BitVec 32) :
    (FloatOps.sitofp (F := Ideal) FTy.f32 (BitVec.setWidth 32 (IntOp.cmpi CmpIPredicate.eq a b)) : EReal) = if a = b then 1 else 0 := by
  by_cases h : a = b
  · rw [if_pos h, ← one]; subst h; simp [IntOp.cmpi]
  · rw [if_neg h, ← zero]; simp only [IntOp.cmpi, beq_eq_false_iff_ne.mpr h]; rfl

theorem hot_at (b : BitVec 32) (w : IVec S448x1 32) (r : Fin 448) (l : Fin 128) :
    hot b w (ix2 r l) = if IntOp.addi (BitVec.ofNat 32 l.val) b = w (ix2 r 0) then 1 else 0 := by
  pointwise [hot, flag]

theorem from_at (b : BitVec 32) (w : IVec S448x1 32) (e : FVec Ideal S128x256 .f32) (r : Fin 448) (c : Fin 256) :
    from_ b w e (ix2 r c) = ∑ l : Fin 128, hot b w (ix2 r l) * e (ix2 l c) := by
  pointwise [from_]

theorem ldE (E : Vec Ideal S256x1024 .f32) (d : ℕ) (hd : d + 128 ≤ 1024) (hE) (x : Fin 256) (l : Fin 128) :
    View.ld E (Rect.unit (s := S256x1024) ![0, d] ![256, 128] hE) (ix2 x l) = E (ix2 x (⟨d + l.val, by omega⟩ : Fin 1024)) := by
  pointwise

theorem ldN (n : Vec Ideal S1x1024 .f32) (d : ℕ) (hd : d + 128 ≤ 1024) (hn) (l : Fin 128) :
    View.ld n (Rect.unit (s := S1x1024) ![0, d] ![1, 128] hn) (ix2 0 l) = n (ix2 0 (⟨d + l.val, by omega⟩ : Fin 1024)) := by
  pointwise

theorem rows_at (e : Vec Ideal S1024x256 .f32) (d : ℕ) (hd : d + 128 ≤ 1024) (he) (l : Fin 128) (c : Fin 256) :
    rows e d he (ix2 l c) = e (ix2 (⟨d + l.val, by omega⟩ : Fin 1024) c) := by
  pointwise [rows]

/-! ## The scan finds the nearest code -/

/-- A row's scores: |e|² − 2·h·e. -/
def sc (h : Vec Ideal S448x256 .f32) (E : Vec Ideal S256x1024 .f32) (n : Vec Ideal S1x1024 .f32) (r : Fin 448) (k : Fin 1024) : EReal :=
  n (ix2 0 k) - Ideal.ofBits FTy.f32 0x40000000#32 * ∑ x : Fin 256, h (ix2 r x) * E (ix2 x k)

theorem tile_at (h : Vec Ideal S448x256 .f32) (E : Vec Ideal S256x1024 .f32) (n : Vec Ideal S1x1024 .f32) (d : ℕ) (hd : d + 128 ≤ 1024) (hE) (hn)
    (r : Fin 448) (l : Fin 128) : tile h E n d hE hn (ix2 r l) = sc h E n r ⟨d + l.val, by omega⟩ := by
  unfold tile sc
  rw [score_at, ldN n d hd]
  simp only [ldE E d hd]

theorem code (l : Fin 128) (d : ℕ) : IntOp.addi (BitVec.ofNat 32 l.val) (BitVec.ofNat 32 d) = BitVec.ofNat 32 (d + l.val) := by
  rw [Nat.add_comm, BitVec.ofNat_add]; rfl

theorem step (s : Fin 1024 → EReal) (d : ℕ) (hd : d + 128 ≤ 1024) (S : FVec Ideal S448x128 .f32) (v : FVec Ideal S448x1 .f32) (w : IVec S448x1 32)
    (r : Fin 448) (hS : ∀ l : Fin 128, S (ix2 r l) = s ⟨d + l.val, by omega⟩) (H : Held s d (v (ix2 r 0)) (w (ix2 r 0))) :
    Held s (d + 128) (keepM S v (ix2 r 0)) (keepW (BitVec.ofNat 32 d) S v w (ix2 r 0)) := by
  rw [keepM_at, keepW_at, least_at, word_at]
  exact held_step s d hd _ _ H (fun l => S (ix2 r l)) hS _ fun l => code l d

theorem picked_at (h : Vec Ideal S448x256 .f32) (E : Vec Ideal S256x1024 .f32) (n : Vec Ideal S1x1024 .f32) (r : Fin 448) :
    picked h E n (ix2 r 0) = BitVec.ofNat 32 (nearest (sc h E n r)).val := by
  have H0 : Held (sc h E n r) 0 (m0 (ix2 r 0)) ((broadcast S448x1 0#32 : IVec S448x1 32) (ix2 r 0)) := by
    rw [show m0 (ix2 r 0) = ⊤ from inf]; exact held_zero _
  have H1 := step _ 0 (by omega) _ _ _ r (tile_at h E n 0 (by omega) inb_S256x1024_S256x128_0_0 inb_S1x1024_S1x128_0_0 r) H0
  have H2 := step _ 128 (by omega) _ _ _ r (tile_at h E n 128 (by omega) inb_S256x1024_S256x128_0_128 inb_S1x1024_S1x128_0_128 r) H1
  have H3 := step _ 256 (by omega) _ _ _ r (tile_at h E n 256 (by omega) inb_S256x1024_S256x128_0_256 inb_S1x1024_S1x128_0_256 r) H2
  have H4 := step _ 384 (by omega) _ _ _ r (tile_at h E n 384 (by omega) inb_S256x1024_S256x128_0_384 inb_S1x1024_S1x128_0_384 r) H3
  have H5 := step _ 512 (by omega) _ _ _ r (tile_at h E n 512 (by omega) inb_S256x1024_S256x128_0_512 inb_S1x1024_S1x128_0_512 r) H4
  have H6 := step _ 640 (by omega) _ _ _ r (tile_at h E n 640 (by omega) inb_S256x1024_S256x128_0_640 inb_S1x1024_S1x128_0_640 r) H5
  have H7 := step _ 768 (by omega) _ _ _ r (tile_at h E n 768 (by omega) inb_S256x1024_S256x128_0_768 inb_S1x1024_S1x128_0_768 r) H6
  have H8 := step _ 896 (by omega) _ _ _ r (tile_at h E n 896 (by omega) inb_S256x1024_S256x128_0_896 inb_S1x1024_S1x128_0_896 r) H7
  exact held_last _ _ _ H8

/-! ## The codes picked -/

theorem hot_code (d : ℕ) (hd : d + 128 ≤ 1024) (w : IVec S448x1 32) (r : Fin 448) (k : Fin 1024) (hw : w (ix2 r 0) = BitVec.ofNat 32 k.val) (l : Fin 128) :
    hot (BitVec.ofNat 32 d) w (ix2 r l) = if d + l.val = k.val then 1 else 0 := by
  rw [hot_at, code, hw]
  refine if_congr ⟨fun h => ?_, fun h => by rw [h]⟩ rfl rfl
  have := congrArg BitVec.toNat h
  have hk := k.isLt; have hl := l.isLt
  simp only [BitVec.toNat_ofNat] at this
  omega

theorem from_code (d : ℕ) (hd : d + 128 ≤ 1024) (w : IVec S448x1 32) (e : Vec Ideal S1024x256 .f32) (he) (r : Fin 448) (k : Fin 1024)
    (hw : w (ix2 r 0) = BitVec.ofNat 32 k.val) (c : Fin 256) :
    from_ (BitVec.ofNat 32 d) w (rows e d he) (ix2 r c) = if d ≤ k.val ∧ k.val < d + 128 then e (ix2 k c) else 0 := by
  rw [from_at]
  simp only [hot_code d hd w r k hw, rows_at e d hd he, ite_mul, one_mul, zero_mul]
  by_cases h : d ≤ k.val ∧ k.val < d + 128
  · rw [if_pos h, Finset.sum_eq_single (⟨k.val - d, by omega⟩ : Fin 128)]
    · rw [if_pos (by simp only; omega)]
      congr 2; apply Fin.ext; simp only; omega
    · exact fun l _ hl => if_neg fun hh => hl (Fin.ext (by simp only; omega))
    · exact fun hh => absurd (Finset.mem_univ _) hh
  · rw [if_neg h]
    exact Finset.sum_eq_zero fun l _ => if_neg fun hh => h (by have := l.isLt; omega)

/-- One more tile of codes. -/
theorem more (d : ℕ) (hd : d + 128 ≤ 1024) (w : IVec S448x1 32) (e : Vec Ideal S1024x256 .f32) (he) (r : Fin 448) (k : Fin 1024)
    (hw : w (ix2 r 0) = BitVec.ofNat 32 k.val) (c : Fin 256) (A : FVec Ideal S448x256 .f32)
    (hA : A (ix2 r c) = if k.val < d then e (ix2 k c) else 0) :
    addf A (from_ (BitVec.ofNat 32 d) w (rows e d he)) (ix2 r c) = if k.val < d + 128 then e (ix2 k c) else 0 := by
  refine (congrArg₂ (· + ·) hA (from_code d hd w e he r k hw c)).trans ?_
  by_cases h : k.val < d
  · rw [if_pos h, if_neg (by omega), if_pos (by omega), add_zero]
  · by_cases h' : k.val < d + 128
    · rw [if_neg h, if_pos (by omega), if_pos h', zero_add]
    · rw [if_neg h, if_neg (by omega), if_neg h', add_zero]

theorem quant_at (w : IVec S448x1 32) (e : Vec Ideal S1024x256 .f32) (r : Fin 448) (k : Fin 1024)
    (hw : w (ix2 r 0) = BitVec.ofNat 32 k.val) (c : Fin 256) : quant w e (ix2 r c) = e (ix2 k c) := by
  have h0 : (broadcast S448x256 (Scalar.ofBits .f32 0x00000000#32) : FVec Ideal S448x256 .f32) (ix2 r c) = if k.val < 0 then e (ix2 k c) else 0 := by
    rw [if_neg (Nat.not_lt_zero _)]; pointwise
  have h1 := more 0 (by omega) w e inb_S1024x256_S128x256_0_0 r k hw c _ h0
  have h2 := more 128 (by omega) w e inb_S1024x256_S128x256_128_0 r k hw c _ h1
  have h3 := more 256 (by omega) w e inb_S1024x256_S128x256_256_0 r k hw c _ h2
  have h4 := more 384 (by omega) w e inb_S1024x256_S128x256_384_0 r k hw c _ h3
  have h5 := more 512 (by omega) w e inb_S1024x256_S128x256_512_0 r k hw c _ h4
  have h6 := more 640 (by omega) w e inb_S1024x256_S128x256_640_0 r k hw c _ h5
  have h7 := more 768 (by omega) w e inb_S1024x256_S128x256_768_0 r k hw c _ h6
  have h8 := more 896 (by omega) w e inb_S1024x256_S128x256_896_0 r k hw c _ h7
  exact h8.trans (if_pos k.isLt)

/-! ## How often each code is picked -/

/-- A tile's counts after the rows of this block. -/
def count (b : BitVec 32) (w : IVec S448x1 32) (v : Vec Ideal S1x128 .f32) : FVec Ideal S1x128 .f32 :=
  shapeCast S1x128 (addf v (shapeCast S1x128 (multiReduction .add [0] S128 (hot b w) 0x00000000#32 reduces_S448x128_S128 (.inl rfl) rfl)
    shapeCasts_S128_S1x128)) shapeCasts_S1x128_S1x128

theorem count_at (b : BitVec 32) (w : IVec S448x1 32) (v : Vec Ideal S1x128 .f32) (l : Fin 128) :
    count b w v (ix2 0 l) = v (ix2 0 l) + ∑ r : Fin 448, hot b w (ix2 r l) := by
  pointwise [count]

/-- The counts after the rows of this block. -/
def tally (w : IVec S448x1 32) (a : Vec Ideal S1x1024 .f32) : Vec Ideal S1x1024 .f32 := fun y =>
  a (ix2 0 (y 1)) + ∑ r : Fin 448, if BitVec.ofNat 32 (y 1).val = w (ix2 r 0) then (1 : EReal) else 0

/-- A tile of counts, as a piece of the row of counts. -/
def piece (w : IVec S448x1 32) (a : Vec Ideal S1x1024 .f32) (d : ℕ)
    (hn : ∀ a : Fin 2, (![0, d] : Fin 2 → ℕ) a + (![1, 128] : Fin 2 → ℕ) a ≤ S1x1024.size a) : View.Piece (Elt Ideal) S1x1024 .f32 :=
  ⟨Rect.unit (s := S1x1024) ![0, d] ![1, 128] hn, count (BitVec.ofNat 32 d) w (View.ld a (Rect.unit (s := S1x1024) ![0, d] ![1, 128] hn))⟩

/-- The pieces of the row of counts, the last written first, over what was written before. -/
def pieces (w : IVec S448x1 32) (a : Vec Ideal S1x1024 .f32) (L : List (View.Piece (Elt Ideal) S1x1024 .f32)) : List (View.Piece (Elt Ideal) S1x1024 .f32) :=
  piece w a 896 inb_S1x1024_S1x128_0_896 :: piece w a 768 inb_S1x1024_S1x128_0_768 :: piece w a 640 inb_S1x1024_S1x128_0_640 ::
    piece w a 512 inb_S1x1024_S1x128_0_512 :: piece w a 384 inb_S1x1024_S1x128_0_384 :: piece w a 256 inb_S1x1024_S1x128_0_256 ::
    piece w a 128 inb_S1x1024_S1x128_0_128 :: piece w a 0 inb_S1x1024_S1x128_0_0 :: L

theorem piece_at (w : IVec S448x1 32) (a : Vec Ideal S1x1024 .f32) (d : ℕ) (hd : d + 128 ≤ 1024) (hn) (L : List (View.Piece (Elt Ideal) S1x1024 .f32))
    (y : S1x1024.Idx) (h : d ≤ (y 1).val ∧ (y 1).val < d + 128 ∨ View.canon L y = tally w a y) :
    View.canon (piece w a d hn :: L) y = tally w a y := by
  have y0 : (y 0).val < 1 := (y 0).isLt
  by_cases hy : d ≤ (y 1).val ∧ (y 1).val < d + 128
  · have he : y = (Rect.unit (s := S1x1024) ![0, d] ![1, 128] hn).emb (ix2 (0 : Fin 1) (⟨(y 1).val - d, by omega⟩ : Fin 128)) := by
      funext e; apply Fin.ext
      fin_cases e
      · show (y 0).val = 0 + 1 * 0
        omega
      · show (y 1).val = d + 1 * ((y 1).val - d)
        omega
    have hl : (⟨d + ((y 1).val - d), by omega⟩ : Fin 1024) = y 1 := Fin.ext (by show d + ((y 1).val - d) = (y 1).val; omega)
    refine Eq.trans (congrArg (View.canon (piece w a d hn :: L)) he) ?_
    refine (View.canon_cons_emb (Rect.unit (s := S1x1024) ![0, d] ![1, 128] hn) _ L _).trans ?_
    refine (count_at _ _ _ (⟨(y 1).val - d, by omega⟩ : Fin 128)).trans ?_
    rw [ldN a d hd, hl]
    unfold tally
    refine congrArg (a (ix2 0 (y 1)) + ·) (Finset.sum_congr rfl fun r _ => ?_)
    rw [hot_at, code]
    show (if BitVec.ofNat 32 (d + ((y 1).val - d)) = _ then (1 : EReal) else 0) = _
    rw [show d + ((y 1).val - d) = (y 1).val by omega]
  · refine (View.canon_cons_of_not_mem _ L fun hm => hy ?_).trans (h.resolve_left hy)
    exact (Rect.mem_set_unit (s := S1x1024) (off := ![0, d]) (size := ![1, 128]) (inb := hn)).mp hm 1

theorem tally_canon (w : IVec S448x1 32) (a : Vec Ideal S1x1024 .f32) (L : List (View.Piece (Elt Ideal) S1x1024 .f32)) :
    View.canon (pieces w a L) = tally w a := by
  funext y
  have y1 : (y 1).val < 1024 := (y 1).isLt
  unfold pieces
  by_cases h7 : 896 ≤ (y 1).val
  · exact piece_at w a 896 (by omega) _ _ y (.inl (by omega))
  refine piece_at w a 896 (by omega) _ _ y (.inr ?_)
  by_cases h6 : 768 ≤ (y 1).val
  · exact piece_at w a 768 (by omega) _ _ y (.inl (by omega))
  refine piece_at w a 768 (by omega) _ _ y (.inr ?_)
  by_cases h5 : 640 ≤ (y 1).val
  · exact piece_at w a 640 (by omega) _ _ y (.inl (by omega))
  refine piece_at w a 640 (by omega) _ _ y (.inr ?_)
  by_cases h4 : 512 ≤ (y 1).val
  · exact piece_at w a 512 (by omega) _ _ y (.inl (by omega))
  refine piece_at w a 512 (by omega) _ _ y (.inr ?_)
  by_cases h3 : 384 ≤ (y 1).val
  · exact piece_at w a 384 (by omega) _ _ y (.inl (by omega))
  refine piece_at w a 384 (by omega) _ _ y (.inr ?_)
  by_cases h2 : 256 ≤ (y 1).val
  · exact piece_at w a 256 (by omega) _ _ y (.inl (by omega))
  refine piece_at w a 256 (by omega) _ _ y (.inr ?_)
  by_cases h1 : 128 ≤ (y 1).val
  · exact piece_at w a 128 (by omega) _ _ y (.inl (by omega))
  refine piece_at w a 128 (by omega) _ _ y (.inr ?_)
  exact piece_at w a 0 (by omega) _ _ y (.inl (by omega))

/-! ## The loss, the squared length of a code, and what the last point writes -/

/-- The loss's lanes after this block. -/
def addLoss (q h : FVec Ideal S448x256 .f32) (a : Vec Ideal S1x128 .f32) : FVec Ideal S1x128 .f32 :=
  shapeCast S1x128 (addf a (select (cmpi .eq (iota .tc S1x128 32 [1] iota_S1x128_d1_w32) (broadcast S1x128 0#32))
    (broadcast S1x128 (extractAt ![0, 0, 0] (shapeCast S1x1x1 (multiReduction .add [1, 2] S1 (shapeCast S1x448x256 (mulf (subf q h) (subf q h)) shapeCasts_S448x256_S1x448x256)
      0x00000000#32 reduces_S1x448x256_S1 (.inl rfl) rfl) shapeCasts_S1_S1x1x1) inpos_S1x1x1_p0_0_0))
    (broadcast S1x128 (Scalar.ofBits .f32 0x00000000#32)))) shapeCasts_S1x128_S1x128

theorem lane (l : Fin 128) (x y : EReal) : Scalar.select (IntOp.cmpi CmpIPredicate.eq (BitVec.ofNat 32 l.val) 0#32) x y = if l = 0 then x else y := by
  by_cases h : l = 0
  · subst h; rw [if_pos rfl]; rfl
  · have hl := l.isLt
    have h' : ¬ l.val = 0 := fun e => h (Fin.ext e)
    have : BitVec.ofNat 32 l.val ≠ 0#32 := fun e => by
      have := congrArg BitVec.toNat e
      simp only [BitVec.toNat_ofNat] at this
      omega
    rw [if_neg h]
    simp only [IntOp.cmpi, beq_eq_false_iff_ne.mpr this]
    rfl

theorem addLoss_at (q h : FVec Ideal S448x256 .f32) (a : Vec Ideal S1x128 .f32) (l : Fin 128) :
    addLoss q h a (ix2 0 l) = a (ix2 0 l) + if l = 0 then ∑ r : Fin 448, ∑ c : Fin 256, (q (ix2 r c) - h (ix2 r c)) * (q (ix2 r c) - h (ix2 r c)) else 0 := by
  pointwise [addLoss, lane]

theorem norm_at (E : Vec Ideal S256x1024 .f32) (z : Fin 1) (k : Fin 1024) :
    k0_pay3 (F := Ideal) E E (ix2 z k) = ∑ x : Fin 256, E (ix2 x k) * E (ix2 x k) := by
  pointwise [k0_pay3]

theorem none_at (z : Fin 1) (k : Fin 1024) : (k0_pay4 (F := Ideal)) (ix2 z k) = 0 := by
  pointwise [k0_pay4]

theorem nil_at (z : Fin 1) (l : Fin 128) : (k0_pay5 (F := Ideal)) (ix2 z l) = 0 := by
  pointwise [k0_pay5]

/-- A code's term of the entropy, from how often it is picked. -/
def term (n : EReal) : EReal :=
  Ideal.div n (Ideal.ofBits FTy.f32 0x45C40000#32)
    * Ideal.log (Ideal.div n (Ideal.ofBits FTy.f32 0x45C40000#32) + Ideal.ofBits FTy.f32 0x3727C5AC#32)

theorem misc_at (cnt : Vec Ideal S1x1024 .f32) (ls : Vec Ideal S1x128 .f32) (l : Fin 128) :
    k0_pay2 (F := Ideal) (iota .tc S1x128 32 [1] iota_S1x128_d1_w32) cnt ls (ix2 0 l)
      = Scalar.select (IntOp.cmpi CmpIPredicate.eq (BitVec.ofNat 32 l.val) 0#32)
        (Ideal.div (Ideal.ofBits FTy.f32 0x3E800000#32 * ∑ l : Fin 128, ls (ix2 0 l)) (Ideal.ofBits FTy.f32 0x49C40000#32))
        (Scalar.select (IntOp.cmpi CmpIPredicate.eq (BitVec.ofNat 32 l.val) 1#32)
          (Scalar.exp (F := Ideal) (φ := .f32) (0 - ∑ k : Fin 1024, term (cnt (ix2 0 k)))) 0) := by
  pointwise [k0_pay2, term]
  simp only [Finset.univ_unique, Finset.sum_singleton]

end Cert.Proof.VqTile

end
-- ==== Proof.VqPoint.lean ====
/- What each of the quantiser's fourteen grid points leaves: the block of picked codes, the squared lengths of the codes, the counts,
   the loss's lanes, and at the last point the two numbers. -/
module

public import proofs.«01_k».proof.Proof.VqTile
public import Idealize.ShloMosaic.Lib.Pipeline.ReadBack

@[expose] public section
set_option maxRecDepth 100000
noncomputable section
namespace Cert.Proof.VqPoint
open Cert.VqIdeal Cert.VqIdeal.Gen Cert.VqIdeal.Value Idealize.ShloMosaic Idealize.ShloMosaic.TcCoe Idealize.SL.Sem Cert.Proof.VqTile

variable (m : (ℓ : Loc nD τ sig) → Buf (Elt Ideal) ℓ)

theorem canon_full (X : Vec Ideal S1x1024 .f32) (hi : ∀ a : Fin 2, (![0, 0] : Fin 2 → ℕ) a + S1x1024.size a ≤ S1x1024.size a) :
    View.canon (Val := Elt Ideal) (s := S1x1024) (e := .f32) [⟨Rect.unit (s := S1x1024) ![0, 0] S1x1024.size hi, X⟩] = X :=
  View.canon_unit_zero (by funext e; fin_cases e <;> rfl) hi X

theorem counts_read (w : IVec S448x1 32) (a : Vec Ideal S1x1024 .f32) :
    (View.whole cc0_scratch1).readCov (Val := Elt Ideal) (pieces w a []) (Rect.unit (s := S1x1024) ![0, 0] S1x1024.size inb_S1x1024_S1x1024_0_0).toLoadRect = tally w a := by
  rw [View.readCov_eq_canon', tally_canon]
  funext y
  refine congrArg (tally w a) (funext fun e => Fin.ext ?_)
  fin_cases e
  · show 0 + 1 * (y 0).val = (y 0).val
    omega
  · show 0 + 1 * (y 1).val = (y 1).val
    omega

theorem q_A (c : Dev nD) (t : Fin cfg0.N) (acc : Vec Ideal S448x256 .f32 × Vec Ideal S1x128 .f32 × Vec Ideal S1x1024 .f32 × Vec Ideal S1x1024 .f32 × Vec Ideal S1x128 .f32) (h0 : t.val % 14 = 0) (h1 : ¬t.val % 14 = 13) :
    (stAt0 m c t.val t.isLt acc).1 = quant (picked (iblk m c 0 t) (iblk m c 2 t) (k0_pay3 (iblk m c 2 t) (iblk m c 2 t))) (iblk m c 1 t) := by
  rw [stAt0_A m c t acc h0 h1]
  dsimp only
  unfold out0_A_3
  frame_out
  simp only [View.readCov_eq_canon']
  generalize hX : View.canon (Val := Elt Ideal) (s := S1x1024) (e := .f32) _ = X
  obtain rfl := hX.symm.trans (canon_full _ _)
  rfl

theorem e_A (c : Dev nD) (t : Fin cfg0.N) (acc : Vec Ideal S448x256 .f32 × Vec Ideal S1x128 .f32 × Vec Ideal S1x1024 .f32 × Vec Ideal S1x1024 .f32 × Vec Ideal S1x128 .f32) (h0 : t.val % 14 = 0) (h1 : ¬t.val % 14 = 13) :
    (stAt0 m c t.val t.isLt acc).2.2.1 = (k0_pay3 (iblk m c 2 t) (iblk m c 2 t)) := by
  rw [stAt0_A m c t acc h0 h1]
  dsimp only
  unfold sout0_A_0
  frame_out

theorem n_A (c : Dev nD) (t : Fin cfg0.N) (acc : Vec Ideal S448x256 .f32 × Vec Ideal S1x128 .f32 × Vec Ideal S1x1024 .f32 × Vec Ideal S1x1024 .f32 × Vec Ideal S1x128 .f32) (h0 : t.val % 14 = 0) (h1 : ¬t.val % 14 = 13) :
    (stAt0 m c t.val t.isLt acc).2.2.2.1 = tally (picked (iblk m c 0 t) (iblk m c 2 t) (k0_pay3 (iblk m c 2 t) (iblk m c 2 t))) (k0_pay4 (F := Ideal)) := by
  rw [stAt0_A m c t acc h0 h1]
  dsimp only
  unfold sout0_A_1
  frame_out
  simp (discharger := first | decide | (intro a; fin_cases a <;> rfl)) only [↓View.readCov_skip]
  simp only [View.readCov_eq_canon']
  refine Eq.trans (congrArg View.canon ?_) (tally_canon (picked (iblk m c 0 t) (iblk m c 2 t) (k0_pay3 (iblk m c 2 t) (iblk m c 2 t))) (k0_pay4 (F := Ideal))
    [⟨Rect.unit (s := S1x1024) ![0, 0] ![1, 1024] inb_S1x1024_S1x1024_0_0, k0_pay4 (F := Ideal)⟩])
  generalize hX : View.canon (Val := Elt Ideal) (s := S1x1024) (e := .f32) _ = X
  obtain rfl := hX.symm.trans (canon_full _ _)
  generalize hY : View.canon (Val := Elt Ideal) (s := S1x1024) (e := .f32) _ = Y
  obtain rfl := hY.symm.trans (canon_full _ _)
  rfl

theorem l_A (c : Dev nD) (t : Fin cfg0.N) (acc : Vec Ideal S448x256 .f32 × Vec Ideal S1x128 .f32 × Vec Ideal S1x1024 .f32 × Vec Ideal S1x1024 .f32 × Vec Ideal S1x128 .f32) (h0 : t.val % 14 = 0) (h1 : ¬t.val % 14 = 13) :
    (stAt0 m c t.val t.isLt acc).2.2.2.2 = addLoss (quant (picked (iblk m c 0 t) (iblk m c 2 t) (k0_pay3 (iblk m c 2 t) (iblk m c 2 t))) (iblk m c 1 t)) (iblk m c 0 t) (k0_pay5 (F := Ideal)) := by
  rw [stAt0_A m c t acc h0 h1]
  dsimp only
  unfold sout0_A_2
  frame_out
  simp only [View.readCov_eq_canon']
  generalize hX : View.canon (Val := Elt Ideal) (s := S1x1024) (e := .f32) _ = X
  obtain rfl := hX.symm.trans (canon_full _ _)
  rfl

theorem q_B (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : ¬t.val % 14 = 13) :
    (stAt0 m c t.val t.isLt acc).1 = quant (picked (iblk m c 0 t) (iblk m c 2 t) acc.2.2.1) (iblk m c 1 t) := by
  rw [stAt0_B m c t acc h0 h1]
  dsimp only
  unfold out0_B_3
  frame_out
  simp only [read_unread_whole]
  rfl

theorem e_B (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : ¬t.val % 14 = 13) :
    (stAt0 m c t.val t.isLt acc).2.2.1 = acc.2.2.1 := by
  rw [stAt0_B m c t acc h0 h1]
  rfl

theorem n_B (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : ¬t.val % 14 = 13) :
    (stAt0 m c t.val t.isLt acc).2.2.2.1 = tally (picked (iblk m c 0 t) (iblk m c 2 t) acc.2.2.1) acc.2.2.2.1 := by
  rw [stAt0_B m c t acc h0 h1]
  dsimp only
  unfold sout0_B_1
  frame_out
  simp only [read_unread_whole]
  exact tally_canon _ _ []

theorem l_B (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : ¬t.val % 14 = 13) :
    (stAt0 m c t.val t.isLt acc).2.2.2.2 = addLoss (quant (picked (iblk m c 0 t) (iblk m c 2 t) acc.2.2.1) (iblk m c 1 t)) (iblk m c 0 t) acc.2.2.2.2 := by
  rw [stAt0_B m c t acc h0 h1]
  dsimp only
  unfold sout0_B_2
  frame_out
  simp only [read_unread_whole]
  rfl

theorem q_C (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : t.val % 14 = 13) :
    (stAt0 m c t.val t.isLt acc).1 = quant (picked (iblk m c 0 t) (iblk m c 2 t) acc.2.2.1) (iblk m c 1 t) := by
  rw [stAt0_C m c t acc h0 h1]
  dsimp only
  unfold out0_C_3
  frame_out
  simp only [read_unread_whole]
  rfl

theorem e_C (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : t.val % 14 = 13) :
    (stAt0 m c t.val t.isLt acc).2.2.1 = acc.2.2.1 := by
  rw [stAt0_C m c t acc h0 h1]
  rfl

theorem n_C (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : t.val % 14 = 13) :
    (stAt0 m c t.val t.isLt acc).2.2.2.1 = tally (picked (iblk m c 0 t) (iblk m c 2 t) acc.2.2.1) acc.2.2.2.1 := by
  rw [stAt0_C m c t acc h0 h1]
  dsimp only
  unfold sout0_C_1
  frame_out
  simp only [read_unread_whole]
  exact tally_canon _ _ []

theorem l_C (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : t.val % 14 = 13) :
    (stAt0 m c t.val t.isLt acc).2.2.2.2 = addLoss (quant (picked (iblk m c 0 t) (iblk m c 2 t) acc.2.2.1) (iblk m c 1 t)) (iblk m c 0 t) acc.2.2.2.2 := by
  rw [stAt0_C m c t acc h0 h1]
  dsimp only
  unfold sout0_C_2
  frame_out
  simp only [read_unread_whole]
  rfl

theorem m_C (c : Dev nD) (t : Fin cfg0.N) (acc : Vec Ideal S448x256 .f32 × Vec Ideal S1x128 .f32 × Vec Ideal S1x1024 .f32 × Vec Ideal S1x1024 .f32 × Vec Ideal S1x128 .f32) (h0 : ¬t.val % 14 = 0) (h1 : t.val % 14 = 13) :
    (stAt0 m c t.val t.isLt acc).2.1 = k0_pay2 (iota .tc S1x128 32 [1] iota_S1x128_d1_w32) (tally (picked (iblk m c 0 t) (iblk m c 2 t) acc.2.2.1) acc.2.2.2.1) (addLoss (quant (picked (iblk m c 0 t) (iblk m c 2 t) acc.2.2.1) (iblk m c 1 t)) (iblk m c 0 t) acc.2.2.2.2) := by
  rw [stAt0_C m c t acc h0 h1]
  dsimp only
  unfold out0_C_4
  frame_out
  simp only [read_unread_whole]
  exact congrArg (fun v => k0_pay2 (iota .tc S1x128 32 [1] iota_S1x128_d1_w32) v _) (counts_read _ _)

end Cert.Proof.VqPoint
end
-- ==== Proof.VqKernel.lean ====
/- The vector quantiser's kernel: what its launch leaves in its two result arrays. -/
module

public import proofs.«01_k».proof.Proof.VqPoint

@[expose] public section
set_option maxRecDepth 16384
noncomputable section
namespace Cert.Proof.VqKernel
open Cert.VqIdeal Cert.VqIdeal.Gen Cert.VqIdeal.Value Idealize.ShloMosaic Idealize.ShloMosaic.TcCoe Idealize.SL.Sem
open Cert.Proof.VqTile Cert.Proof.VqPoint Cert.Proof.VqNearest

variable (m : (ℓ : Loc nD τ sig) → Buf (Elt Ideal) ℓ)

/-! The arguments, as arrays. -/

abbrev hA (c : Dev nD) : FVec Ideal S6272x256 .f32 := m ((c.tc : Thread nD τ).loc main_arg0)
abbrev eA (c : Dev nD) : FVec Ideal S1024x256 .f32 := m ((c.tc : Thread nD τ).loc main_arg1)

/-! ## What is computed, in terms of the arguments -/

/-- A row's scores of the codes: |e|² − 2·h·e. -/
def scores (h : FVec Ideal S6272x256 .f32) (e : FVec Ideal S1024x256 .f32) (i : Fin 6272) (k : Fin 1024) : EReal :=
  (∑ x : Fin 256, e (ix2 k x) * e (ix2 k x)) - Ideal.ofBits FTy.f32 0x40000000#32 * ∑ x : Fin 256, h (ix2 i x) * e (ix2 k x)

/-- The code nearest to a row. -/
def near (h : FVec Ideal S6272x256 .f32) (e : FVec Ideal S1024x256 .f32) (i : Fin 6272) : Fin 1024 := nearest (scores h e i)

/-- Whether a code is the one nearest to a row. -/
def hit (h : FVec Ideal S6272x256 .f32) (e : FVec Ideal S1024x256 .f32) (i : Fin 6272) (k : Fin 1024) : EReal :=
  if BitVec.ofNat 32 k.val = BitVec.ofNat 32 (near h e i).val then 1 else 0

/-- A row's squared distance from its nearest code. -/
def err (h : FVec Ideal S6272x256 .f32) (e : FVec Ideal S1024x256 .f32) (i : Fin 6272) : EReal :=
  ∑ x : Fin 256, (e (ix2 (near h e i) x) - h (ix2 i x)) * (e (ix2 (near h e i) x) - h (ix2 i x))

/-- Row r of block t. -/
def rowOf (t : ℕ) (r : Fin 448) : Fin 6272 := ⟨(448 * t + r.val) % 6272, Nat.mod_lt _ (by decide)⟩

/-! ## The windows' blocks -/

theorem codes (c : Dev nD) : V m c main_v0 = transpose S256x1024 [1, 0] (eA m c) transposes_S1024x256_S256x1024_1_0 := by
  unfold_abbrev_sides
  simp only [hostOps0, List.flatten_cons, List.flatten_nil, List.cons_append, List.nil_append,
    List.append_nil, StableHlo.TRef.binary, StableHlo.TRef.unary, StableHlo.TRef.toBuf, StableHlo.TRef.ofBuf, cast_eq]
  after_results_simp <;> rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem row_lt (t : Fin cfg0.N) (r : Fin 448) : 448 * t.val + r.val < 6272 := by
  have := lt_of_lt_of_eq t.isLt (show cfg0.N = 14 from N_0); have := r.isLt; omega

theorem rowOf_val (t : Fin cfg0.N) (r : Fin 448) : (rowOf t.val r).val = 448 * t.val + r.val := Nat.mod_eq_of_lt (row_lt t r)

theorem blk0 (c : Dev nD) (t : Fin cfg0.N) (r : Fin 448) (x : Fin 256) :
    iblk m c 0 t (ix2 r x) = hA m c (ix2 (rowOf t.val r) x) := by
  refine Eq.trans (b := V m c main_arg0 (ix2 (rowOf t.val r) x)) (congrArg (V m c main_arg0) (funext fun e => Fin.ext ?_)) rfl
  have := rowOf_val t r
  fin_cases e
  · blk_simp [idx0]
    show _ = (rowOf t.val r).val
    rw [this]
    show t.val * 448 + r.val = 448 * t.val + r.val
    omega
  · blk_simp [idx0] <;> rfl

theorem blk1 (c : Dev nD) (t : Fin cfg0.N) (k : Fin 1024) (x : Fin 256) : iblk m c 1 t (ix2 k x) = eA m c (ix2 k x) := by
  refine Eq.trans (b := V m c main_arg1 (ix2 k x)) (congrArg (V m c main_arg1) (funext fun e => Fin.ext ?_)) rfl
  fin_cases e <;> blk_simp [idx1] <;> rfl

theorem blk2 (c : Dev nD) (t : Fin cfg0.N) (x : Fin 256) (k : Fin 1024) : iblk m c 2 t (ix2 x k) = eA m c (ix2 k x) := by
  refine Eq.trans (b := V m c main_v0 (ix2 x k)) (congrArg (V m c main_v0) (funext fun e => Fin.ext ?_)) ?_
  · fin_cases e <;> blk_simp [idx2] <;> rfl
  rw [codes]
  pointwise

/-! ## What a point leaves, in terms of the arguments -/

/-- The squared lengths of the codes. -/
def norms (e : FVec Ideal S1024x256 .f32) (k : Fin 1024) : EReal := ∑ x : Fin 256, e (ix2 k x) * e (ix2 k x)

theorem norm_blk (c : Dev nD) (t : Fin cfg0.N) (k : Fin 1024) :
    k0_pay3 (F := Ideal) (iblk m c 2 t) (iblk m c 2 t) (ix2 0 k) = norms (eA m c) k := by
  refine (norm_at (iblk m c 2 t) 0 k).trans ?_
  simp only [blk2]
  rfl

theorem scores_blk (c : Dev nD) (t : Fin cfg0.N) (n : Vec Ideal S1x1024 .f32) (hn : ∀ k : Fin 1024, n (ix2 0 k) = norms (eA m c) k) (r : Fin 448) :
    sc (iblk m c 0 t) (iblk m c 2 t) n r = scores (hA m c) (eA m c) (rowOf t.val r) := by
  funext k
  unfold sc scores
  rw [hn]
  simp only [blk0, blk2]
  rfl

theorem picked_blk (c : Dev nD) (t : Fin cfg0.N) (n : Vec Ideal S1x1024 .f32) (hn : ∀ k : Fin 1024, n (ix2 0 k) = norms (eA m c) k) (r : Fin 448) :
    picked (iblk m c 0 t) (iblk m c 2 t) n (ix2 r 0) = BitVec.ofNat 32 (near (hA m c) (eA m c) (rowOf t.val r)).val := by
  refine (picked_at (iblk m c 0 t) (iblk m c 2 t) n r).trans ?_
  rw [scores_blk m c t n hn]
  rfl

theorem quant_blk (c : Dev nD) (t : Fin cfg0.N) (n : Vec Ideal S1x1024 .f32) (hn : ∀ k : Fin 1024, n (ix2 0 k) = norms (eA m c) k) (r : Fin 448) (x : Fin 256) :
    quant (picked (iblk m c 0 t) (iblk m c 2 t) n) (iblk m c 1 t) (ix2 r x) = eA m c (ix2 (near (hA m c) (eA m c) (rowOf t.val r)) x) :=
  (quant_at _ (iblk m c 1 t) r _ (picked_blk m c t n hn r) x).trans (blk1 m c t _ x)

theorem tally_blk (c : Dev nD) (t : Fin cfg0.N) (n : Vec Ideal S1x1024 .f32) (hn : ∀ k : Fin 1024, n (ix2 0 k) = norms (eA m c) k) (a : Vec Ideal S1x1024 .f32) (k : Fin 1024) :
    tally (picked (iblk m c 0 t) (iblk m c 2 t) n) a (ix2 0 k) = a (ix2 0 k) + ∑ r : Fin 448, hit (hA m c) (eA m c) (rowOf t.val r) k := by
  refine congrArg (a (ix2 0 k) + ·) (Finset.sum_congr rfl fun r _ => ?_)
  rw [picked_blk m c t n hn r]
  rfl

theorem loss_blk (c : Dev nD) (t : Fin cfg0.N) (n : Vec Ideal S1x1024 .f32) (hn : ∀ k : Fin 1024, n (ix2 0 k) = norms (eA m c) k) (a : Vec Ideal S1x128 .f32) (l : Fin 128) :
    addLoss (quant (picked (iblk m c 0 t) (iblk m c 2 t) n) (iblk m c 1 t)) (iblk m c 0 t) a (ix2 0 l)
      = a (ix2 0 l) + if l = 0 then ∑ r : Fin 448, err (hA m c) (eA m c) (rowOf t.val r) else 0 := by
  refine (addLoss_at _ (iblk m c 0 t) a l).trans ?_
  simp only [quant_blk m c t n hn, blk0]
  rfl

/-! ## What the first n + 1 points leave -/

/-- What holds after point n. -/
def Holds (c : Dev nD) (n : ℕ) (o : Vec Ideal S448x256 .f32 × Vec Ideal S1x128 .f32 × Vec Ideal S1x1024 .f32 × Vec Ideal S1x1024 .f32 × Vec Ideal S1x128 .f32) : Prop :=
  (∀ (r : Fin 448) (x : Fin 256), o.1 (ix2 r x) = eA m c (ix2 (near (hA m c) (eA m c) (rowOf n r)) x)) ∧
  (∀ k : Fin 1024, o.2.2.1 (ix2 0 k) = norms (eA m c) k) ∧
  (∀ k : Fin 1024, o.2.2.2.1 (ix2 0 k) = ∑ t ∈ Finset.range (n + 1), ∑ r : Fin 448, hit (hA m c) (eA m c) (rowOf t r) k) ∧
  (∀ l : Fin 128, o.2.2.2.2 (ix2 0 l) = ∑ t ∈ Finset.range (n + 1), if l = 0 then ∑ r : Fin 448, err (hA m c) (eA m c) (rowOf t r) else 0)

theorem first (c : Dev nD) (hn : 0 < cfg0.N) : Holds m c 0 (outsAt0 m c 0 hn) := by
  rw [outsAt0_zero]
  have h0 : (⟨0, hn⟩ : Fin cfg0.N).val % 14 = 0 := rfl
  have h1 : ¬ (⟨0, hn⟩ : Fin cfg0.N).val % 14 = 13 := (by decide : ¬ 0 % 14 = 13)
  have hN := norm_blk m c ⟨0, hn⟩
  refine ⟨fun r x => ?_, fun k => ?_, fun k => ?_, fun l => ?_⟩
  · exact (congrFun (q_A m c ⟨0, hn⟩ junk0 h0 h1) (ix2 r x)).trans (quant_blk m c ⟨0, hn⟩ _ hN r x)
  · exact (congrFun (e_A m c ⟨0, hn⟩ junk0 h0 h1) (ix2 0 k)).trans (hN k)
  · refine (congrFun (n_A m c ⟨0, hn⟩ junk0 h0 h1) (ix2 0 k)).trans ((tally_blk m c ⟨0, hn⟩ _ hN _ k).trans ?_)
    rw [none_at, zero_add, Finset.sum_range_one]
  · refine (congrFun (l_A m c ⟨0, hn⟩ junk0 h0 h1) (ix2 0 l)).trans ((loss_blk m c ⟨0, hn⟩ _ hN _ l).trans ?_)
    rw [nil_at, zero_add, Finset.sum_range_one]

theorem next (c : Dev nD) (n : ℕ) (hn : n + 1 < cfg0.N) (acc) (H : Holds m c n acc) : Holds m c (n + 1) (stAt0 m c (n + 1) hn acc) := by
  obtain ⟨_, hN, hC, hL⟩ := H
  have hlt := lt_of_lt_of_eq hn (show cfg0.N = 14 from N_0)
  have h0 : ¬ (⟨n + 1, hn⟩ : Fin cfg0.N).val % 14 = 0 := fun h => by dsimp only at h; omega
  by_cases h1 : (⟨n + 1, hn⟩ : Fin cfg0.N).val % 14 = 13
  · refine ⟨fun r x => ?_, fun k => ?_, fun k => ?_, fun l => ?_⟩
    · exact (congrFun (q_C m c ⟨n + 1, hn⟩ acc h0 h1) (ix2 r x)).trans (quant_blk m c ⟨n + 1, hn⟩ _ hN r x)
    · exact (congrFun (e_C m c ⟨n + 1, hn⟩ acc h0 h1) (ix2 0 k)).trans (hN k)
    · refine (congrFun (n_C m c ⟨n + 1, hn⟩ acc h0 h1) (ix2 0 k)).trans ((tally_blk m c ⟨n + 1, hn⟩ _ hN _ k).trans ?_)
      rw [hC, ← Finset.sum_range_succ]
    · refine (congrFun (l_C m c ⟨n + 1, hn⟩ acc h0 h1) (ix2 0 l)).trans ((loss_blk m c ⟨n + 1, hn⟩ _ hN _ l).trans ?_)
      rw [hL, ← Finset.sum_range_succ]
  · refine ⟨fun r x => ?_, fun k => ?_, fun k => ?_, fun l => ?_⟩
    · exact (congrFun (q_B m c ⟨n + 1, hn⟩ acc h0 h1) (ix2 r x)).trans (quant_blk m c ⟨n + 1, hn⟩ _ hN r x)
    · exact (congrFun (e_B m c ⟨n + 1, hn⟩ acc h0 h1) (ix2 0 k)).trans (hN k)
    · refine (congrFun (n_B m c ⟨n + 1, hn⟩ acc h0 h1) (ix2 0 k)).trans ((tally_blk m c ⟨n + 1, hn⟩ _ hN _ k).trans ?_)
      rw [hC, ← Finset.sum_range_succ]
    · refine (congrFun (l_B m c ⟨n + 1, hn⟩ acc h0 h1) (ix2 0 l)).trans ((loss_blk m c ⟨n + 1, hn⟩ _ hN _ l).trans ?_)
      rw [hL, ← Finset.sum_range_succ]

theorem holds (c : Dev nD) : ∀ (n : ℕ) (hn : n < cfg0.N), Holds m c n (outsAt0 m c n hn)
  | 0, hn => first m c hn
  | n + 1, hn => by
    rw [outsAt0_succ]
    exact next m c n hn _ (holds c n _)

/-! ## The result arrays -/

/-- A sum over the fourteen blocks is a sum over the rows. -/
theorem all_rows (f : Fin 6272 → EReal) : ∑ t ∈ Finset.range 14, ∑ r : Fin 448, f (rowOf t r) = ∑ i : Fin 6272, f i := by
  rw [Finset.sum_range, ← Fintype.sum_prod_type']
  refine Fintype.sum_equiv (finProdFinEquiv (m := 14) (n := 448)) _ f fun p => congrArg f (Fin.ext ?_)
  have h1 := p.1.isLt
  have h2 := p.2.isLt
  show (448 * p.1.val + p.2.val) % 6272 = p.2.val + 448 * p.1.val
  omega

/-- The picked codes. -/
def codesOf (h : FVec Ideal S6272x256 .f32) (e : FVec Ideal S1024x256 .f32) : FVec Ideal S6272x256 .f32 :=
  fun y => e (ix2 (near h e (y 0)) (y 1))

/-- The two numbers, in lanes 0 and 1. -/
def numbers (h : FVec Ideal S6272x256 .f32) (e : FVec Ideal S1024x256 .f32) (l : Fin 128) : EReal :=
  Scalar.select (IntOp.cmpi CmpIPredicate.eq (BitVec.ofNat 32 l.val) 0#32)
    (Ideal.div (Ideal.ofBits FTy.f32 0x3E800000#32 * ∑ i : Fin 6272, err h e i) (Ideal.ofBits FTy.f32 0x49C40000#32))
    (Scalar.select (IntOp.cmpi CmpIPredicate.eq (BitVec.ofNat 32 l.val) 1#32)
      (Scalar.exp (F := Ideal) (φ := .f32) (0 - ∑ k : Fin 1024, term (∑ i : Fin 6272, hit h e i k))) 0)

theorem G3_eq (c : Dev nD) : G3 m c = codesOf (hA m c) (eA m c) := by
  funext i
  have hi0 : (i 0).val < 6272 := (i 0).isLt
  have hi1 : (i 1).val < 256 := (i 1).isLt
  have hp : pt3Of i = (i 0).val / 448 := by
    show 1 * ((i 0).val / 448 - 0) + 1 * ((i 1).val / 256 - 0) = _
    omega
  have hlt : pt3Of i < cfg0.N := by rw [hp, show cfg0.N = 14 from N_0]; omega
  unfold G3
  rw [dif_pos hlt, ← outsAt0_sweep m c (pt3Of i) hlt]
  have hloc : loc3Of i = ix2 (⟨(i 0).val % 448, Nat.mod_lt _ (by decide)⟩ : Fin 448) (i 1) := by
    funext e; apply Fin.ext
    fin_cases e
    · rfl
    · exact Nat.mod_eq_of_lt hi1
  rw [hloc]
  refine ((holds m c (pt3Of i) hlt).1 _ (i 1)).trans ?_
  have hrow : rowOf (pt3Of i) ⟨(i 0).val % 448, Nat.mod_lt _ (by decide)⟩ = i 0 := by
    apply Fin.ext
    show (448 * pt3Of i + (i 0).val % 448) % 6272 = (i 0).val
    rw [hp]; omega
  rw [hrow]
  rfl

theorem G4_eq (c : Dev nD) (l : Fin 128) : G4 m c (ix2 0 l) = numbers (hA m c) (eA m c) l := by
  have hlt : 12 + 1 < cfg0.N := lt_of_lt_of_eq (by decide) N_0.symm
  rw [G4_last, ← outsAt0_sweep m c 13 hlt, outsAt0_succ m c 12 hlt]
  obtain ⟨_, hN, hC, hL⟩ := holds m c 12 (Nat.lt_of_succ_lt hlt)
  have H := holds m c (12 + 1) hlt
  rw [outsAt0_succ m c 12 hlt] at H
  obtain ⟨_, _, hC, hL⟩ := H
  generalize outsAt0 m c 12 (Nat.lt_of_succ_lt hlt) = acc at *
  have h0 : ¬ (⟨12 + 1, hlt⟩ : Fin cfg0.N).val % 14 = 0 := (by decide : ¬ 13 % 14 = 0)
  have h1 : (⟨12 + 1, hlt⟩ : Fin cfg0.N).val % 14 = 13 := rfl
  refine (congrFun (m_C m c ⟨12 + 1, hlt⟩ acc h0 h1) (ix2 0 l)).trans ((misc_at _ _ l).trans ?_)
  rw [← n_C m c ⟨12 + 1, hlt⟩ acc h0 h1, ← l_C m c ⟨12 + 1, hlt⟩ acc h0 h1]
  have hS : ∑ l : Fin 128, (stAt0 m c (12 + 1) hlt acc).2.2.2.2 (ix2 0 l) = ∑ i : Fin 6272, err (hA m c) (eA m c) i := by
    rw [← all_rows, Finset.sum_eq_single (0 : Fin 128) (fun l _ hl => by rw [hL]; exact Finset.sum_eq_zero fun t _ => if_neg hl)
      (fun hh => absurd (Finset.mem_univ _) hh), hL]
    exact Finset.sum_congr rfl fun t _ => if_pos rfl
  have hK : ∀ k : Fin 1024, (stAt0 m c (12 + 1) hlt acc).2.2.2.1 (ix2 0 k) = ∑ i : Fin 6272, hit (hA m c) (eA m c) i k := fun k =>
    (hC k).trans (all_rows fun i => hit (hA m c) (eA m c) i k)
  show Scalar.select _ (Ideal.div (_ * ∑ l : Fin 128, (stAt0 m c (12 + 1) hlt acc).2.2.2.2 (ix2 0 l)) _)
    (Scalar.select _ (Scalar.exp (F := Ideal) (φ := .f32) (0 - ∑ k : Fin 1024, term ((stAt0 m c (12 + 1) hlt acc).2.2.2.1 (ix2 0 k)))) 0) = _
  rw [hS]
  simp only [hK]
  rfl

end Cert.Proof.VqKernel

end
-- ==== Proof.VqReference.lean ====
/- The vector quantiser's reference: its composed host terms, read as the picked codes and the two numbers. -/
module

public import proofs.«01_k».proof.Proof.Gen.VqRefIdeal.Run
public import proofs.«01_k».proof.Proof.VqKernel

@[expose] public section
set_option maxRecDepth 16384
noncomputable section
namespace Cert.Proof.VqReference
open Cert.VqRefIdeal Cert.VqRefIdeal.Gen Cert.VqRefIdeal.Value Idealize.ShloMosaic Idealize.ShloMosaic.TcCoe Idealize.SL.Sem
open Cert.Proof.VqNearest Cert.Proof.VqKernel

variable (h : FVec Ideal S6272x256 .f32) (e : FVec Ideal S1024x256 .f32)

/-- The squared distances of the rows from the codes. -/
def dist : FVec Ideal S6272x1024 .f32 :=
  subf (addf (broadcastInDim S6272x1024 ![0, 1] bcast_S6272x1_S6272x1024_0_1 (broadcastInDim S6272x1 ![0] bcast_S6272_S6272x1_0 (Host.reduceAdd (mulf h h) (constant S_ .f32 0x00000000#32) reducesTo_S6272x256_S6272_d1 h_S_))) (broadcastInDim S6272x1024 ![0, 1] bcast_S1x1024_S6272x1024_0_1 (broadcastInDim S1x1024 ![1] bcast_S1024_S1x1024_1 (Host.reduceAdd (mulf e e) (constant S_ .f32 0x00000000#32) reducesTo_S1024x256_S1024_d1 h_S_)))) (mulf (broadcastInDim S6272x1024 ![] bcast_S_S6272x1024 (constant S_ .f32 0x40000000#32)) (Host.dotGeneral dot_S6272x256_S256x1024_S6272x1024_1_0_0_1_n_n none h (transpose S256x1024 [1, 0] e transposes_S1024x256_S256x1024_1_0)))

/-- The first code at the least distance. -/
def index : IVec S6272 32 :=
  Host.reduce IntOp.minsi (select (cmpf .oeq (dist h e) (broadcastInDim S6272x1024 ![0, 1] bcast_S6272x1_S6272x1024_0_1 (broadcastInDim S6272x1 ![0] bcast_S6272_S6272x1_0 (Host.reduce FloatOps.minimumf (dist h e) (constant S_ .f32 0x7F800000#32) reducesTo_S6272x1024_S6272_d1 h_S_)))) (broadcastInDim S6272x1024 ![1] bcast_S1024_S6272x1024_1 (iotaInDim S1024 32 0)) (broadcastInDim S6272x1024 ![] bcast_S_S6272x1024 (id (constantI S_ 32 1024#32)))) (constantI S_ 32 2147483647#32) reducesTo_S6272x1024_S6272_d1 h_S_

/-- Which code each row picks, as ones and zeros. -/
def picks : FVec Ideal S6272x1024 .f32 :=
  uitofp .f32 (cmpi .eq (broadcastInDim S6272x1024 ![0, 1] bcast_S1x1024_S6272x1024_0_1 (broadcastInDim S1x1024 ![1] bcast_S1024_S1x1024_1 (iotaInDim S1024 32 0))) (broadcastInDim S6272x1024 ![0, 1] bcast_S6272x1_S6272x1024_0_1 (broadcastInDim S6272x1 ![0] bcast_S6272_S6272x1_0 (index h e))))

/-- The picked codes, as a product. -/
def quantised : FVec Ideal S6272x256 .f32 :=
  Host.dotGeneral dot_S6272x1024_S1024x256_S6272x256_1_0_0_1_n_n none (picks h e) e

/-- The two numbers, in lanes 0 and 1. -/
def result : FVec Ideal S1x128 .f32 :=
  select (cmpi .eq (broadcastInDim S1x128 ![1] bcast_S128_S1x128_1 (iotaInDim S128 32 0)) (broadcastInDim S1x128 ![] bcast_S_S1x128 (constantI S_ 32 0#32))) (broadcastInDim S1x128 ![] bcast_S_S1x128 (mulf (constant S_ .f32 0x3E800000#32) (Host.divf (Host.reduceAdd (mulf (subf (quantised h e) h) (subf (quantised h e) h)) (constant S_ .f32 0x00000000#32) reducesTo_S6272x256_S_d0_1 h_S_) (constant S_ .f32 0x49C40000#32)))) (select (cmpi .eq (broadcastInDim S1x128 ![1] bcast_S128_S1x128_1 (iotaInDim S128 32 0)) (broadcastInDim S1x128 ![] bcast_S_S1x128 (constantI S_ 32 1#32))) (broadcastInDim S1x128 ![] bcast_S_S1x128 (Host.exp (Host.negf (Host.reduceAdd (mulf (Host.divf (Host.reduceAdd (picks h e) (constant S_ .f32 0x00000000#32) reducesTo_S6272x1024_S1024_d0 h_S_) (broadcastInDim S1024 ![] bcast_S_S1024 (constant S_ .f32 0x45C40000#32))) (Host.log (addf (Host.divf (Host.reduceAdd (picks h e) (constant S_ .f32 0x00000000#32) reducesTo_S6272x1024_S1024_d0 h_S_) (broadcastInDim S1024 ![] bcast_S_S1024 (constant S_ .f32 0x45C40000#32))) (broadcastInDim S1024 ![] bcast_S_S1024 (constant S_ .f32 0x3727C5AC#32))))) (constant S_ .f32 0x00000000#32) reducesTo_S1024_S_d0 h_S_)))) (broadcastInDim S1x128 ![] bcast_S_S1x128 (id (constant S_ .f32 0x00000000#32))))

/-! ## Read at an index -/

theorem dist_at (i : Fin 6272) (k : Fin 1024) :
    dist h e (ix2 i k) = (∑ x : Fin 256, h (ix2 i x) * h (ix2 i x)) + scores h e i k := by
  have : dist h e (ix2 i k) = (∑ x : Fin 256, h (ix2 i x) * h (ix2 i x)) + (∑ x : Fin 256, e (ix2 k x) * e (ix2 k x))
      - Ideal.ofBits FTy.f32 0x40000000#32 * ∑ x : Fin 256, h (ix2 i x) * e (ix2 k x) := by
    pointwise [dist]
  rw [this]
  unfold scores
  rw [sub_eq_add_neg, sub_eq_add_neg, add_assoc]

theorem index_found (i : Fin 6272) : index h e (ix1 i) = found fun k : Fin 1024 => dist h e (ix2 i k) := by
  unfold found
  rw [← VqTile.inf]
  pointwise [index]
  rfl

theorem bit (a b : BitVec 32) : (FloatOps.uitofp (F := Ideal) FTy.f32 (IntOp.cmpi CmpIPredicate.eq a b) : EReal) = if a = b then 1 else 0 := by
  by_cases h : a = b
  · rw [if_pos h]; subst h; simp [IntOp.cmpi, FloatOps.uitofp]
  · rw [if_neg h]; simp [IntOp.cmpi, FloatOps.uitofp, beq_eq_false_iff_ne.mpr h]

theorem picks_at (i : Fin 6272) (k : Fin 1024) : picks h e (ix2 i k) = if BitVec.ofNat 32 k.val = index h e (ix1 i) then 1 else 0 := by
  pointwise [picks, bit]

theorem quantised_at (i : Fin 6272) (x : Fin 256) : quantised h e (ix2 i x) = ∑ k : Fin 1024, picks h e (ix2 i k) * e (ix2 k x) := by
  pointwise [quantised]

theorem zero_word : (constant S_ .f32 0x00000000#32 : FVec Ideal S_ .f32) ix0 = 0 := by
  pointwise

/-- The mean's order: a factor before or after the division. -/
theorem mean (c s : EReal) : c * Ideal.div s (Ideal.ofBits FTy.f32 0x49C40000#32) = Ideal.div (c * s) (Ideal.ofBits FTy.f32 0x49C40000#32) := by
  have hD : Ideal.ofBits FTy.f32 0x49C40000#32 = ((1605632 : ℝ) : EReal) := by
    simp [Ideal.ofBits, Ideal.ieee]
    rw [← EReal.coe_mul]
    norm_num
  rw [hD, Ideal.div_coe (by norm_num), Ideal.div_coe (by norm_num), mul_assoc]

theorem result_at (l : Fin 128) : result h e (ix2 0 l) =
    Scalar.select (IntOp.cmpi CmpIPredicate.eq (BitVec.ofNat 32 l.val) 0#32)
      (Ideal.ofBits FTy.f32 0x3E800000#32 * Ideal.div (∑ i : Fin 6272, ∑ x : Fin 256, (quantised h e (ix2 i x) - h (ix2 i x)) * (quantised h e (ix2 i x) - h (ix2 i x))) (Ideal.ofBits FTy.f32 0x49C40000#32))
      (Scalar.select (IntOp.cmpi CmpIPredicate.eq (BitVec.ofNat 32 l.val) 1#32)
        (Ideal.exp (-∑ k : Fin 1024, VqTile.term (∑ i : Fin 6272, picks h e (ix2 i k)))) 0) := by
  unfold VqTile.term
  pointwise [result]
  exact congrArg (fun z : EReal => Scalar.select _ _ (Scalar.select _ _ z)) zero_word

/-! ## Where the rows are real -/

/-- Every element is a real number. -/
def Real : Prop := ∀ y, ∃ r : ℝ, h y = r

variable {h}

theorem square_real (H : Real h) (i : Fin 6272) : ∃ r : ℝ, ∑ x : Fin 256, h (ix2 i x) * h (ix2 i x) = r := by
  refine Finset.sum_induction _ (fun a : EReal => ∃ r : ℝ, a = r) ?_ ⟨0, rfl⟩ fun x _ => ?_
  · rintro _ _ ⟨r, rfl⟩ ⟨s, rfl⟩
    exact ⟨r + s, (EReal.coe_add r s).symm⟩
  · obtain ⟨r, hr⟩ := H (ix2 i x)
    exact ⟨r * r, by rw [hr, EReal.coe_mul]⟩

theorem index_at (H : Real h) (i : Fin 6272) : index h e (ix1 i) = BitVec.ofNat 32 (near h e i).val := by
  obtain ⟨r, hr⟩ := square_real H i
  rw [index_found, row]
  refine congrArg (fun k : Fin 1024 => BitVec.ofNat 32 k.val) (nearest_add (scores h e i) _ (r : EReal) (EReal.coe_ne_top r) (EReal.coe_ne_bot r) fun k => ?_)
  rw [dist_at, hr]

theorem picks_hit (H : Real h) (i : Fin 6272) (k : Fin 1024) : picks h e (ix2 i k) = hit h e i k := by
  rw [picks_at, index_at e H]
  rfl

theorem word_inj {k l : Fin 1024} (hw : BitVec.ofNat 32 k.val = BitVec.ofNat 32 l.val) : k = l := by
  have hk := k.isLt
  have hl := l.isLt
  have := congrArg BitVec.toNat hw
  simp only [BitVec.toNat_ofNat] at this
  exact Fin.ext (by omega)

theorem quantised_eq (H : Real h) (i : Fin 6272) (x : Fin 256) : quantised h e (ix2 i x) = e (ix2 (near h e i) x) := by
  rw [quantised_at, Finset.sum_eq_single (near h e i)]
  · rw [picks_hit e H, hit, if_pos rfl, one_mul]
  · intro k _ hk
    rw [picks_hit e H, hit, if_neg fun hw => hk (word_inj hw), zero_mul]
  · exact fun hh => absurd (Finset.mem_univ _) hh

/-- A real number taken off and put back. -/
theorem back (r : ℝ) (q : EReal) : (r : EReal) + (q - r) = q := by
  rw [sub_eq_add_neg, add_left_comm, ← EReal.coe_neg, ← EReal.coe_add, add_neg_cancel, EReal.coe_zero, add_zero]

theorem rows (H : Real h) : (addf h (subf (quantised h e) h) : FVec Ideal S6272x256 .f32) = codesOf h e := by
  funext y
  obtain ⟨r, hr⟩ := H y
  have hy : y = ix2 (y 0) (y 1) := by funext d; fin_cases d <;> rfl
  show h y + (quantised h e y - h y) = e (ix2 (near h e (y 0)) (y 1))
  rw [hr, back]
  exact (congrArg (quantised h e) hy).trans (quantised_eq e H (y 0) (y 1))

theorem result_numbers (H : Real h) (l : Fin 128) : result h e (ix2 0 l) = numbers h e l := by
  rw [result_at, mean]
  unfold numbers
  simp only [quantised_eq e H, picks_hit e H, err, zero_sub]
  rfl

end Cert.Proof.VqReference

end
-- ==== Proof.Vq.lean ====
/- The vector quantiser: the frame of its reference, and the kernel's two arrays against the reference's where the rows are finite. -/
module

public import proofs.«01_k».proof.Defs
public import proofs.«01_k».proof.Proof.Gen.Vq.Frame
public import proofs.«01_k».proof.Proof.Gen.VqIdeal.Frame
public import proofs.«01_k».proof.Proof.Gen.Pre_finite
public import proofs.«01_k».proof.Proof.VqReference
public import Idealize.ShloMosaic.Lib.Quiescent

@[expose] public section
noncomputable section
namespace Cert.Proof.Vq
open Idealize.ShloMosaic Idealize.ShloMosaic.TcCoe Idealize.SL.Sem
open Cert.Proof.VqKernel

theorem reference_frame : Cert.quiescent_VqRefIdeal (hVqRefIdeal := Cert.VqRefIdeal.Gen.facts) := by
  intro m g _
  exact (θ_run _ _ _).mono (fun r h => ⟨fun c => (h c).2.2, sem_eq_zero_of_no_sems (by decide) r.2⟩) (Cert.VqRefIdeal.Value.run m g)

theorem reference_frame_finite :
    Cert.quiescent_VqRefIdeal_pre_finite (hVqRefIdeal := Cert.VqRefIdeal.Gen.facts) (hPre_finite := Cert.Pre_finite.Gen.facts) :=
  fun m g _ => reference_frame m g trivial

/-- What the precondition says of an element. -/
theorem finite_at (x : EReal) (hx : IntOp.andi (FloatOps.cmpf (F := Ideal) (φ := .f32) CmpFPredicate.ogt x (Ideal.ofBits .f32 0xFF800000#32))
    (FloatOps.cmpf (F := Ideal) (φ := .f32) CmpFPredicate.olt x (Ideal.ofBits .f32 0x7F800000#32)) = 1#1) : ∃ r : ℝ, x = r := by
  induction x using EReal.rec with
  | coe r => exact ⟨r, rfl⟩
  | bot => simp [IntOp.andi, FloatOps.cmpf, Ideal.cmp, Ideal.ofBits, Ideal.ieee] at hx
  | top => simp [IntOp.andi, FloatOps.cmpf, Ideal.cmp, Ideal.ofBits, Ideal.ieee] at hx

theorem real_of_finite (h : FVec Ideal Cert.VqRefIdeal.S6272x256 .f32) (e : FVec Ideal Cert.VqRefIdeal.S1024x256 .f32)
    (hf : (letI := Cert.Pre_finite.Gen.facts; Cert.Pre_finite.fn (F := Ideal) h e) = fun _ => 1#1) : VqReference.Real h :=
  fun y => finite_at (h y) (congrFun hf y)

/-- Kernel and reference agree. -/
theorem algebraic :
    Cert.algebraic_VqIdeal_VqRefIdeal_pre_finite (hVqIdeal := Cert.VqIdeal.Gen.facts) (hVqRefIdeal := Cert.VqRefIdeal.Gen.facts)
      (hPre_finite := Cert.Pre_finite.Gen.facts) := by
  intro m g m' g' hpre hargs
  refine ⟨fun c => codesOf (hA m c) (eA m c), fun c => Cert.VqIdeal.Value.G4 m c, ?_, ?_⟩
  · exact (θ_run _ _ _).mono (fun r h c => ⟨(h c).1.trans (G3_eq m c), (h c).2⟩) (Cert.VqIdeal.Value.run m g)
  · refine (θ_run _ _ _).mono (fun r h c => ⟨(h c).1.trans ?_, (h c).2.1.trans ?_, (h c).2.2⟩) (Cert.VqRefIdeal.Value.run m' g')
    · obtain ⟨h0, h1⟩ := hargs c
      rw [h0, h1]
      exact VqReference.rows (eA m c) (real_of_finite _ _ (hpre c))
    · obtain ⟨h0, h1⟩ := hargs c
      have hv : Cert.VqRefIdeal.Value.res_main_v53 m' c = VqReference.result (hA m c) (eA m c) := by
        unfold Cert.VqRefIdeal.Value.res_main_v53
        rw [h0, h1]
        rfl
      rw [hv]
      funext y
      have hy : y = ix2 0 (y 1) := by
        funext d
        fin_cases d
        · exact Subsingleton.elim (α := Fin 1) _ _
        · rfl
      rw [hy]
      exact (VqReference.result_numbers (eA m c) (real_of_finite _ _ (hpre c)) (y 1)).trans (G4_eq m c (y 1)).symm

end Cert.Proof.Vq

end
-- ==== Proof.lean ====
/- The certificate: for each of the calls that are programs of their own, the frames of the kernel, of its ideal program and of
   the reference, and that the two compute the same array over the extended reals. The frames of the kernels are generated; the
   rest is proved in the module named after the call. -/
module

public import proofs.«01_k».proof.Defs
public import proofs.«01_k».proof.Proof.Res
public import proofs.«01_k».proof.Proof.Dec
public import proofs.«01_k».proof.Proof.Enc2
public import proofs.«01_k».proof.Proof.Tr1
public import proofs.«01_k».proof.Proof.Tr0
public import proofs.«01_k».proof.Proof.Enc1
public import proofs.«01_k».proof.Proof.Enc0
public import proofs.«01_k».proof.Proof.Vq

@[expose] public section

noncomputable section

namespace Cert.Proof

theorem claim : Cert.Claim :=
  ⟨Cert.Res.Gen.facts, Cert.ResIdeal.Gen.facts, Cert.ResRefIdeal.Gen.facts, Cert.Dec.Gen.facts, Cert.DecIdeal.Gen.facts, Cert.DecRefIdeal.Gen.facts, Cert.Enc2.Gen.facts, Cert.Enc2Ideal.Gen.facts, Cert.Enc2RefIdeal.Gen.facts, Cert.Tr1.Gen.facts, Cert.Tr1Ideal.Gen.facts, Cert.Tr1RefIdeal.Gen.facts, Cert.Tr0.Gen.facts, Cert.Tr0Ideal.Gen.facts, Cert.Tr0RefIdeal.Gen.facts, Cert.Enc1.Gen.facts, Cert.Enc1Ideal.Gen.facts, Cert.Enc1RefIdeal.Gen.facts, Cert.Enc0.Gen.facts, Cert.Enc0Ideal.Gen.facts, Cert.Enc0RefIdeal.Gen.facts, Cert.Vq.Gen.facts, Cert.VqIdeal.Gen.facts, Cert.VqRefIdeal.Gen.facts, Cert.Pre_finite.Gen.facts,
    fun m ρ _ => Cert.Res.Gen.frame m ρ, fun m ρ _ => Cert.ResIdeal.Gen.frame m ρ, Res.reference_frame,
    fun m ρ _ => Cert.Dec.Gen.frame m ρ, fun m ρ _ => Cert.DecIdeal.Gen.frame m ρ, Dec.reference_frame,
    fun m ρ _ => Cert.Enc2.Gen.frame m ρ, fun m ρ _ => Cert.Enc2Ideal.Gen.frame m ρ, Enc2.reference_frame,
    fun m ρ _ => Cert.Tr1.Gen.frame m ρ, fun m ρ _ => Cert.Tr1Ideal.Gen.frame m ρ, Tr1.reference_frame,
    fun m ρ _ => Cert.Tr0.Gen.frame m ρ, fun m ρ _ => Cert.Tr0Ideal.Gen.frame m ρ, Tr0.reference_frame,
    fun m ρ _ => Cert.Enc1.Gen.frame m ρ, fun m ρ _ => Cert.Enc1Ideal.Gen.frame m ρ, Enc1.reference_frame,
    fun m ρ _ => Cert.Enc0.Gen.frame m ρ, fun m ρ _ => Cert.Enc0Ideal.Gen.frame m ρ, Enc0.reference_frame,
    fun m ρ _ => Cert.Vq.Gen.frame m ρ, fun m ρ _ => Cert.VqIdeal.Gen.frame m ρ, fun m ρ _ => Cert.VqIdeal.Gen.frame m ρ,
    Vq.reference_frame, Vq.reference_frame_finite,
    trivial, Res.algebraic,
    trivial, Dec.algebraic,
    trivial, Enc2.algebraic,
    trivial, Tr1.algebraic,
    trivial, Tr0.algebraic,
    trivial, Enc1.algebraic,
    trivial, Enc0.algebraic,
    trivial, Vq.algebraic⟩

end Cert.Proof

end
